-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_0)) (v3 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_0) = v2 c
          ∧ r.2.mem ((c.tc : Thread Cert.KernelIdeal.nD Cert.KernelIdeal.τ).loc Cert.KernelIdeal.main_v25_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16x4096x1024 : Shape := ⟨3, ![16, 4096, 1024]⟩
abbrev S16x4096 : Shape := ⟨2, ![16, 4096]⟩
abbrev S16 : Shape := ⟨1, ![16]⟩
abbrev S1024 : Shape := ⟨1, ![1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x4096x1024 .f32) (main_arg1 : FVec F S16x4096 .f32) (main_arg2 : IVec S16 32) (main_arg3 : FVec F S1024 .f32) : IVec S_ 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 4096#32
  let main_v2 : IVec S16 32 := broadcastInDim S16 ![] bcast_S_S16 main_c_0
  let main_v3 : IVec S16 1 := cmpi .slt main_arg2 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x4096x1024 : Shape := ⟨3, ![16, 4096, 1024]⟩
abbrev S16x4096 : Shape := ⟨2, ![16, 4096]⟩
abbrev S16 : Shape := ⟨1, ![16]⟩
abbrev S1024 : Shape := ⟨1, ![1024]⟩
abbrev S1x1024 : Shape := ⟨2, ![1, 1024]⟩
abbrev S32 : Shape := ⟨1, ![32]⟩
abbrev S_ : Shape := ⟨0, ![]⟩
abbrev S256x16 : Shape := ⟨2, ![256, 16]⟩
abbrev S32x1 : Shape := ⟨2, ![32, 1]⟩
abbrev S32x2 : Shape := ⟨2, ![32, 2]⟩
abbrev S16x4097x1024 : Shape := ⟨3, ![16, 4097, 1024]⟩
abbrev S2x32x1024 : Shape := ⟨3, ![2, 32, 1024]⟩
abbrev S8x16 : Shape := ⟨2, ![8, 16]⟩
abbrev S2 : Shape := ⟨1, ![2]⟩
abbrev S1x16 : Shape := ⟨2, ![1, 16]⟩
abbrev S1 : Shape := ⟨1, ![1]⟩
abbrev S1x1x1024 : Shape := ⟨3, ![1, 1, 1024]⟩
abbrev S1x32x1024 : Shape := ⟨3, ![1, 32, 1024]⟩
abbrev S32x1024 : Shape := ⟨2, ![32, 1024]⟩
abbrev S16x4097 : Shape := ⟨2, ![16, 4097]⟩
abbrev S1x4096 : Shape := ⟨2, ![1, 4096]⟩
abbrev S1x1x4096 : Shape := ⟨3, ![1, 1, 4096]⟩
abbrev S1x1x1 : Shape := ⟨3, ![1, 1, 1]⟩
abbrev S1x1 : Shape := ⟨2, ![1, 1]⟩

abbrev nBuf : Table → Nat
  | .hbm => 55
  | .local .tc .vmem => 2
  | .local .tc .smem => 2
  | .local .scVector .vmem => 3
  | _ => 0

abbrev bufTy : (tb : Table) → Fin (nBuf tb) → BufTy
  | .hbm, ⟨0, _⟩ => ⟨S16x4096x1024, .f32⟩
  | .hbm, ⟨1, _⟩ => ⟨S16x4096, .f32⟩
  | .hbm, ⟨2, _⟩ => ⟨S16, .i32⟩
  | .hbm, ⟨3, _⟩ => ⟨S1024, .f32⟩
  | .hbm, ⟨4, _⟩ => ⟨S1x1024, .f32⟩
  | .hbm, ⟨5, _⟩ => ⟨S32, .i32⟩
  | .hbm, ⟨6, _⟩ => ⟨S_, .i32⟩
  | .hbm, ⟨7, _⟩ => ⟨S256x16, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S32x1, .i32⟩
  | .hbm, ⟨49, _⟩ => ⟨S32x1, .i32⟩
  | .hbm, ⟨50, _⟩ => ⟨S32x2, .i32⟩
  | .hbm, ⟨51, _⟩ => ⟨S256x16, .i32⟩
  | .hbm, ⟨52, _⟩ => ⟨S16x4097x1024, .f32⟩
  | .hbm, ⟨53, _⟩ => ⟨S16x4097, .f32⟩
  | .hbm, ⟨54, _⟩ => ⟨S16, .i32⟩
  | .local .tc .vmem, ⟨0, _⟩ => ⟨S16x4096, .f32⟩
  | .local .tc .vmem, ⟨1, _⟩ => ⟨S16x4097, .f32⟩
  | .local .tc .smem, ⟨0, _⟩ => ⟨S16, .i32⟩
  | .local .tc .smem, ⟨1, _⟩ => ⟨S16, .i32⟩
  | .local .scVector .vmem, ⟨0, _⟩ => ⟨S2x32x1024, .f32⟩
  | .local .scVector .vmem, ⟨1, _⟩ => ⟨S1x1024, .f32⟩
  | .local .scVector .vmem, ⟨2, _⟩ => ⟨S8x16, .i32⟩
  | _, _ => ⟨S16x4096x1024, .f32⟩

abbrev bufScoped : (cs : CoreSpace) → Fin (nBuf (.local .tc cs)) → Bool
  | .vmem, ⟨0, _⟩ => true
  | .vmem, ⟨1, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 75 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => true
  | ⟨72, _⟩ => true
  | ⟨73, _⟩ => true
  | ⟨74, _⟩ => true
  | _ => false

abbrev sig : RefSig :=
  ofTables nBuf rfl bufTy 4 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_c_2 : Ref sig .tc := ⟨.hbm, 29, rfl⟩
abbrev main_v6 : Ref sig .tc := ⟨.hbm, 30, rfl⟩
abbrev main_v7 : Ref sig .tc := ⟨.hbm, 31, rfl⟩
abbrev main_c_3 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_c_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_arg0_scv : Ref sig .scVector := ⟨.hbm, 0, rfl⟩
abbrev main_v0_scv : Ref sig .scVector := ⟨.hbm, 4, rfl⟩
abbrev main_v23_scv : Ref sig .scVector := ⟨.hbm, 51, rfl⟩
abbrev main_v24_scv : Ref sig .scVector := ⟨.hbm, 52, rfl⟩
abbrev cc1_stg1_0 : Ref sig .tc := ⟨.vmem, 0, rfl⟩
abbrev cc1_stg2_0 : Ref sig .tc := ⟨.vmem, 1, rfl⟩
abbrev cc1_stg0_0 : Ref sig .tc := ⟨.smem, 0, rfl⟩
abbrev cc1_stg3_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 71
abbrev cc1_sem1_0 : DmaSem sig := 72
abbrev cc1_sem2_0 : DmaSem sig := 73
abbrev cc1_sem3_0 : DmaSem sig := 74
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v30 : BitVec 32 := Scalar.muli v1 c8_i32
  v30
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v30 : BitVec 32 := Scalar.muli v1 c8_i32
  let v31 : BitVec 32 := v30
  let c0_i32_2209_r0 : BitVec 32 := 0#32
  ![v31.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1_i32_25 : BitVec 32 := 1#32
  let v69 : BitVec 1 := Scalar.cmpi .eq v28 c1_i32_25
  let v70 : BitVec 32 := Scalar.extui v69
  let c0_i32_26 : BitVec 32 := 0#32
  let v71 : BitVec 1 := Scalar.cmpi .ne v70 c0_i32_26
  v71

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_2209 : BitVec 32 := 0#32
  let c0_i32_2210 : BitVec 32 := 0#32
  ![v18.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let c0_i32_2217 : BitVec 32 := 0#32
  ![v18.toNat, 4096, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  v29
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v72 : BitVec 32 := v29
  let c0_i32_31 : BitVec 32 := 0#32
  ![v18.toNat, v72.toNat, 0]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c32_i32_35 : BitVec 32 := 32#32
  let v83 : BitVec 32 := Scalar.addi v29 c32_i32_35
  v83
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c32_i32_35 : BitVec 32 := 32#32
  let v83 : BitVec 32 := Scalar.addi v29 c32_i32_35
  let v84 : BitVec 32 := v83
  let c0_i32_40 : BitVec 32 := 0#32
  ![v18.toNat, v84.toNat, 0]
def k0_off6 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r1 : BitVec 32 := 0#32
  ![0, v68.toNat, 0]
def k0_cond2 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c0_i32_52 : BitVec 32 := 0#32
  let v105 : BitVec 1 := Scalar.cmpi .eq v58 c0_i32_52
  let v106 : BitVec 1 := Scalar.andi v40 v105
  let v107 : BitVec 32 := Scalar.extui v106
  let c0_i32_53 : BitVec 32 := 0#32
  let v108 : BitVec 1 := Scalar.cmpi .ne v107 c0_i32_53
  v108

def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_54 : BitVec 32 := 0#32
  let v109 : BitVec 32 := Scalar.addi v29 c0_i32_54
  v109
def k0_off7 (i : grid0.Coords) (c0_i32_54 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v109 : BitVec 32 := Scalar.addi v29 c0_i32_54
  let v110 : BitVec 32 := v109
  let c0_i32_59 : BitVec 32 := 0#32
  ![v18.toNat, v110.toNat, 0]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c64_i32 : BitVec 32 := 64#32
  let v131 : BitVec 32 := Scalar.addi v29 c64_i32
  v131
def k0_off8 (i : grid0.Coords) (c64_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v131 : BitVec 32 := Scalar.addi v29 c64_i32
  let v132 : BitVec 32 := v131
  let c0_i32_75 : BitVec 32 := 0#32
  ![v18.toNat, v132.toNat, 0]
def k0_off9 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r2 : BitVec 32 := 0#32
  ![1, v68.toNat, 0]
def k0_cond3 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c1_i32_87 : BitVec 32 := 1#32
  let v153 : BitVec 1 := Scalar.cmpi .eq v58 c1_i32_87
  let v154 : BitVec 1 := Scalar.andi v40 v153
  let v155 : BitVec 32 := Scalar.extui v154
  let c0_i32_88 : BitVec 32 := 0#32
  let v156 : BitVec 1 := Scalar.cmpi .ne v155 c0_i32_88
  v156

def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c32_i32_89 : BitVec 32 := 32#32
  let v157 : BitVec 32 := Scalar.addi v29 c32_i32_89
  v157
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c96_i32 : BitVec 32 := 96#32
  let v179 : BitVec 32 := Scalar.addi v29 c96_i32
  v179
def k0_off10 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r3 : BitVec 32 := 0#32
  ![0, v68.toNat, 0]
def k0_cond4 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c2_i32_122 : BitVec 32 := 2#32
  let v201 : BitVec 1 := Scalar.cmpi .eq v58 c2_i32_122
  let v202 : BitVec 1 := Scalar.andi v40 v201
  let v203 : BitVec 32 := Scalar.extui v202
  let c0_i32_123 : BitVec 32 := 0#32
  let v204 : BitVec 1 := Scalar.cmpi .ne v203 c0_i32_123
  v204

def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c64_i32_124 : BitVec 32 := 64#32
  let v205 : BitVec 32 := Scalar.addi v29 c64_i32_124
  v205
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c128_i32 : BitVec 32 := 128#32
  let v227 : BitVec 32 := Scalar.addi v29 c128_i32
  v227
def k0_off11 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r4 : BitVec 32 := 0#32
  ![1, v68.toNat, 0]
def k0_cond5 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c3_i32 : BitVec 32 := 3#32
  let v249 : BitVec 1 := Scalar.cmpi .eq v58 c3_i32
  let v250 : BitVec 1 := Scalar.andi v40 v249
  let v251 : BitVec 32 := Scalar.extui v250
  let c0_i32_157 : BitVec 32 := 0#32
  let v252 : BitVec 1 := Scalar.cmpi .ne v251 c0_i32_157
  v252

def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c96_i32_158 : BitVec 32 := 96#32
  let v253 : BitVec 32 := Scalar.addi v29 c96_i32_158
  v253
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c160_i32 : BitVec 32 := 160#32
  let v275 : BitVec 32 := Scalar.addi v29 c160_i32
  v275
def k0_off12 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r5 : BitVec 32 := 0#32
  ![0, v68.toNat, 0]
def k0_cond6 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c4_i32 : BitVec 32 := 4#32
  let v297 : BitVec 1 := Scalar.cmpi .eq v58 c4_i32
  let v298 : BitVec 1 := Scalar.andi v40 v297
  let v299 : BitVec 32 := Scalar.extui v298
  let c0_i32_191 : BitVec 32 := 0#32
  let v300 : BitVec 1 := Scalar.cmpi .ne v299 c0_i32_191
  v300

def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c128_i32_192 : BitVec 32 := 128#32
  let v301 : BitVec 32 := Scalar.addi v29 c128_i32_192
  v301
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c192_i32 : BitVec 32 := 192#32
  let v323 : BitVec 32 := Scalar.addi v29 c192_i32
  v323
def k0_off13 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r6 : BitVec 32 := 0#32
  ![1, v68.toNat, 0]
def k0_cond7 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c5_i32 : BitVec 32 := 5#32
  let v345 : BitVec 1 := Scalar.cmpi .eq v58 c5_i32
  let v346 : BitVec 1 := Scalar.andi v40 v345
  let v347 : BitVec 32 := Scalar.extui v346
  let c0_i32_225 : BitVec 32 := 0#32
  let v348 : BitVec 1 := Scalar.cmpi .ne v347 c0_i32_225
  v348

def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c160_i32_226 : BitVec 32 := 160#32
  let v349 : BitVec 32 := Scalar.addi v29 c160_i32_226
  v349
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c224_i32 : BitVec 32 := 224#32
  let v371 : BitVec 32 := Scalar.addi v29 c224_i32
  v371
def k0_off14 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r7 : BitVec 32 := 0#32
  ![0, v68.toNat, 0]
def k0_cond8 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c6_i32 : BitVec 32 := 6#32
  let v393 : BitVec 1 := Scalar.cmpi .eq v58 c6_i32
  let v394 : BitVec 1 := Scalar.andi v40 v393
  let v395 : BitVec 32 := Scalar.extui v394
  let c0_i32_259 : BitVec 32 := 0#32
  let v396 : BitVec 1 := Scalar.cmpi .ne v395 c0_i32_259
  v396

def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c192_i32_260 : BitVec 32 := 192#32
  let v397 : BitVec 32 := Scalar.addi v29 c192_i32_260
  v397
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c256_i32 : BitVec 32 := 256#32
  let v419 : BitVec 32 := Scalar.addi v29 c256_i32
  v419
def k0_off15 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r8 : BitVec 32 := 0#32
  ![1, v68.toNat, 0]
def k0_cond9 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c7_i32 : BitVec 32 := 7#32
  let v441 : BitVec 1 := Scalar.cmpi .eq v58 c7_i32
  let v442 : BitVec 1 := Scalar.andi v40 v441
  let v443 : BitVec 32 := Scalar.extui v442
  let c0_i32_293 : BitVec 32 := 0#32
  let v444 : BitVec 1 := Scalar.cmpi .ne v443 c0_i32_293
  v444

def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c224_i32_294 : BitVec 32 := 224#32
  let v445 : BitVec 32 := Scalar.addi v29 c224_i32_294
  v445
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c288_i32 : BitVec 32 := 288#32
  let v467 : BitVec 32 := Scalar.addi v29 c288_i32
  v467
def k0_off16 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r9 : BitVec 32 := 0#32
  ![0, v68.toNat, 0]
def k0_cond10 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c8_i32_327 : BitVec 32 := 8#32
  let v489 : BitVec 1 := Scalar.cmpi .eq v58 c8_i32_327
  let v490 : BitVec 1 := Scalar.andi v40 v489
  let v491 : BitVec 32 := Scalar.extui v490
  let c0_i32_328 : BitVec 32 := 0#32
  let v492 : BitVec 1 := Scalar.cmpi .ne v491 c0_i32_328
  v492

def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c256_i32_329 : BitVec 32 := 256#32
  let v493 : BitVec 32 := Scalar.addi v29 c256_i32_329
  v493
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c320_i32 : BitVec 32 := 320#32
  let v515 : BitVec 32 := Scalar.addi v29 c320_i32
  v515
def k0_off17 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r10 : BitVec 32 := 0#32
  ![1, v68.toNat, 0]
def k0_cond11 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c9_i32 : BitVec 32 := 9#32
  let v537 : BitVec 1 := Scalar.cmpi .eq v58 c9_i32
  let v538 : BitVec 1 := Scalar.andi v40 v537
  let v539 : BitVec 32 := Scalar.extui v538
  let c0_i32_362 : BitVec 32 := 0#32
  let v540 : BitVec 1 := Scalar.cmpi .ne v539 c0_i32_362
  v540

def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c288_i32_363 : BitVec 32 := 288#32
  let v541 : BitVec 32 := Scalar.addi v29 c288_i32_363
  v541
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c352_i32 : BitVec 32 := 352#32
  let v563 : BitVec 32 := Scalar.addi v29 c352_i32
  v563
def k0_off18 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r11 : BitVec 32 := 0#32
  ![0, v68.toNat, 0]
def k0_cond12 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c10_i32 : BitVec 32 := 10#32
  let v585 : BitVec 1 := Scalar.cmpi .eq v58 c10_i32
  let v586 : BitVec 1 := Scalar.andi v40 v585
  let v587 : BitVec 32 := Scalar.extui v586
  let c0_i32_396 : BitVec 32 := 0#32
  let v588 : BitVec 1 := Scalar.cmpi .ne v587 c0_i32_396
  v588

def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c320_i32_397 : BitVec 32 := 320#32
  let v589 : BitVec 32 := Scalar.addi v29 c320_i32_397
  v589
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c384_i32 : BitVec 32 := 384#32
  let v611 : BitVec 32 := Scalar.addi v29 c384_i32
  v611
def k0_off19 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r12 : BitVec 32 := 0#32
  ![1, v68.toNat, 0]
def k0_cond13 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c11_i32 : BitVec 32 := 11#32
  let v633 : BitVec 1 := Scalar.cmpi .eq v58 c11_i32
  let v634 : BitVec 1 := Scalar.andi v40 v633
  let v635 : BitVec 32 := Scalar.extui v634
  let c0_i32_430 : BitVec 32 := 0#32
  let v636 : BitVec 1 := Scalar.cmpi .ne v635 c0_i32_430
  v636

def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c352_i32_431 : BitVec 32 := 352#32
  let v637 : BitVec 32 := Scalar.addi v29 c352_i32_431
  v637
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c416_i32 : BitVec 32 := 416#32
  let v659 : BitVec 32 := Scalar.addi v29 c416_i32
  v659
def k0_off20 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r13 : BitVec 32 := 0#32
  ![0, v68.toNat, 0]
def k0_cond14 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c12_i32 : BitVec 32 := 12#32
  let v681 : BitVec 1 := Scalar.cmpi .eq v58 c12_i32
  let v682 : BitVec 1 := Scalar.andi v40 v681
  let v683 : BitVec 32 := Scalar.extui v682
  let c0_i32_464 : BitVec 32 := 0#32
  let v684 : BitVec 1 := Scalar.cmpi .ne v683 c0_i32_464
  v684

def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c384_i32_465 : BitVec 32 := 384#32
  let v685 : BitVec 32 := Scalar.addi v29 c384_i32_465
  v685
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c448_i32 : BitVec 32 := 448#32
  let v707 : BitVec 32 := Scalar.addi v29 c448_i32
  v707
def k0_off21 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r14 : BitVec 32 := 0#32
  ![1, v68.toNat, 0]
def k0_cond15 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c13_i32 : BitVec 32 := 13#32
  let v729 : BitVec 1 := Scalar.cmpi .eq v58 c13_i32
  let v730 : BitVec 1 := Scalar.andi v40 v729
  let v731 : BitVec 32 := Scalar.extui v730
  let c0_i32_498 : BitVec 32 := 0#32
  let v732 : BitVec 1 := Scalar.cmpi .ne v731 c0_i32_498
  v732

def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c416_i32_499 : BitVec 32 := 416#32
  let v733 : BitVec 32 := Scalar.addi v29 c416_i32_499
  v733
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c480_i32 : BitVec 32 := 480#32
  let v755 : BitVec 32 := Scalar.addi v29 c480_i32
  v755
def k0_off22 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r15 : BitVec 32 := 0#32
  ![0, v68.toNat, 0]
def k0_cond16 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c14_i32 : BitVec 32 := 14#32
  let v777 : BitVec 1 := Scalar.cmpi .eq v58 c14_i32
  let v778 : BitVec 1 := Scalar.andi v40 v777
  let v779 : BitVec 32 := Scalar.extui v778
  let c0_i32_532 : BitVec 32 := 0#32
  let v780 : BitVec 1 := Scalar.cmpi .ne v779 c0_i32_532
  v780

def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c448_i32_533 : BitVec 32 := 448#32
  let v781 : BitVec 32 := Scalar.addi v29 c448_i32_533
  v781
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c512_i32 : BitVec 32 := 512#32
  let v803 : BitVec 32 := Scalar.addi v29 c512_i32
  v803
def k0_off23 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r16 : BitVec 32 := 0#32
  ![1, v68.toNat, 0]
def k0_cond17 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c15_i32 : BitVec 32 := 15#32
  let v825 : BitVec 1 := Scalar.cmpi .eq v58 c15_i32
  let v826 : BitVec 1 := Scalar.andi v40 v825
  let v827 : BitVec 32 := Scalar.extui v826
  let c0_i32_566 : BitVec 32 := 0#32
  let v828 : BitVec 1 := Scalar.cmpi .ne v827 c0_i32_566
  v828

def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c480_i32_567 : BitVec 32 := 480#32
  let v829 : BitVec 32 := Scalar.addi v29 c480_i32_567
  v829
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c544_i32 : BitVec 32 := 544#32
  let v851 : BitVec 32 := Scalar.addi v29 c544_i32
  v851
def k0_off24 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r17 : BitVec 32 := 0#32
  ![0, v68.toNat, 0]
def k0_cond18 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c16_i32 : BitVec 32 := 16#32
  let v873 : BitVec 1 := Scalar.cmpi .eq v58 c16_i32
  let v874 : BitVec 1 := Scalar.andi v40 v873
  let v875 : BitVec 32 := Scalar.extui v874
  let c0_i32_600 : BitVec 32 := 0#32
  let v876 : BitVec 1 := Scalar.cmpi .ne v875 c0_i32_600
  v876

def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c512_i32_601 : BitVec 32 := 512#32
  let v877 : BitVec 32 := Scalar.addi v29 c512_i32_601
  v877
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c576_i32 : BitVec 32 := 576#32
  let v899 : BitVec 32 := Scalar.addi v29 c576_i32
  v899
def k0_off25 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r18 : BitVec 32 := 0#32
  ![1, v68.toNat, 0]
def k0_cond19 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c17_i32 : BitVec 32 := 17#32
  let v921 : BitVec 1 := Scalar.cmpi .eq v58 c17_i32
  let v922 : BitVec 1 := Scalar.andi v40 v921
  let v923 : BitVec 32 := Scalar.extui v922
  let c0_i32_634 : BitVec 32 := 0#32
  let v924 : BitVec 1 := Scalar.cmpi .ne v923 c0_i32_634
  v924

def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c544_i32_635 : BitVec 32 := 544#32
  let v925 : BitVec 32 := Scalar.addi v29 c544_i32_635
  v925
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c608_i32 : BitVec 32 := 608#32
  let v947 : BitVec 32 := Scalar.addi v29 c608_i32
  v947
def k0_off26 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r19 : BitVec 32 := 0#32
  ![0, v68.toNat, 0]
def k0_cond20 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c18_i32 : BitVec 32 := 18#32
  let v969 : BitVec 1 := Scalar.cmpi .eq v58 c18_i32
  let v970 : BitVec 1 := Scalar.andi v40 v969
  let v971 : BitVec 32 := Scalar.extui v970
  let c0_i32_668 : BitVec 32 := 0#32
  let v972 : BitVec 1 := Scalar.cmpi .ne v971 c0_i32_668
  v972

def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c576_i32_669 : BitVec 32 := 576#32
  let v973 : BitVec 32 := Scalar.addi v29 c576_i32_669
  v973
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c640_i32 : BitVec 32 := 640#32
  let v995 : BitVec 32 := Scalar.addi v29 c640_i32
  v995
def k0_off27 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r20 : BitVec 32 := 0#32
  ![1, v68.toNat, 0]
def k0_cond21 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c19_i32 : BitVec 32 := 19#32
  let v1017 : BitVec 1 := Scalar.cmpi .eq v58 c19_i32
  let v1018 : BitVec 1 := Scalar.andi v40 v1017
  let v1019 : BitVec 32 := Scalar.extui v1018
  let c0_i32_702 : BitVec 32 := 0#32
  let v1020 : BitVec 1 := Scalar.cmpi .ne v1019 c0_i32_702
  v1020

def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c608_i32_703 : BitVec 32 := 608#32
  let v1021 : BitVec 32 := Scalar.addi v29 c608_i32_703
  v1021
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c672_i32 : BitVec 32 := 672#32
  let v1043 : BitVec 32 := Scalar.addi v29 c672_i32
  v1043
def k0_off28 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r21 : BitVec 32 := 0#32
  ![0, v68.toNat, 0]
def k0_cond22 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c20_i32 : BitVec 32 := 20#32
  let v1065 : BitVec 1 := Scalar.cmpi .eq v58 c20_i32
  let v1066 : BitVec 1 := Scalar.andi v40 v1065
  let v1067 : BitVec 32 := Scalar.extui v1066
  let c0_i32_736 : BitVec 32 := 0#32
  let v1068 : BitVec 1 := Scalar.cmpi .ne v1067 c0_i32_736
  v1068

def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c640_i32_737 : BitVec 32 := 640#32
  let v1069 : BitVec 32 := Scalar.addi v29 c640_i32_737
  v1069
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c704_i32 : BitVec 32 := 704#32
  let v1091 : BitVec 32 := Scalar.addi v29 c704_i32
  v1091
def k0_off29 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r22 : BitVec 32 := 0#32
  ![1, v68.toNat, 0]
def k0_cond23 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c21_i32 : BitVec 32 := 21#32
  let v1113 : BitVec 1 := Scalar.cmpi .eq v58 c21_i32
  let v1114 : BitVec 1 := Scalar.andi v40 v1113
  let v1115 : BitVec 32 := Scalar.extui v1114
  let c0_i32_770 : BitVec 32 := 0#32
  let v1116 : BitVec 1 := Scalar.cmpi .ne v1115 c0_i32_770
  v1116

def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c672_i32_771 : BitVec 32 := 672#32
  let v1117 : BitVec 32 := Scalar.addi v29 c672_i32_771
  v1117
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c736_i32 : BitVec 32 := 736#32
  let v1139 : BitVec 32 := Scalar.addi v29 c736_i32
  v1139
def k0_off30 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r23 : BitVec 32 := 0#32
  ![0, v68.toNat, 0]
def k0_cond24 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c22_i32 : BitVec 32 := 22#32
  let v1161 : BitVec 1 := Scalar.cmpi .eq v58 c22_i32
  let v1162 : BitVec 1 := Scalar.andi v40 v1161
  let v1163 : BitVec 32 := Scalar.extui v1162
  let c0_i32_804 : BitVec 32 := 0#32
  let v1164 : BitVec 1 := Scalar.cmpi .ne v1163 c0_i32_804
  v1164

def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c704_i32_805 : BitVec 32 := 704#32
  let v1165 : BitVec 32 := Scalar.addi v29 c704_i32_805
  v1165
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c768_i32 : BitVec 32 := 768#32
  let v1187 : BitVec 32 := Scalar.addi v29 c768_i32
  v1187
def k0_off31 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r24 : BitVec 32 := 0#32
  ![1, v68.toNat, 0]
def k0_cond25 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c23_i32 : BitVec 32 := 23#32
  let v1209 : BitVec 1 := Scalar.cmpi .eq v58 c23_i32
  let v1210 : BitVec 1 := Scalar.andi v40 v1209
  let v1211 : BitVec 32 := Scalar.extui v1210
  let c0_i32_838 : BitVec 32 := 0#32
  let v1212 : BitVec 1 := Scalar.cmpi .ne v1211 c0_i32_838
  v1212

def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c736_i32_839 : BitVec 32 := 736#32
  let v1213 : BitVec 32 := Scalar.addi v29 c736_i32_839
  v1213
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c800_i32 : BitVec 32 := 800#32
  let v1235 : BitVec 32 := Scalar.addi v29 c800_i32
  v1235
def k0_off32 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r25 : BitVec 32 := 0#32
  ![0, v68.toNat, 0]
def k0_cond26 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c24_i32 : BitVec 32 := 24#32
  let v1257 : BitVec 1 := Scalar.cmpi .eq v58 c24_i32
  let v1258 : BitVec 1 := Scalar.andi v40 v1257
  let v1259 : BitVec 32 := Scalar.extui v1258
  let c0_i32_872 : BitVec 32 := 0#32
  let v1260 : BitVec 1 := Scalar.cmpi .ne v1259 c0_i32_872
  v1260

def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c768_i32_873 : BitVec 32 := 768#32
  let v1261 : BitVec 32 := Scalar.addi v29 c768_i32_873
  v1261
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c832_i32 : BitVec 32 := 832#32
  let v1283 : BitVec 32 := Scalar.addi v29 c832_i32
  v1283
def k0_off33 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r26 : BitVec 32 := 0#32
  ![1, v68.toNat, 0]
def k0_cond27 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c25_i32 : BitVec 32 := 25#32
  let v1305 : BitVec 1 := Scalar.cmpi .eq v58 c25_i32
  let v1306 : BitVec 1 := Scalar.andi v40 v1305
  let v1307 : BitVec 32 := Scalar.extui v1306
  let c0_i32_906 : BitVec 32 := 0#32
  let v1308 : BitVec 1 := Scalar.cmpi .ne v1307 c0_i32_906
  v1308

def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c800_i32_907 : BitVec 32 := 800#32
  let v1309 : BitVec 32 := Scalar.addi v29 c800_i32_907
  v1309
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c864_i32 : BitVec 32 := 864#32
  let v1331 : BitVec 32 := Scalar.addi v29 c864_i32
  v1331
def k0_off34 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r27 : BitVec 32 := 0#32
  ![0, v68.toNat, 0]
def k0_cond28 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c26_i32 : BitVec 32 := 26#32
  let v1353 : BitVec 1 := Scalar.cmpi .eq v58 c26_i32
  let v1354 : BitVec 1 := Scalar.andi v40 v1353
  let v1355 : BitVec 32 := Scalar.extui v1354
  let c0_i32_940 : BitVec 32 := 0#32
  let v1356 : BitVec 1 := Scalar.cmpi .ne v1355 c0_i32_940
  v1356

def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c832_i32_941 : BitVec 32 := 832#32
  let v1357 : BitVec 32 := Scalar.addi v29 c832_i32_941
  v1357
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c896_i32 : BitVec 32 := 896#32
  let v1379 : BitVec 32 := Scalar.addi v29 c896_i32
  v1379
def k0_off35 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r28 : BitVec 32 := 0#32
  ![1, v68.toNat, 0]
def k0_cond29 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c27_i32 : BitVec 32 := 27#32
  let v1401 : BitVec 1 := Scalar.cmpi .eq v58 c27_i32
  let v1402 : BitVec 1 := Scalar.andi v40 v1401
  let v1403 : BitVec 32 := Scalar.extui v1402
  let c0_i32_974 : BitVec 32 := 0#32
  let v1404 : BitVec 1 := Scalar.cmpi .ne v1403 c0_i32_974
  v1404

def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c864_i32_975 : BitVec 32 := 864#32
  let v1405 : BitVec 32 := Scalar.addi v29 c864_i32_975
  v1405
def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c928_i32 : BitVec 32 := 928#32
  let v1427 : BitVec 32 := Scalar.addi v29 c928_i32
  v1427
def k0_off36 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r29 : BitVec 32 := 0#32
  ![0, v68.toNat, 0]
def k0_cond30 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c28_i32 : BitVec 32 := 28#32
  let v1449 : BitVec 1 := Scalar.cmpi .eq v58 c28_i32
  let v1450 : BitVec 1 := Scalar.andi v40 v1449
  let v1451 : BitVec 32 := Scalar.extui v1450
  let c0_i32_1008 : BitVec 32 := 0#32
  let v1452 : BitVec 1 := Scalar.cmpi .ne v1451 c0_i32_1008
  v1452

def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c896_i32_1009 : BitVec 32 := 896#32
  let v1453 : BitVec 32 := Scalar.addi v29 c896_i32_1009
  v1453
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c960_i32 : BitVec 32 := 960#32
  let v1475 : BitVec 32 := Scalar.addi v29 c960_i32
  v1475
def k0_off37 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r30 : BitVec 32 := 0#32
  ![1, v68.toNat, 0]
def k0_cond31 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c29_i32 : BitVec 32 := 29#32
  let v1497 : BitVec 1 := Scalar.cmpi .eq v58 c29_i32
  let v1498 : BitVec 1 := Scalar.andi v40 v1497
  let v1499 : BitVec 32 := Scalar.extui v1498
  let c0_i32_1042 : BitVec 32 := 0#32
  let v1500 : BitVec 1 := Scalar.cmpi .ne v1499 c0_i32_1042
  v1500

def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c928_i32_1043 : BitVec 32 := 928#32
  let v1501 : BitVec 32 := Scalar.addi v29 c928_i32_1043
  v1501
def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c992_i32 : BitVec 32 := 992#32
  let v1523 : BitVec 32 := Scalar.addi v29 c992_i32
  v1523
def k0_off38 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r31 : BitVec 32 := 0#32
  ![0, v68.toNat, 0]
def k0_cond32 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c30_i32 : BitVec 32 := 30#32
  let v1545 : BitVec 1 := Scalar.cmpi .eq v58 c30_i32
  let v1546 : BitVec 1 := Scalar.andi v40 v1545
  let v1547 : BitVec 32 := Scalar.extui v1546
  let c0_i32_1076 : BitVec 32 := 0#32
  let v1548 : BitVec 1 := Scalar.cmpi .ne v1547 c0_i32_1076
  v1548

def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c960_i32_1077 : BitVec 32 := 960#32
  let v1549 : BitVec 32 := Scalar.addi v29 c960_i32_1077
  v1549
def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1024_i32 : BitVec 32 := 1024#32
  let v1571 : BitVec 32 := Scalar.addi v29 c1024_i32
  v1571
def k0_off39 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r32 : BitVec 32 := 0#32
  ![1, v68.toNat, 0]
def k0_cond33 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c31_i32 : BitVec 32 := 31#32
  let v1593 : BitVec 1 := Scalar.cmpi .eq v58 c31_i32
  let v1594 : BitVec 1 := Scalar.andi v40 v1593
  let v1595 : BitVec 32 := Scalar.extui v1594
  let c0_i32_1110 : BitVec 32 := 0#32
  let v1596 : BitVec 1 := Scalar.cmpi .ne v1595 c0_i32_1110
  v1596

def k0_mult66 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c992_i32_1111 : BitVec 32 := 992#32
  let v1597 : BitVec 32 := Scalar.addi v29 c992_i32_1111
  v1597
def k0_mult67 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1056_i32 : BitVec 32 := 1056#32
  let v1619 : BitVec 32 := Scalar.addi v29 c1056_i32
  v1619
def k0_off40 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r33 : BitVec 32 := 0#32
  ![0, v68.toNat, 0]
def k0_cond34 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c32_i32_1144 : BitVec 32 := 32#32
  let v1641 : BitVec 1 := Scalar.cmpi .eq v58 c32_i32_1144
  let v1642 : BitVec 1 := Scalar.andi v40 v1641
  let v1643 : BitVec 32 := Scalar.extui v1642
  let c0_i32_1145 : BitVec 32 := 0#32
  let v1644 : BitVec 1 := Scalar.cmpi .ne v1643 c0_i32_1145
  v1644

def k0_mult68 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1024_i32_1146 : BitVec 32 := 1024#32
  let v1645 : BitVec 32 := Scalar.addi v29 c1024_i32_1146
  v1645
def k0_mult69 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1088_i32 : BitVec 32 := 1088#32
  let v1667 : BitVec 32 := Scalar.addi v29 c1088_i32
  v1667
def k0_off41 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r34 : BitVec 32 := 0#32
  ![1, v68.toNat, 0]
def k0_cond35 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c33_i32 : BitVec 32 := 33#32
  let v1689 : BitVec 1 := Scalar.cmpi .eq v58 c33_i32
  let v1690 : BitVec 1 := Scalar.andi v40 v1689
  let v1691 : BitVec 32 := Scalar.extui v1690
  let c0_i32_1179 : BitVec 32 := 0#32
  let v1692 : BitVec 1 := Scalar.cmpi .ne v1691 c0_i32_1179
  v1692

def k0_mult70 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1056_i32_1180 : BitVec 32 := 1056#32
  let v1693 : BitVec 32 := Scalar.addi v29 c1056_i32_1180
  v1693
def k0_mult71 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1120_i32 : BitVec 32 := 1120#32
  let v1715 : BitVec 32 := Scalar.addi v29 c1120_i32
  v1715
def k0_off42 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r35 : BitVec 32 := 0#32
  ![0, v68.toNat, 0]
def k0_cond36 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c34_i32 : BitVec 32 := 34#32
  let v1737 : BitVec 1 := Scalar.cmpi .eq v58 c34_i32
  let v1738 : BitVec 1 := Scalar.andi v40 v1737
  let v1739 : BitVec 32 := Scalar.extui v1738
  let c0_i32_1213 : BitVec 32 := 0#32
  let v1740 : BitVec 1 := Scalar.cmpi .ne v1739 c0_i32_1213
  v1740

def k0_mult72 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1088_i32_1214 : BitVec 32 := 1088#32
  let v1741 : BitVec 32 := Scalar.addi v29 c1088_i32_1214
  v1741
def k0_mult73 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1152_i32 : BitVec 32 := 1152#32
  let v1763 : BitVec 32 := Scalar.addi v29 c1152_i32
  v1763
def k0_off43 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r36 : BitVec 32 := 0#32
  ![1, v68.toNat, 0]
def k0_cond37 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c35_i32 : BitVec 32 := 35#32
  let v1785 : BitVec 1 := Scalar.cmpi .eq v58 c35_i32
  let v1786 : BitVec 1 := Scalar.andi v40 v1785
  let v1787 : BitVec 32 := Scalar.extui v1786
  let c0_i32_1247 : BitVec 32 := 0#32
  let v1788 : BitVec 1 := Scalar.cmpi .ne v1787 c0_i32_1247
  v1788

def k0_mult74 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1120_i32_1248 : BitVec 32 := 1120#32
  let v1789 : BitVec 32 := Scalar.addi v29 c1120_i32_1248
  v1789
def k0_mult75 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1184_i32 : BitVec 32 := 1184#32
  let v1811 : BitVec 32 := Scalar.addi v29 c1184_i32
  v1811
def k0_off44 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r37 : BitVec 32 := 0#32
  ![0, v68.toNat, 0]
def k0_cond38 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c36_i32 : BitVec 32 := 36#32
  let v1833 : BitVec 1 := Scalar.cmpi .eq v58 c36_i32
  let v1834 : BitVec 1 := Scalar.andi v40 v1833
  let v1835 : BitVec 32 := Scalar.extui v1834
  let c0_i32_1281 : BitVec 32 := 0#32
  let v1836 : BitVec 1 := Scalar.cmpi .ne v1835 c0_i32_1281
  v1836

def k0_mult76 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1152_i32_1282 : BitVec 32 := 1152#32
  let v1837 : BitVec 32 := Scalar.addi v29 c1152_i32_1282
  v1837
def k0_mult77 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1216_i32 : BitVec 32 := 1216#32
  let v1859 : BitVec 32 := Scalar.addi v29 c1216_i32
  v1859
def k0_off45 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r38 : BitVec 32 := 0#32
  ![1, v68.toNat, 0]
def k0_cond39 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c37_i32 : BitVec 32 := 37#32
  let v1881 : BitVec 1 := Scalar.cmpi .eq v58 c37_i32
  let v1882 : BitVec 1 := Scalar.andi v40 v1881
  let v1883 : BitVec 32 := Scalar.extui v1882
  let c0_i32_1315 : BitVec 32 := 0#32
  let v1884 : BitVec 1 := Scalar.cmpi .ne v1883 c0_i32_1315
  v1884

def k0_mult78 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1184_i32_1316 : BitVec 32 := 1184#32
  let v1885 : BitVec 32 := Scalar.addi v29 c1184_i32_1316
  v1885
def k0_mult79 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1248_i32 : BitVec 32 := 1248#32
  let v1907 : BitVec 32 := Scalar.addi v29 c1248_i32
  v1907
def k0_off46 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r39 : BitVec 32 := 0#32
  ![0, v68.toNat, 0]
def k0_cond40 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c38_i32 : BitVec 32 := 38#32
  let v1929 : BitVec 1 := Scalar.cmpi .eq v58 c38_i32
  let v1930 : BitVec 1 := Scalar.andi v40 v1929
  let v1931 : BitVec 32 := Scalar.extui v1930
  let c0_i32_1349 : BitVec 32 := 0#32
  let v1932 : BitVec 1 := Scalar.cmpi .ne v1931 c0_i32_1349
  v1932

def k0_mult80 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1216_i32_1350 : BitVec 32 := 1216#32
  let v1933 : BitVec 32 := Scalar.addi v29 c1216_i32_1350
  v1933
def k0_mult81 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1280_i32 : BitVec 32 := 1280#32
  let v1955 : BitVec 32 := Scalar.addi v29 c1280_i32
  v1955
def k0_off47 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r40 : BitVec 32 := 0#32
  ![1, v68.toNat, 0]
def k0_cond41 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c39_i32 : BitVec 32 := 39#32
  let v1977 : BitVec 1 := Scalar.cmpi .eq v58 c39_i32
  let v1978 : BitVec 1 := Scalar.andi v40 v1977
  let v1979 : BitVec 32 := Scalar.extui v1978
  let c0_i32_1383 : BitVec 32 := 0#32
  let v1980 : BitVec 1 := Scalar.cmpi .ne v1979 c0_i32_1383
  v1980

def k0_mult82 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1248_i32_1384 : BitVec 32 := 1248#32
  let v1981 : BitVec 32 := Scalar.addi v29 c1248_i32_1384
  v1981
def k0_mult83 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1312_i32 : BitVec 32 := 1312#32
  let v2003 : BitVec 32 := Scalar.addi v29 c1312_i32
  v2003
def k0_off48 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r41 : BitVec 32 := 0#32
  ![0, v68.toNat, 0]
def k0_cond42 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c40_i32 : BitVec 32 := 40#32
  let v2025 : BitVec 1 := Scalar.cmpi .eq v58 c40_i32
  let v2026 : BitVec 1 := Scalar.andi v40 v2025
  let v2027 : BitVec 32 := Scalar.extui v2026
  let c0_i32_1417 : BitVec 32 := 0#32
  let v2028 : BitVec 1 := Scalar.cmpi .ne v2027 c0_i32_1417
  v2028

def k0_mult84 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1280_i32_1418 : BitVec 32 := 1280#32
  let v2029 : BitVec 32 := Scalar.addi v29 c1280_i32_1418
  v2029
def k0_mult85 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1344_i32 : BitVec 32 := 1344#32
  let v2051 : BitVec 32 := Scalar.addi v29 c1344_i32
  v2051
def k0_off49 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r42 : BitVec 32 := 0#32
  ![1, v68.toNat, 0]
def k0_cond43 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c41_i32 : BitVec 32 := 41#32
  let v2073 : BitVec 1 := Scalar.cmpi .eq v58 c41_i32
  let v2074 : BitVec 1 := Scalar.andi v40 v2073
  let v2075 : BitVec 32 := Scalar.extui v2074
  let c0_i32_1451 : BitVec 32 := 0#32
  let v2076 : BitVec 1 := Scalar.cmpi .ne v2075 c0_i32_1451
  v2076

def k0_mult86 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1312_i32_1452 : BitVec 32 := 1312#32
  let v2077 : BitVec 32 := Scalar.addi v29 c1312_i32_1452
  v2077
def k0_mult87 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1376_i32 : BitVec 32 := 1376#32
  let v2099 : BitVec 32 := Scalar.addi v29 c1376_i32
  v2099
def k0_off50 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r43 : BitVec 32 := 0#32
  ![0, v68.toNat, 0]
def k0_cond44 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c42_i32 : BitVec 32 := 42#32
  let v2121 : BitVec 1 := Scalar.cmpi .eq v58 c42_i32
  let v2122 : BitVec 1 := Scalar.andi v40 v2121
  let v2123 : BitVec 32 := Scalar.extui v2122
  let c0_i32_1485 : BitVec 32 := 0#32
  let v2124 : BitVec 1 := Scalar.cmpi .ne v2123 c0_i32_1485
  v2124

def k0_mult88 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1344_i32_1486 : BitVec 32 := 1344#32
  let v2125 : BitVec 32 := Scalar.addi v29 c1344_i32_1486
  v2125
def k0_mult89 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1408_i32 : BitVec 32 := 1408#32
  let v2147 : BitVec 32 := Scalar.addi v29 c1408_i32
  v2147
def k0_off51 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r44 : BitVec 32 := 0#32
  ![1, v68.toNat, 0]
def k0_cond45 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c43_i32 : BitVec 32 := 43#32
  let v2169 : BitVec 1 := Scalar.cmpi .eq v58 c43_i32
  let v2170 : BitVec 1 := Scalar.andi v40 v2169
  let v2171 : BitVec 32 := Scalar.extui v2170
  let c0_i32_1519 : BitVec 32 := 0#32
  let v2172 : BitVec 1 := Scalar.cmpi .ne v2171 c0_i32_1519
  v2172

def k0_mult90 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1376_i32_1520 : BitVec 32 := 1376#32
  let v2173 : BitVec 32 := Scalar.addi v29 c1376_i32_1520
  v2173
def k0_mult91 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1440_i32 : BitVec 32 := 1440#32
  let v2195 : BitVec 32 := Scalar.addi v29 c1440_i32
  v2195
def k0_off52 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r45 : BitVec 32 := 0#32
  ![0, v68.toNat, 0]
def k0_cond46 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c44_i32 : BitVec 32 := 44#32
  let v2217 : BitVec 1 := Scalar.cmpi .eq v58 c44_i32
  let v2218 : BitVec 1 := Scalar.andi v40 v2217
  let v2219 : BitVec 32 := Scalar.extui v2218
  let c0_i32_1553 : BitVec 32 := 0#32
  let v2220 : BitVec 1 := Scalar.cmpi .ne v2219 c0_i32_1553
  v2220

def k0_mult92 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1408_i32_1554 : BitVec 32 := 1408#32
  let v2221 : BitVec 32 := Scalar.addi v29 c1408_i32_1554
  v2221
def k0_mult93 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1472_i32 : BitVec 32 := 1472#32
  let v2243 : BitVec 32 := Scalar.addi v29 c1472_i32
  v2243
def k0_off53 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r46 : BitVec 32 := 0#32
  ![1, v68.toNat, 0]
def k0_cond47 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c45_i32 : BitVec 32 := 45#32
  let v2265 : BitVec 1 := Scalar.cmpi .eq v58 c45_i32
  let v2266 : BitVec 1 := Scalar.andi v40 v2265
  let v2267 : BitVec 32 := Scalar.extui v2266
  let c0_i32_1587 : BitVec 32 := 0#32
  let v2268 : BitVec 1 := Scalar.cmpi .ne v2267 c0_i32_1587
  v2268

def k0_mult94 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1440_i32_1588 : BitVec 32 := 1440#32
  let v2269 : BitVec 32 := Scalar.addi v29 c1440_i32_1588
  v2269
def k0_mult95 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1504_i32 : BitVec 32 := 1504#32
  let v2291 : BitVec 32 := Scalar.addi v29 c1504_i32
  v2291
def k0_off54 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r47 : BitVec 32 := 0#32
  ![0, v68.toNat, 0]
def k0_cond48 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c46_i32 : BitVec 32 := 46#32
  let v2313 : BitVec 1 := Scalar.cmpi .eq v58 c46_i32
  let v2314 : BitVec 1 := Scalar.andi v40 v2313
  let v2315 : BitVec 32 := Scalar.extui v2314
  let c0_i32_1621 : BitVec 32 := 0#32
  let v2316 : BitVec 1 := Scalar.cmpi .ne v2315 c0_i32_1621
  v2316

def k0_mult96 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1472_i32_1622 : BitVec 32 := 1472#32
  let v2317 : BitVec 32 := Scalar.addi v29 c1472_i32_1622
  v2317
def k0_mult97 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1536_i32 : BitVec 32 := 1536#32
  let v2339 : BitVec 32 := Scalar.addi v29 c1536_i32
  v2339
def k0_off55 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r48 : BitVec 32 := 0#32
  ![1, v68.toNat, 0]
def k0_cond49 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c47_i32 : BitVec 32 := 47#32
  let v2361 : BitVec 1 := Scalar.cmpi .eq v58 c47_i32
  let v2362 : BitVec 1 := Scalar.andi v40 v2361
  let v2363 : BitVec 32 := Scalar.extui v2362
  let c0_i32_1655 : BitVec 32 := 0#32
  let v2364 : BitVec 1 := Scalar.cmpi .ne v2363 c0_i32_1655
  v2364

def k0_mult98 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1504_i32_1656 : BitVec 32 := 1504#32
  let v2365 : BitVec 32 := Scalar.addi v29 c1504_i32_1656
  v2365
def k0_mult99 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1568_i32 : BitVec 32 := 1568#32
  let v2387 : BitVec 32 := Scalar.addi v29 c1568_i32
  v2387
def k0_off56 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r49 : BitVec 32 := 0#32
  ![0, v68.toNat, 0]
def k0_cond50 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c48_i32 : BitVec 32 := 48#32
  let v2409 : BitVec 1 := Scalar.cmpi .eq v58 c48_i32
  let v2410 : BitVec 1 := Scalar.andi v40 v2409
  let v2411 : BitVec 32 := Scalar.extui v2410
  let c0_i32_1689 : BitVec 32 := 0#32
  let v2412 : BitVec 1 := Scalar.cmpi .ne v2411 c0_i32_1689
  v2412

def k0_mult100 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1536_i32_1690 : BitVec 32 := 1536#32
  let v2413 : BitVec 32 := Scalar.addi v29 c1536_i32_1690
  v2413
def k0_mult101 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1600_i32 : BitVec 32 := 1600#32
  let v2435 : BitVec 32 := Scalar.addi v29 c1600_i32
  v2435
def k0_off57 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r50 : BitVec 32 := 0#32
  ![1, v68.toNat, 0]
def k0_cond51 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c49_i32 : BitVec 32 := 49#32
  let v2457 : BitVec 1 := Scalar.cmpi .eq v58 c49_i32
  let v2458 : BitVec 1 := Scalar.andi v40 v2457
  let v2459 : BitVec 32 := Scalar.extui v2458
  let c0_i32_1723 : BitVec 32 := 0#32
  let v2460 : BitVec 1 := Scalar.cmpi .ne v2459 c0_i32_1723
  v2460

def k0_mult102 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1568_i32_1724 : BitVec 32 := 1568#32
  let v2461 : BitVec 32 := Scalar.addi v29 c1568_i32_1724
  v2461
def k0_mult103 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1632_i32 : BitVec 32 := 1632#32
  let v2483 : BitVec 32 := Scalar.addi v29 c1632_i32
  v2483
def k0_off58 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r51 : BitVec 32 := 0#32
  ![0, v68.toNat, 0]
def k0_cond52 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c50_i32 : BitVec 32 := 50#32
  let v2505 : BitVec 1 := Scalar.cmpi .eq v58 c50_i32
  let v2506 : BitVec 1 := Scalar.andi v40 v2505
  let v2507 : BitVec 32 := Scalar.extui v2506
  let c0_i32_1757 : BitVec 32 := 0#32
  let v2508 : BitVec 1 := Scalar.cmpi .ne v2507 c0_i32_1757
  v2508

def k0_mult104 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1600_i32_1758 : BitVec 32 := 1600#32
  let v2509 : BitVec 32 := Scalar.addi v29 c1600_i32_1758
  v2509
def k0_mult105 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1664_i32 : BitVec 32 := 1664#32
  let v2531 : BitVec 32 := Scalar.addi v29 c1664_i32
  v2531
def k0_off59 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r52 : BitVec 32 := 0#32
  ![1, v68.toNat, 0]
def k0_cond53 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c51_i32 : BitVec 32 := 51#32
  let v2553 : BitVec 1 := Scalar.cmpi .eq v58 c51_i32
  let v2554 : BitVec 1 := Scalar.andi v40 v2553
  let v2555 : BitVec 32 := Scalar.extui v2554
  let c0_i32_1791 : BitVec 32 := 0#32
  let v2556 : BitVec 1 := Scalar.cmpi .ne v2555 c0_i32_1791
  v2556

def k0_mult106 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1632_i32_1792 : BitVec 32 := 1632#32
  let v2557 : BitVec 32 := Scalar.addi v29 c1632_i32_1792
  v2557
def k0_mult107 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1696_i32 : BitVec 32 := 1696#32
  let v2579 : BitVec 32 := Scalar.addi v29 c1696_i32
  v2579
def k0_off60 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r53 : BitVec 32 := 0#32
  ![0, v68.toNat, 0]
def k0_cond54 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c52_i32 : BitVec 32 := 52#32
  let v2601 : BitVec 1 := Scalar.cmpi .eq v58 c52_i32
  let v2602 : BitVec 1 := Scalar.andi v40 v2601
  let v2603 : BitVec 32 := Scalar.extui v2602
  let c0_i32_1825 : BitVec 32 := 0#32
  let v2604 : BitVec 1 := Scalar.cmpi .ne v2603 c0_i32_1825
  v2604

def k0_mult108 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1664_i32_1826 : BitVec 32 := 1664#32
  let v2605 : BitVec 32 := Scalar.addi v29 c1664_i32_1826
  v2605
def k0_mult109 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1728_i32 : BitVec 32 := 1728#32
  let v2627 : BitVec 32 := Scalar.addi v29 c1728_i32
  v2627
def k0_off61 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r54 : BitVec 32 := 0#32
  ![1, v68.toNat, 0]
def k0_cond55 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c53_i32 : BitVec 32 := 53#32
  let v2649 : BitVec 1 := Scalar.cmpi .eq v58 c53_i32
  let v2650 : BitVec 1 := Scalar.andi v40 v2649
  let v2651 : BitVec 32 := Scalar.extui v2650
  let c0_i32_1859 : BitVec 32 := 0#32
  let v2652 : BitVec 1 := Scalar.cmpi .ne v2651 c0_i32_1859
  v2652

def k0_mult110 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1696_i32_1860 : BitVec 32 := 1696#32
  let v2653 : BitVec 32 := Scalar.addi v29 c1696_i32_1860
  v2653
def k0_mult111 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1760_i32 : BitVec 32 := 1760#32
  let v2675 : BitVec 32 := Scalar.addi v29 c1760_i32
  v2675
def k0_off62 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r55 : BitVec 32 := 0#32
  ![0, v68.toNat, 0]
def k0_cond56 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c54_i32 : BitVec 32 := 54#32
  let v2697 : BitVec 1 := Scalar.cmpi .eq v58 c54_i32
  let v2698 : BitVec 1 := Scalar.andi v40 v2697
  let v2699 : BitVec 32 := Scalar.extui v2698
  let c0_i32_1893 : BitVec 32 := 0#32
  let v2700 : BitVec 1 := Scalar.cmpi .ne v2699 c0_i32_1893
  v2700

def k0_mult112 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1728_i32_1894 : BitVec 32 := 1728#32
  let v2701 : BitVec 32 := Scalar.addi v29 c1728_i32_1894
  v2701
def k0_mult113 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1792_i32 : BitVec 32 := 1792#32
  let v2723 : BitVec 32 := Scalar.addi v29 c1792_i32
  v2723
def k0_off63 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r56 : BitVec 32 := 0#32
  ![1, v68.toNat, 0]
def k0_cond57 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c55_i32 : BitVec 32 := 55#32
  let v2745 : BitVec 1 := Scalar.cmpi .eq v58 c55_i32
  let v2746 : BitVec 1 := Scalar.andi v40 v2745
  let v2747 : BitVec 32 := Scalar.extui v2746
  let c0_i32_1927 : BitVec 32 := 0#32
  let v2748 : BitVec 1 := Scalar.cmpi .ne v2747 c0_i32_1927
  v2748

def k0_mult114 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1760_i32_1928 : BitVec 32 := 1760#32
  let v2749 : BitVec 32 := Scalar.addi v29 c1760_i32_1928
  v2749
def k0_mult115 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1824_i32 : BitVec 32 := 1824#32
  let v2771 : BitVec 32 := Scalar.addi v29 c1824_i32
  v2771
def k0_off64 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r57 : BitVec 32 := 0#32
  ![0, v68.toNat, 0]
def k0_cond58 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c56_i32 : BitVec 32 := 56#32
  let v2793 : BitVec 1 := Scalar.cmpi .eq v58 c56_i32
  let v2794 : BitVec 1 := Scalar.andi v40 v2793
  let v2795 : BitVec 32 := Scalar.extui v2794
  let c0_i32_1961 : BitVec 32 := 0#32
  let v2796 : BitVec 1 := Scalar.cmpi .ne v2795 c0_i32_1961
  v2796

def k0_mult116 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1792_i32_1962 : BitVec 32 := 1792#32
  let v2797 : BitVec 32 := Scalar.addi v29 c1792_i32_1962
  v2797
def k0_mult117 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1856_i32 : BitVec 32 := 1856#32
  let v2819 : BitVec 32 := Scalar.addi v29 c1856_i32
  v2819
def k0_off65 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r58 : BitVec 32 := 0#32
  ![1, v68.toNat, 0]
def k0_cond59 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c57_i32 : BitVec 32 := 57#32
  let v2841 : BitVec 1 := Scalar.cmpi .eq v58 c57_i32
  let v2842 : BitVec 1 := Scalar.andi v40 v2841
  let v2843 : BitVec 32 := Scalar.extui v2842
  let c0_i32_1995 : BitVec 32 := 0#32
  let v2844 : BitVec 1 := Scalar.cmpi .ne v2843 c0_i32_1995
  v2844

def k0_mult118 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1824_i32_1996 : BitVec 32 := 1824#32
  let v2845 : BitVec 32 := Scalar.addi v29 c1824_i32_1996
  v2845
def k0_mult119 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1888_i32 : BitVec 32 := 1888#32
  let v2867 : BitVec 32 := Scalar.addi v29 c1888_i32
  v2867
def k0_off66 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r59 : BitVec 32 := 0#32
  ![0, v68.toNat, 0]
def k0_cond60 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c58_i32 : BitVec 32 := 58#32
  let v2889 : BitVec 1 := Scalar.cmpi .eq v58 c58_i32
  let v2890 : BitVec 1 := Scalar.andi v40 v2889
  let v2891 : BitVec 32 := Scalar.extui v2890
  let c0_i32_2029 : BitVec 32 := 0#32
  let v2892 : BitVec 1 := Scalar.cmpi .ne v2891 c0_i32_2029
  v2892

def k0_mult120 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1856_i32_2030 : BitVec 32 := 1856#32
  let v2893 : BitVec 32 := Scalar.addi v29 c1856_i32_2030
  v2893
def k0_mult121 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1920_i32 : BitVec 32 := 1920#32
  let v2915 : BitVec 32 := Scalar.addi v29 c1920_i32
  v2915
def k0_off67 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r60 : BitVec 32 := 0#32
  ![1, v68.toNat, 0]
def k0_cond61 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c59_i32 : BitVec 32 := 59#32
  let v2937 : BitVec 1 := Scalar.cmpi .eq v58 c59_i32
  let v2938 : BitVec 1 := Scalar.andi v40 v2937
  let v2939 : BitVec 32 := Scalar.extui v2938
  let c0_i32_2063 : BitVec 32 := 0#32
  let v2940 : BitVec 1 := Scalar.cmpi .ne v2939 c0_i32_2063
  v2940

def k0_mult122 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1888_i32_2064 : BitVec 32 := 1888#32
  let v2941 : BitVec 32 := Scalar.addi v29 c1888_i32_2064
  v2941
def k0_mult123 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1952_i32 : BitVec 32 := 1952#32
  let v2963 : BitVec 32 := Scalar.addi v29 c1952_i32
  v2963
def k0_off68 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r61 : BitVec 32 := 0#32
  ![0, v68.toNat, 0]
def k0_cond62 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c60_i32 : BitVec 32 := 60#32
  let v2985 : BitVec 1 := Scalar.cmpi .eq v58 c60_i32
  let v2986 : BitVec 1 := Scalar.andi v40 v2985
  let v2987 : BitVec 32 := Scalar.extui v2986
  let c0_i32_2097 : BitVec 32 := 0#32
  let v2988 : BitVec 1 := Scalar.cmpi .ne v2987 c0_i32_2097
  v2988

def k0_mult124 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1920_i32_2098 : BitVec 32 := 1920#32
  let v2989 : BitVec 32 := Scalar.addi v29 c1920_i32_2098
  v2989
def k0_mult125 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1984_i32 : BitVec 32 := 1984#32
  let v3011 : BitVec 32 := Scalar.addi v29 c1984_i32
  v3011
def k0_off69 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r62 : BitVec 32 := 0#32
  ![1, v68.toNat, 0]
def k0_cond63 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c61_i32 : BitVec 32 := 61#32
  let v3033 : BitVec 1 := Scalar.cmpi .eq v58 c61_i32
  let v3034 : BitVec 1 := Scalar.andi v40 v3033
  let v3035 : BitVec 32 := Scalar.extui v3034
  let c0_i32_2131 : BitVec 32 := 0#32
  let v3036 : BitVec 1 := Scalar.cmpi .ne v3035 c0_i32_2131
  v3036

def k0_mult126 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1952_i32_2132 : BitVec 32 := 1952#32
  let v3037 : BitVec 32 := Scalar.addi v29 c1952_i32_2132
  v3037
def k0_mult127 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2016_i32 : BitVec 32 := 2016#32
  let v3059 : BitVec 32 := Scalar.addi v29 c2016_i32
  v3059
def k0_off70 (i : grid0.Coords) (v36 : BitVec 32) : Fin 3 → Nat :=
  let c0_i32_2209 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r63 : BitVec 32 := 0#32
  ![0, v68.toNat, 0]
def k0_cond64 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c62_i32 : BitVec 32 := 62#32
  let v3081 : BitVec 1 := Scalar.cmpi .eq v58 c62_i32
  let v3082 : BitVec 1 := Scalar.andi v40 v3081
  let v3083 : BitVec 32 := Scalar.extui v3082
  let c0_i32_2165 : BitVec 32 := 0#32
  let v3084 : BitVec 1 := Scalar.cmpi .ne v3083 c0_i32_2165
  v3084

def k0_mult128 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1984_i32_2166 : BitVec 32 := 1984#32
  let v3085 : BitVec 32 := Scalar.addi v29 c1984_i32_2166
  v3085
def k0_off71 (i : grid0.Coords) (v36 : BitVec 32) : Fin 3 → Nat :=
  let c1_i32_2209 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v41 : BitVec 32 := Scalar.subi v36 v29
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  let v68 : BitVec 32 := Scalar.select v66 v67 v61
  let c0_i32_2210_r64 : BitVec 32 := 0#32
  ![1, v68.toNat, 0]
def k0_cond65 (i : grid0.Coords) (v36 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c63_i32 : BitVec 32 := 63#32
  let v3107 : BitVec 1 := Scalar.cmpi .eq v58 c63_i32
  let v3108 : BitVec 1 := Scalar.andi v40 v3107
  let v3109 : BitVec 32 := Scalar.extui v3108
  let c0_i32_2183 : BitVec 32 := 0#32
  let v3110 : BitVec 1 := Scalar.cmpi .ne v3109 c0_i32_2183
  v3110

def k0_chk1_0 (i : grid0.Coords) (v36 : BitVec 32) : Prop :=
  (∀ (k0_h2 : k0_cond2 i v36 = 1#1), ∀ a, (k0_off6 i v36) a + S1x1x1024.size a ≤ S2x32x1024.size a) ∧
  (∀ (k0_h3 : k0_cond3 i v36 = 1#1), ∀ a, (k0_off9 i v36) a + S1x1x1024.size a ≤ S2x32x1024.size a) ∧
  (∀ (k0_h4 : k0_cond4 i v36 = 1#1), ∀ a, (k0_off10 i v36) a + S1x1x1024.size a ≤ S2x32x1024.size a) ∧
  (∀ (k0_h5 : k0_cond5 i v36 = 1#1), ∀ a, (k0_off11 i v36) a + S1x1x1024.size a ≤ S2x32x1024.size a) ∧
  (∀ (k0_h6 : k0_cond6 i v36 = 1#1), ∀ a, (k0_off12 i v36) a + S1x1x1024.size a ≤ S2x32x1024.size a) ∧
  (∀ (k0_h7 : k0_cond7 i v36 = 1#1), ∀ a, (k0_off13 i v36) a + S1x1x1024.size a ≤ S2x32x1024.size a) ∧
  (∀ (k0_h8 : k0_cond8 i v36 = 1#1), ∀ a, (k0_off14 i v36) a + S1x1x1024.size a ≤ S2x32x1024.size a) ∧
  (∀ (k0_h9 : k0_cond9 i v36 = 1#1), ∀ a, (k0_off15 i v36) a + S1x1x1024.size a ≤ S2x32x1024.size a) ∧
  (∀ (k0_h10 : k0_cond10 i v36 = 1#1), ∀ a, (k0_off16 i v36) a + S1x1x1024.size a ≤ S2x32x1024.size a) ∧
  (∀ (k0_h11 : k0_cond11 i v36 = 1#1), ∀ a, (k0_off17 i v36) a + S1x1x1024.size a ≤ S2x32x1024.size a) ∧
  (∀ (k0_h12 : k0_cond12 i v36 = 1#1), ∀ a, (k0_off18 i v36) a + S1x1x1024.size a ≤ S2x32x1024.size a) ∧
  (∀ (k0_h13 : k0_cond13 i v36 = 1#1), ∀ a, (k0_off19 i v36) a + S1x1x1024.size a ≤ S2x32x1024.size a) ∧
  (∀ (k0_h14 : k0_cond14 i v36 = 1#1), ∀ a, (k0_off20 i v36) a + S1x1x1024.size a ≤ S2x32x1024.size a) ∧
  (∀ (k0_h15 : k0_cond15 i v36 = 1#1), ∀ a, (k0_off21 i v36) a + S1x1x1024.size a ≤ S2x32x1024.size a) ∧
  (∀ (k0_h16 : k0_cond16 i v36 = 1#1), ∀ a, (k0_off22 i v36) a + S1x1x1024.size a ≤ S2x32x1024.size a) ∧
  (∀ (k0_h17 : k0_cond17 i v36 = 1#1), ∀ a, (k0_off23 i v36) a + S1x1x1024.size a ≤ S2x32x1024.size a) ∧
  (∀ (k0_h18 : k0_cond18 i v36 = 1#1), ∀ a, (k0_off24 i v36) a + S1x1x1024.size a ≤ S2x32x1024.size a) ∧
  (∀ (k0_h19 : k0_cond19 i v36 = 1#1), ∀ a, (k0_off25 i v36) a + S1x1x1024.size a ≤ S2x32x1024.size a) ∧
  (∀ (k0_h20 : k0_cond20 i v36 = 1#1), ∀ a, (k0_off26 i v36) a + S1x1x1024.size a ≤ S2x32x1024.size a) ∧
  (∀ (k0_h21 : k0_cond21 i v36 = 1#1), ∀ a, (k0_off27 i v36) a + S1x1x1024.size a ≤ S2x32x1024.size a) ∧
  (∀ (k0_h22 : k0_cond22 i v36 = 1#1), ∀ a, (k0_off28 i v36) a + S1x1x1024.size a ≤ S2x32x1024.size a) ∧
  (∀ (k0_h23 : k0_cond23 i v36 = 1#1), ∀ a, (k0_off29 i v36) a + S1x1x1024.size a ≤ S2x32x1024.size a) ∧
  (∀ (k0_h24 : k0_cond24 i v36 = 1#1), ∀ a, (k0_off30 i v36) a + S1x1x1024.size a ≤ S2x32x1024.size a) ∧
  (∀ (k0_h25 : k0_cond25 i v36 = 1#1), ∀ a, (k0_off31 i v36) a + S1x1x1024.size a ≤ S2x32x1024.size a) ∧
  (∀ (k0_h26 : k0_cond26 i v36 = 1#1), ∀ a, (k0_off32 i v36) a + S1x1x1024.size a ≤ S2x32x1024.size a) ∧
  (∀ (k0_h27 : k0_cond27 i v36 = 1#1), ∀ a, (k0_off33 i v36) a + S1x1x1024.size a ≤ S2x32x1024.size a) ∧
  (∀ (k0_h28 : k0_cond28 i v36 = 1#1), ∀ a, (k0_off34 i v36) a + S1x1x1024.size a ≤ S2x32x1024.size a) ∧
  (∀ (k0_h29 : k0_cond29 i v36 = 1#1), ∀ a, (k0_off35 i v36) a + S1x1x1024.size a ≤ S2x32x1024.size a) ∧
  (∀ (k0_h30 : k0_cond30 i v36 = 1#1), ∀ a, (k0_off36 i v36) a + S1x1x1024.size a ≤ S2x32x1024.size a) ∧
  (∀ (k0_h31 : k0_cond31 i v36 = 1#1), ∀ a, (k0_off37 i v36) a + S1x1x1024.size a ≤ S2x32x1024.size a) ∧
  (∀ (k0_h32 : k0_cond32 i v36 = 1#1), ∀ a, (k0_off38 i v36) a + S1x1x1024.size a ≤ S2x32x1024.size a) ∧
  (∀ (k0_h33 : k0_cond33 i v36 = 1#1), ∀ a, (k0_off39 i v36) a + S1x1x1024.size a ≤ S2x32x1024.size a)
def k0_chk1_1 (i : grid0.Coords) (v36 : BitVec 32) : Prop :=
  (∀ (k0_h34 : k0_cond34 i v36 = 1#1), ∀ a, (k0_off40 i v36) a + S1x1x1024.size a ≤ S2x32x1024.size a) ∧
  (∀ (k0_h35 : k0_cond35 i v36 = 1#1), ∀ a, (k0_off41 i v36) a + S1x1x1024.size a ≤ S2x32x1024.size a) ∧
  (∀ (k0_h36 : k0_cond36 i v36 = 1#1), ∀ a, (k0_off42 i v36) a + S1x1x1024.size a ≤ S2x32x1024.size a) ∧
  (∀ (k0_h37 : k0_cond37 i v36 = 1#1), ∀ a, (k0_off43 i v36) a + S1x1x1024.size a ≤ S2x32x1024.size a) ∧
  (∀ (k0_h38 : k0_cond38 i v36 = 1#1), ∀ a, (k0_off44 i v36) a + S1x1x1024.size a ≤ S2x32x1024.size a) ∧
  (∀ (k0_h39 : k0_cond39 i v36 = 1#1), ∀ a, (k0_off45 i v36) a + S1x1x1024.size a ≤ S2x32x1024.size a) ∧
  (∀ (k0_h40 : k0_cond40 i v36 = 1#1), ∀ a, (k0_off46 i v36) a + S1x1x1024.size a ≤ S2x32x1024.size a) ∧
  (∀ (k0_h41 : k0_cond41 i v36 = 1#1), ∀ a, (k0_off47 i v36) a + S1x1x1024.size a ≤ S2x32x1024.size a) ∧
  (∀ (k0_h42 : k0_cond42 i v36 = 1#1), ∀ a, (k0_off48 i v36) a + S1x1x1024.size a ≤ S2x32x1024.size a) ∧
  (∀ (k0_h43 : k0_cond43 i v36 = 1#1), ∀ a, (k0_off49 i v36) a + S1x1x1024.size a ≤ S2x32x1024.size a) ∧
  (∀ (k0_h44 : k0_cond44 i v36 = 1#1), ∀ a, (k0_off50 i v36) a + S1x1x1024.size a ≤ S2x32x1024.size a) ∧
  (∀ (k0_h45 : k0_cond45 i v36 = 1#1), ∀ a, (k0_off51 i v36) a + S1x1x1024.size a ≤ S2x32x1024.size a) ∧
  (∀ (k0_h46 : k0_cond46 i v36 = 1#1), ∀ a, (k0_off52 i v36) a + S1x1x1024.size a ≤ S2x32x1024.size a) ∧
  (∀ (k0_h47 : k0_cond47 i v36 = 1#1), ∀ a, (k0_off53 i v36) a + S1x1x1024.size a ≤ S2x32x1024.size a) ∧
  (∀ (k0_h48 : k0_cond48 i v36 = 1#1), ∀ a, (k0_off54 i v36) a + S1x1x1024.size a ≤ S2x32x1024.size a) ∧
  (∀ (k0_h49 : k0_cond49 i v36 = 1#1), ∀ a, (k0_off55 i v36) a + S1x1x1024.size a ≤ S2x32x1024.size a) ∧
  (∀ (k0_h50 : k0_cond50 i v36 = 1#1), ∀ a, (k0_off56 i v36) a + S1x1x1024.size a ≤ S2x32x1024.size a) ∧
  (∀ (k0_h51 : k0_cond51 i v36 = 1#1), ∀ a, (k0_off57 i v36) a + S1x1x1024.size a ≤ S2x32x1024.size a) ∧
  (∀ (k0_h52 : k0_cond52 i v36 = 1#1), ∀ a, (k0_off58 i v36) a + S1x1x1024.size a ≤ S2x32x1024.size a) ∧
  (∀ (k0_h53 : k0_cond53 i v36 = 1#1), ∀ a, (k0_off59 i v36) a + S1x1x1024.size a ≤ S2x32x1024.size a) ∧
  (∀ (k0_h54 : k0_cond54 i v36 = 1#1), ∀ a, (k0_off60 i v36) a + S1x1x1024.size a ≤ S2x32x1024.size a) ∧
  (∀ (k0_h55 : k0_cond55 i v36 = 1#1), ∀ a, (k0_off61 i v36) a + S1x1x1024.size a ≤ S2x32x1024.size a) ∧
  (∀ (k0_h56 : k0_cond56 i v36 = 1#1), ∀ a, (k0_off62 i v36) a + S1x1x1024.size a ≤ S2x32x1024.size a) ∧
  (∀ (k0_h57 : k0_cond57 i v36 = 1#1), ∀ a, (k0_off63 i v36) a + S1x1x1024.size a ≤ S2x32x1024.size a) ∧
  (∀ (k0_h58 : k0_cond58 i v36 = 1#1), ∀ a, (k0_off64 i v36) a + S1x1x1024.size a ≤ S2x32x1024.size a) ∧
  (∀ (k0_h59 : k0_cond59 i v36 = 1#1), ∀ a, (k0_off65 i v36) a + S1x1x1024.size a ≤ S2x32x1024.size a) ∧
  (∀ (k0_h60 : k0_cond60 i v36 = 1#1), ∀ a, (k0_off66 i v36) a + S1x1x1024.size a ≤ S2x32x1024.size a) ∧
  (∀ (k0_h61 : k0_cond61 i v36 = 1#1), ∀ a, (k0_off67 i v36) a + S1x1x1024.size a ≤ S2x32x1024.size a) ∧
  (∀ (k0_h62 : k0_cond62 i v36 = 1#1), ∀ a, (k0_off68 i v36) a + S1x1x1024.size a ≤ S2x32x1024.size a) ∧
  (∀ (k0_h63 : k0_cond63 i v36 = 1#1), ∀ a, (k0_off69 i v36) a + S1x1x1024.size a ≤ S2x32x1024.size a) ∧
  (∀ (k0_h64 : k0_cond64 i v36 = 1#1), ∀ a, (k0_off70 i v36) a + S1x1x1024.size a ≤ S2x32x1024.size a) ∧
  (∀ (k0_h65 : k0_cond65 i v36 = 1#1), ∀ a, (k0_off71 i v36) a + S1x1x1024.size a ≤ S2x32x1024.size a)
def k0_chk1 (i : grid0.Coords) (v36 : BitVec 32) : Prop :=
  k0_chk1_0 i v36 ∧
  k0_chk1_1 i v36
theorem k0_off6_inb : ∀ (i : grid0.Coords) (v36 : BitVec 32) (k0_hw1 : k0_chk1 i v36), ∀ (k0_h2 : k0_cond2 i v36 = 1#1), ∀ a, (k0_off6 i v36) a + S1x1x1024.size a ≤ S2x32x1024.size a := fun i v36 k0_hw1 k0_h2 => k0_hw1.1.1 k0_h2
theorem k0_off9_inb : ∀ (i : grid0.Coords) (v36 : BitVec 32) (k0_hw1 : k0_chk1 i v36), ∀ (k0_h3 : k0_cond3 i v36 = 1#1), ∀ a, (k0_off9 i v36) a + S1x1x1024.size a ≤ S2x32x1024.size a := fun i v36 k0_hw1 k0_h3 => k0_hw1.1.2.1 k0_h3
theorem k0_off10_inb : ∀ (i : grid0.Coords) (v36 : BitVec 32) (k0_hw1 : k0_chk1 i v36), ∀ (k0_h4 : k0_cond4 i v36 = 1#1), ∀ a, (k0_off10 i v36) a + S1x1x1024.size a ≤ S2x32x1024.size a := fun i v36 k0_hw1 k0_h4 => k0_hw1.1.2.2.1 k0_h4
theorem k0_off11_inb : ∀ (i : grid0.Coords) (v36 : BitVec 32) (k0_hw1 : k0_chk1 i v36), ∀ (k0_h5 : k0_cond5 i v36 = 1#1), ∀ a, (k0_off11 i v36) a + S1x1x1024.size a ≤ S2x32x1024.size a := fun i v36 k0_hw1 k0_h5 => k0_hw1.1.2.2.2.1 k0_h5
theorem k0_off12_inb : ∀ (i : grid0.Coords) (v36 : BitVec 32) (k0_hw1 : k0_chk1 i v36), ∀ (k0_h6 : k0_cond6 i v36 = 1#1), ∀ a, (k0_off12 i v36) a + S1x1x1024.size a ≤ S2x32x1024.size a := fun i v36 k0_hw1 k0_h6 => k0_hw1.1.2.2.2.2.1 k0_h6
theorem k0_off13_inb : ∀ (i : grid0.Coords) (v36 : BitVec 32) (k0_hw1 : k0_chk1 i v36), ∀ (k0_h7 : k0_cond7 i v36 = 1#1), ∀ a, (k0_off13 i v36) a + S1x1x1024.size a ≤ S2x32x1024.size a := fun i v36 k0_hw1 k0_h7 => k0_hw1.1.2.2.2.2.2.1 k0_h7
theorem k0_off14_inb : ∀ (i : grid0.Coords) (v36 : BitVec 32) (k0_hw1 : k0_chk1 i v36), ∀ (k0_h8 : k0_cond8 i v36 = 1#1), ∀ a, (k0_off14 i v36) a + S1x1x1024.size a ≤ S2x32x1024.size a := fun i v36 k0_hw1 k0_h8 => k0_hw1.1.2.2.2.2.2.2.1 k0_h8
theorem k0_off15_inb : ∀ (i : grid0.Coords) (v36 : BitVec 32) (k0_hw1 : k0_chk1 i v36), ∀ (k0_h9 : k0_cond9 i v36 = 1#1), ∀ a, (k0_off15 i v36) a + S1x1x1024.size a ≤ S2x32x1024.size a := fun i v36 k0_hw1 k0_h9 => k0_hw1.1.2.2.2.2.2.2.2.1 k0_h9
theorem k0_off16_inb : ∀ (i : grid0.Coords) (v36 : BitVec 32) (k0_hw1 : k0_chk1 i v36), ∀ (k0_h10 : k0_cond10 i v36 = 1#1), ∀ a, (k0_off16 i v36) a + S1x1x1024.size a ≤ S2x32x1024.size a := fun i v36 k0_hw1 k0_h10 => k0_hw1.1.2.2.2.2.2.2.2.2.1 k0_h10
theorem k0_off17_inb : ∀ (i : grid0.Coords) (v36 : BitVec 32) (k0_hw1 : k0_chk1 i v36), ∀ (k0_h11 : k0_cond11 i v36 = 1#1), ∀ a, (k0_off17 i v36) a + S1x1x1024.size a ≤ S2x32x1024.size a := fun i v36 k0_hw1 k0_h11 => k0_hw1.1.2.2.2.2.2.2.2.2.2.1 k0_h11
theorem k0_off18_inb : ∀ (i : grid0.Coords) (v36 : BitVec 32) (k0_hw1 : k0_chk1 i v36), ∀ (k0_h12 : k0_cond12 i v36 = 1#1), ∀ a, (k0_off18 i v36) a + S1x1x1024.size a ≤ S2x32x1024.size a := fun i v36 k0_hw1 k0_h12 => k0_hw1.1.2.2.2.2.2.2.2.2.2.2.1 k0_h12
theorem k0_off19_inb : ∀ (i : grid0.Coords) (v36 : BitVec 32) (k0_hw1 : k0_chk1 i v36), ∀ (k0_h13 : k0_cond13 i v36 = 1#1), ∀ a, (k0_off19 i v36) a + S1x1x1024.size a ≤ S2x32x1024.size a := fun i v36 k0_hw1 k0_h13 => k0_hw1.1.2.2.2.2.2.2.2.2.2.2.2.1 k0_h13
theorem k0_off20_inb : ∀ (i : grid0.Coords) (v36 : BitVec 32) (k0_hw1 : k0_chk1 i v36), ∀ (k0_h14 : k0_cond14 i v36 = 1#1), ∀ a, (k0_off20 i v36) a + S1x1x1024.size a ≤ S2x32x1024.size a := fun i v36 k0_hw1 k0_h14 => k0_hw1.1.2.2.2.2.2.2.2.2.2.2.2.2.1 k0_h14
theorem k0_off21_inb : ∀ (i : grid0.Coords) (v36 : BitVec 32) (k0_hw1 : k0_chk1 i v36), ∀ (k0_h15 : k0_cond15 i v36 = 1#1), ∀ a, (k0_off21 i v36) a + S1x1x1024.size a ≤ S2x32x1024.size a := fun i v36 k0_hw1 k0_h15 => k0_hw1.1.2.2.2.2.2.2.2.2.2.2.2.2.2.1 k0_h15
theorem k0_off22_inb : ∀ (i : grid0.Coords) (v36 : BitVec 32) (k0_hw1 : k0_chk1 i v36), ∀ (k0_h16 : k0_cond16 i v36 = 1#1), ∀ a, (k0_off22 i v36) a + S1x1x1024.size a ≤ S2x32x1024.size a := fun i v36 k0_hw1 k0_h16 => k0_hw1.1.2.2.2.2.2.2.2.2.2.2.2.2.2.2.1 k0_h16
theorem k0_off23_inb : ∀ (i : grid0.Coords) (v36 : BitVec 32) (k0_hw1 : k0_chk1 i v36), ∀ (k0_h17 : k0_cond17 i v36 = 1#1), ∀ a, (k0_off23 i v36) a + S1x1x1024.size a ≤ S2x32x1024.size a := fun i v36 k0_hw1 k0_h17 => k0_hw1.1.2.2.2.2.2.2.2.2.2.2.2.2.2.2.2.1 k0_h17
theorem k0_off24_inb : ∀ (i : grid0.Coords) (v36 : BitVec 32) (k0_hw1 : k0_chk1 i v36), ∀ (k0_h18 : k0_cond18 i v36 = 1#1), ∀ a, (k0_off24 i v36) a + S1x1x1024.size a ≤ S2x32x1024.size a := fun i v36 k0_hw1 k0_h18 => k0_hw1.1.2.2.2.2.2.2.2.2.2.2.2.2.2.2.2.2.1 k0_h18
theorem k0_off25_inb : ∀ (i : grid0.Coords) (v36 : BitVec 32) (k0_hw1 : k0_chk1 i v36), ∀ (k0_h19 : k0_cond19 i v36 = 1#1), ∀ a, (k0_off25 i v36) a + S1x1x1024.size a ≤ S2x32x1024.size a := fun i v36 k0_hw1 k0_h19 => k0_hw1.1.2.2.2.2.2.2.2.2.2.2.2.2.2.2.2.2.2.1 k0_h19
theorem k0_off26_inb : ∀ (i : grid0.Coords) (v36 : BitVec 32) (k0_hw1 : k0_chk1 i v36), ∀ (k0_h20 : k0_cond20 i v36 = 1#1), ∀ a, (k0_off26 i v36) a + S1x1x1024.size a ≤ S2x32x1024.size a := fun i v36 k0_hw1 k0_h20 => k0_hw1.1.2.2.2.2.2.2.2.2.2.2.2.2.2.2.2.2.2.2.1 k0_h20
theorem k0_off27_inb : ∀ (i : grid0.Coords) (v36 : BitVec 32) (k0_hw1 : k0_chk1 i v36), ∀ (k0_h21 : k0_cond21 i v36 = 1#1), ∀ a, (k0_off27 i v36) a + S1x1x1024.size a ≤ S2x32x1024.size a := fun i v36 k0_hw1 k0_h21 => k0_hw1.1.2.2.2.2.2.2.2.2.2.2.2.2.2.2.2.2.2.2.2.1 k0_h21
theorem k0_off28_inb : ∀ (i : grid0.Coords) (v36 : BitVec 32) (k0_hw1 : k0_chk1 i v36), ∀ (k0_h22 : k0_cond22 i v36 = 1#1), ∀ a, (k0_off28 i v36) a + S1x1x1024.size a ≤ S2x32x1024.size a := fun i v36 k0_hw1 k0_h22 => k0_hw1.1.2.2.2.2.2.2.2.2.2.2.2.2.2.2.2.2.2.2.2.2.1 k0_h22
theorem k0_off29_inb : ∀ (i : grid0.Coords) (v36 : BitVec 32) (k0_hw1 : k0_chk1 i v36), ∀ (k0_h23 : k0_cond23 i v36 = 1#1), ∀ a, (k0_off29 i v36) a + S1x1x1024.size a ≤ S2x32x1024.size a := fun i v36 k0_hw1 k0_h23 => k0_hw1.1.2.2.2.2.2.2.2.2.2.2.2.2.2.2.2.2.2.2.2.2.2.1 k0_h23
theorem k0_off30_inb : ∀ (i : grid0.Coords) (v36 : BitVec 32) (k0_hw1 : k0_chk1 i v36), ∀ (k0_h24 : k0_cond24 i v36 = 1#1), ∀ a, (k0_off30 i v36) a + S1x1x1024.size a ≤ S2x32x1024.size a := fun i v36 k0_hw1 k0_h24 => k0_hw1.1.2.2.2.2.2.2.2.2.2.2.2.2.2.2.2.2.2.2.2.2.2.2.1 k0_h24
theorem k0_off31_inb : ∀ (i : grid0.Coords) (v36 : BitVec 32) (k0_hw1 : k0_chk1 i v36), ∀ (k0_h25 : k0_cond25 i v36 = 1#1), ∀ a, (k0_off31 i v36) a + S1x1x1024.size a ≤ S2x32x1024.size a := fun i v36 k0_hw1 k0_h25 => k0_hw1.1.2.2.2.2.2.2.2.2.2.2.2.2.2.2.2.2.2.2.2.2.2.2.2.1 k0_h25
theorem k0_off32_inb : ∀ (i : grid0.Coords) (v36 : BitVec 32) (k0_hw1 : k0_chk1 i v36), ∀ (k0_h26 : k0_cond26 i v36 = 1#1), ∀ a, (k0_off32 i v36) a + S1x1x1024.size a ≤ S2x32x1024.size a := fun i v36 k0_hw1 k0_h26 => k0_hw1.1.2.2.2.2.2.2.2.2.2.2.2.2.2.2.2.2.2.2.2.2.2.2.2.2.1 k0_h26
theorem k0_off33_inb : ∀ (i : grid0.Coords) (v36 : BitVec 32) (k0_hw1 : k0_chk1 i v36), ∀ (k0_h27 : k0_cond27 i v36 = 1#1), ∀ a, (k0_off33 i v36) a + S1x1x1024.size a ≤ S2x32x1024.size a := fun i v36 k0_hw1 k0_h27 => k0_hw1.1.2.2.2.2.2.2.2.2.2.2.2.2.2.2.2.2.2.2.2.2.2.2.2.2.2.1 k0_h27
theorem k0_off34_inb : ∀ (i : grid0.Coords) (v36 : BitVec 32) (k0_hw1 : k0_chk1 i v36), ∀ (k0_h28 : k0_cond28 i v36 = 1#1), ∀ a, (k0_off34 i v36) a + S1x1x1024.size a ≤ S2x32x1024.size a := fun i v36 k0_hw1 k0_h28 => k0_hw1.1.2.2.2.2.2.2.2.2.2.2.2.2.2.2.2.2.2.2.2.2.2.2.2.2.2.2.1 k0_h28
theorem k0_off35_inb : ∀ (i : grid0.Coords) (v36 : BitVec 32) (k0_hw1 : k0_chk1 i v36), ∀ (k0_h29 : k0_cond29 i v36 = 1#1), ∀ a, (k0_off35 i v36) a + S1x1x1024.size a ≤ S2x32x1024.size a := fun i v36 k0_hw1 k0_h29 => k0_hw1.1.2.2.2.2.2.2.2.2.2.2.2.2.2.2.2.2.2.2.2.2.2.2.2.2.2.2.2.1 k0_h29
theorem k0_off36_inb : ∀ (i : grid0.Coords) (v36 : BitVec 32) (k0_hw1 : k0_chk1 i v36), ∀ (k0_h30 : k0_cond30 i v36 = 1#1), ∀ a, (k0_off36 i v36) a + S1x1x1024.size a ≤ S2x32x1024.size a := fun i v36 k0_hw1 k0_h30 => k0_hw1.1.2.2.2.2.2.2.2.2.2.2.2.2.2.2.2.2.2.2.2.2.2.2.2.2.2.2.2.2.1 k0_h30
theorem k0_off37_inb : ∀ (i : grid0.Coords) (v36 : BitVec 32) (k0_hw1 : k0_chk1 i v36), ∀ (k0_h31 : k0_cond31 i v36 = 1#1), ∀ a, (k0_off37 i v36) a + S1x1x1024.size a ≤ S2x32x1024.size a := fun i v36 k0_hw1 k0_h31 => k0_hw1.1.2.2.2.2.2.2.2.2.2.2.2.2.2.2.2.2.2.2.2.2.2.2.2.2.2.2.2.2.2.1 k0_h31
theorem k0_off38_inb : ∀ (i : grid0.Coords) (v36 : BitVec 32) (k0_hw1 : k0_chk1 i v36), ∀ (k0_h32 : k0_cond32 i v36 = 1#1), ∀ a, (k0_off38 i v36) a + S1x1x1024.size a ≤ S2x32x1024.size a := fun i v36 k0_hw1 k0_h32 => k0_hw1.1.2.2.2.2.2.2.2.2.2.2.2.2.2.2.2.2.2.2.2.2.2.2.2.2.2.2.2.2.2.2.1 k0_h32
theorem k0_off39_inb : ∀ (i : grid0.Coords) (v36 : BitVec 32) (k0_hw1 : k0_chk1 i v36), ∀ (k0_h33 : k0_cond33 i v36 = 1#1), ∀ a, (k0_off39 i v36) a + S1x1x1024.size a ≤ S2x32x1024.size a := fun i v36 k0_hw1 k0_h33 => k0_hw1.1.2.2.2.2.2.2.2.2.2.2.2.2.2.2.2.2.2.2.2.2.2.2.2.2.2.2.2.2.2.2.2 k0_h33
theorem k0_off40_inb : ∀ (i : grid0.Coords) (v36 : BitVec 32) (k0_hw1 : k0_chk1 i v36), ∀ (k0_h34 : k0_cond34 i v36 = 1#1), ∀ a, (k0_off40 i v36) a + S1x1x1024.size a ≤ S2x32x1024.size a := fun i v36 k0_hw1 k0_h34 => k0_hw1.2.1 k0_h34
theorem k0_off41_inb : ∀ (i : grid0.Coords) (v36 : BitVec 32) (k0_hw1 : k0_chk1 i v36), ∀ (k0_h35 : k0_cond35 i v36 = 1#1), ∀ a, (k0_off41 i v36) a + S1x1x1024.size a ≤ S2x32x1024.size a := fun i v36 k0_hw1 k0_h35 => k0_hw1.2.2.1 k0_h35
theorem k0_off42_inb : ∀ (i : grid0.Coords) (v36 : BitVec 32) (k0_hw1 : k0_chk1 i v36), ∀ (k0_h36 : k0_cond36 i v36 = 1#1), ∀ a, (k0_off42 i v36) a + S1x1x1024.size a ≤ S2x32x1024.size a := fun i v36 k0_hw1 k0_h36 => k0_hw1.2.2.2.1 k0_h36
theorem k0_off43_inb : ∀ (i : grid0.Coords) (v36 : BitVec 32) (k0_hw1 : k0_chk1 i v36), ∀ (k0_h37 : k0_cond37 i v36 = 1#1), ∀ a, (k0_off43 i v36) a + S1x1x1024.size a ≤ S2x32x1024.size a := fun i v36 k0_hw1 k0_h37 => k0_hw1.2.2.2.2.1 k0_h37
theorem k0_off44_inb : ∀ (i : grid0.Coords) (v36 : BitVec 32) (k0_hw1 : k0_chk1 i v36), ∀ (k0_h38 : k0_cond38 i v36 = 1#1), ∀ a, (k0_off44 i v36) a + S1x1x1024.size a ≤ S2x32x1024.size a := fun i v36 k0_hw1 k0_h38 => k0_hw1.2.2.2.2.2.1 k0_h38
theorem k0_off45_inb : ∀ (i : grid0.Coords) (v36 : BitVec 32) (k0_hw1 : k0_chk1 i v36), ∀ (k0_h39 : k0_cond39 i v36 = 1#1), ∀ a, (k0_off45 i v36) a + S1x1x1024.size a ≤ S2x32x1024.size a := fun i v36 k0_hw1 k0_h39 => k0_hw1.2.2.2.2.2.2.1 k0_h39
theorem k0_off46_inb : ∀ (i : grid0.Coords) (v36 : BitVec 32) (k0_hw1 : k0_chk1 i v36), ∀ (k0_h40 : k0_cond40 i v36 = 1#1), ∀ a, (k0_off46 i v36) a + S1x1x1024.size a ≤ S2x32x1024.size a := fun i v36 k0_hw1 k0_h40 => k0_hw1.2.2.2.2.2.2.2.1 k0_h40
theorem k0_off47_inb : ∀ (i : grid0.Coords) (v36 : BitVec 32) (k0_hw1 : k0_chk1 i v36), ∀ (k0_h41 : k0_cond41 i v36 = 1#1), ∀ a, (k0_off47 i v36) a + S1x1x1024.size a ≤ S2x32x1024.size a := fun i v36 k0_hw1 k0_h41 => k0_hw1.2.2.2.2.2.2.2.2.1 k0_h41
theorem k0_off48_inb : ∀ (i : grid0.Coords) (v36 : BitVec 32) (k0_hw1 : k0_chk1 i v36), ∀ (k0_h42 : k0_cond42 i v36 = 1#1), ∀ a, (k0_off48 i v36) a + S1x1x1024.size a ≤ S2x32x1024.size a := fun i v36 k0_hw1 k0_h42 => k0_hw1.2.2.2.2.2.2.2.2.2.1 k0_h42
theorem k0_off49_inb : ∀ (i : grid0.Coords) (v36 : BitVec 32) (k0_hw1 : k0_chk1 i v36), ∀ (k0_h43 : k0_cond43 i v36 = 1#1), ∀ a, (k0_off49 i v36) a + S1x1x1024.size a ≤ S2x32x1024.size a := fun i v36 k0_hw1 k0_h43 => k0_hw1.2.2.2.2.2.2.2.2.2.2.1 k0_h43
theorem k0_off50_inb : ∀ (i : grid0.Coords) (v36 : BitVec 32) (k0_hw1 : k0_chk1 i v36), ∀ (k0_h44 : k0_cond44 i v36 = 1#1), ∀ a, (k0_off50 i v36) a + S1x1x1024.size a ≤ S2x32x1024.size a := fun i v36 k0_hw1 k0_h44 => k0_hw1.2.2.2.2.2.2.2.2.2.2.2.1 k0_h44
theorem k0_off51_inb : ∀ (i : grid0.Coords) (v36 : BitVec 32) (k0_hw1 : k0_chk1 i v36), ∀ (k0_h45 : k0_cond45 i v36 = 1#1), ∀ a, (k0_off51 i v36) a + S1x1x1024.size a ≤ S2x32x1024.size a := fun i v36 k0_hw1 k0_h45 => k0_hw1.2.2.2.2.2.2.2.2.2.2.2.2.1 k0_h45
theorem k0_off52_inb : ∀ (i : grid0.Coords) (v36 : BitVec 32) (k0_hw1 : k0_chk1 i v36), ∀ (k0_h46 : k0_cond46 i v36 = 1#1), ∀ a, (k0_off52 i v36) a + S1x1x1024.size a ≤ S2x32x1024.size a := fun i v36 k0_hw1 k0_h46 => k0_hw1.2.2.2.2.2.2.2.2.2.2.2.2.2.1 k0_h46
theorem k0_off53_inb : ∀ (i : grid0.Coords) (v36 : BitVec 32) (k0_hw1 : k0_chk1 i v36), ∀ (k0_h47 : k0_cond47 i v36 = 1#1), ∀ a, (k0_off53 i v36) a + S1x1x1024.size a ≤ S2x32x1024.size a := fun i v36 k0_hw1 k0_h47 => k0_hw1.2.2.2.2.2.2.2.2.2.2.2.2.2.2.1 k0_h47
theorem k0_off54_inb : ∀ (i : grid0.Coords) (v36 : BitVec 32) (k0_hw1 : k0_chk1 i v36), ∀ (k0_h48 : k0_cond48 i v36 = 1#1), ∀ a, (k0_off54 i v36) a + S1x1x1024.size a ≤ S2x32x1024.size a := fun i v36 k0_hw1 k0_h48 => k0_hw1.2.2.2.2.2.2.2.2.2.2.2.2.2.2.2.1 k0_h48
theorem k0_off55_inb : ∀ (i : grid0.Coords) (v36 : BitVec 32) (k0_hw1 : k0_chk1 i v36), ∀ (k0_h49 : k0_cond49 i v36 = 1#1), ∀ a, (k0_off55 i v36) a + S1x1x1024.size a ≤ S2x32x1024.size a := fun i v36 k0_hw1 k0_h49 => k0_hw1.2.2.2.2.2.2.2.2.2.2.2.2.2.2.2.2.1 k0_h49
theorem k0_off56_inb : ∀ (i : grid0.Coords) (v36 : BitVec 32) (k0_hw1 : k0_chk1 i v36), ∀ (k0_h50 : k0_cond50 i v36 = 1#1), ∀ a, (k0_off56 i v36) a + S1x1x1024.size a ≤ S2x32x1024.size a := fun i v36 k0_hw1 k0_h50 => k0_hw1.2.2.2.2.2.2.2.2.2.2.2.2.2.2.2.2.2.1 k0_h50
theorem k0_off57_inb : ∀ (i : grid0.Coords) (v36 : BitVec 32) (k0_hw1 : k0_chk1 i v36), ∀ (k0_h51 : k0_cond51 i v36 = 1#1), ∀ a, (k0_off57 i v36) a + S1x1x1024.size a ≤ S2x32x1024.size a := fun i v36 k0_hw1 k0_h51 => k0_hw1.2.2.2.2.2.2.2.2.2.2.2.2.2.2.2.2.2.2.1 k0_h51
theorem k0_off58_inb : ∀ (i : grid0.Coords) (v36 : BitVec 32) (k0_hw1 : k0_chk1 i v36), ∀ (k0_h52 : k0_cond52 i v36 = 1#1), ∀ a, (k0_off58 i v36) a + S1x1x1024.size a ≤ S2x32x1024.size a := fun i v36 k0_hw1 k0_h52 => k0_hw1.2.2.2.2.2.2.2.2.2.2.2.2.2.2.2.2.2.2.2.1 k0_h52
theorem k0_off59_inb : ∀ (i : grid0.Coords) (v36 : BitVec 32) (k0_hw1 : k0_chk1 i v36), ∀ (k0_h53 : k0_cond53 i v36 = 1#1), ∀ a, (k0_off59 i v36) a + S1x1x1024.size a ≤ S2x32x1024.size a := fun i v36 k0_hw1 k0_h53 => k0_hw1.2.2.2.2.2.2.2.2.2.2.2.2.2.2.2.2.2.2.2.2.1 k0_h53
theorem k0_off60_inb : ∀ (i : grid0.Coords) (v36 : BitVec 32) (k0_hw1 : k0_chk1 i v36), ∀ (k0_h54 : k0_cond54 i v36 = 1#1), ∀ a, (k0_off60 i v36) a + S1x1x1024.size a ≤ S2x32x1024.size a := fun i v36 k0_hw1 k0_h54 => k0_hw1.2.2.2.2.2.2.2.2.2.2.2.2.2.2.2.2.2.2.2.2.2.1 k0_h54
theorem k0_off61_inb : ∀ (i : grid0.Coords) (v36 : BitVec 32) (k0_hw1 : k0_chk1 i v36), ∀ (k0_h55 : k0_cond55 i v36 = 1#1), ∀ a, (k0_off61 i v36) a + S1x1x1024.size a ≤ S2x32x1024.size a := fun i v36 k0_hw1 k0_h55 => k0_hw1.2.2.2.2.2.2.2.2.2.2.2.2.2.2.2.2.2.2.2.2.2.2.1 k0_h55
theorem k0_off62_inb : ∀ (i : grid0.Coords) (v36 : BitVec 32) (k0_hw1 : k0_chk1 i v36), ∀ (k0_h56 : k0_cond56 i v36 = 1#1), ∀ a, (k0_off62 i v36) a + S1x1x1024.size a ≤ S2x32x1024.size a := fun i v36 k0_hw1 k0_h56 => k0_hw1.2.2.2.2.2.2.2.2.2.2.2.2.2.2.2.2.2.2.2.2.2.2.2.1 k0_h56
theorem k0_off63_inb : ∀ (i : grid0.Coords) (v36 : BitVec 32) (k0_hw1 : k0_chk1 i v36), ∀ (k0_h57 : k0_cond57 i v36 = 1#1), ∀ a, (k0_off63 i v36) a + S1x1x1024.size a ≤ S2x32x1024.size a := fun i v36 k0_hw1 k0_h57 => k0_hw1.2.2.2.2.2.2.2.2.2.2.2.2.2.2.2.2.2.2.2.2.2.2.2.2.1 k0_h57
theorem k0_off64_inb : ∀ (i : grid0.Coords) (v36 : BitVec 32) (k0_hw1 : k0_chk1 i v36), ∀ (k0_h58 : k0_cond58 i v36 = 1#1), ∀ a, (k0_off64 i v36) a + S1x1x1024.size a ≤ S2x32x1024.size a := fun i v36 k0_hw1 k0_h58 => k0_hw1.2.2.2.2.2.2.2.2.2.2.2.2.2.2.2.2.2.2.2.2.2.2.2.2.2.1 k0_h58
theorem k0_off65_inb : ∀ (i : grid0.Coords) (v36 : BitVec 32) (k0_hw1 : k0_chk1 i v36), ∀ (k0_h59 : k0_cond59 i v36 = 1#1), ∀ a, (k0_off65 i v36) a + S1x1x1024.size a ≤ S2x32x1024.size a := fun i v36 k0_hw1 k0_h59 => k0_hw1.2.2.2.2.2.2.2.2.2.2.2.2.2.2.2.2.2.2.2.2.2.2.2.2.2.2.1 k0_h59
theorem k0_off66_inb : ∀ (i : grid0.Coords) (v36 : BitVec 32) (k0_hw1 : k0_chk1 i v36), ∀ (k0_h60 : k0_cond60 i v36 = 1#1), ∀ a, (k0_off66 i v36) a + S1x1x1024.size a ≤ S2x32x1024.size a := fun i v36 k0_hw1 k0_h60 => k0_hw1.2.2.2.2.2.2.2.2.2.2.2.2.2.2.2.2.2.2.2.2.2.2.2.2.2.2.2.1 k0_h60
theorem k0_off67_inb : ∀ (i : grid0.Coords) (v36 : BitVec 32) (k0_hw1 : k0_chk1 i v36), ∀ (k0_h61 : k0_cond61 i v36 = 1#1), ∀ a, (k0_off67 i v36) a + S1x1x1024.size a ≤ S2x32x1024.size a := fun i v36 k0_hw1 k0_h61 => k0_hw1.2.2.2.2.2.2.2.2.2.2.2.2.2.2.2.2.2.2.2.2.2.2.2.2.2.2.2.2.1 k0_h61
theorem k0_off68_inb : ∀ (i : grid0.Coords) (v36 : BitVec 32) (k0_hw1 : k0_chk1 i v36), ∀ (k0_h62 : k0_cond62 i v36 = 1#1), ∀ a, (k0_off68 i v36) a + S1x1x1024.size a ≤ S2x32x1024.size a := fun i v36 k0_hw1 k0_h62 => k0_hw1.2.2.2.2.2.2.2.2.2.2.2.2.2.2.2.2.2.2.2.2.2.2.2.2.2.2.2.2.2.1 k0_h62
theorem k0_off69_inb : ∀ (i : grid0.Coords) (v36 : BitVec 32) (k0_hw1 : k0_chk1 i v36), ∀ (k0_h63 : k0_cond63 i v36 = 1#1), ∀ a, (k0_off69 i v36) a + S1x1x1024.size a ≤ S2x32x1024.size a := fun i v36 k0_hw1 k0_h63 => k0_hw1.2.2.2.2.2.2.2.2.2.2.2.2.2.2.2.2.2.2.2.2.2.2.2.2.2.2.2.2.2.2.1 k0_h63
theorem k0_off70_inb : ∀ (i : grid0.Coords) (v36 : BitVec 32) (k0_hw1 : k0_chk1 i v36), ∀ (k0_h64 : k0_cond64 i v36 = 1#1), ∀ a, (k0_off70 i v36) a + S1x1x1024.size a ≤ S2x32x1024.size a := fun i v36 k0_hw1 k0_h64 => k0_hw1.2.2.2.2.2.2.2.2.2.2.2.2.2.2.2.2.2.2.2.2.2.2.2.2.2.2.2.2.2.2.2.1 k0_h64
theorem k0_off71_inb : ∀ (i : grid0.Coords) (v36 : BitVec 32) (k0_hw1 : k0_chk1 i v36), ∀ (k0_h65 : k0_cond65 i v36 = 1#1), ∀ a, (k0_off71 i v36) a + S1x1x1024.size a ≤ S2x32x1024.size a := fun i v36 k0_hw1 k0_h65 => k0_hw1.2.2.2.2.2.2.2.2.2.2.2.2.2.2.2.2.2.2.2.2.2.2.2.2.2.2.2.2.2.2.2.2 k0_h65

def k0_mult129 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c2016_i32_2184 : BitVec 32 := 2016#32
  let v3111 : BitVec 32 := Scalar.addi v29 c2016_i32_2184
  v3111
abbrev grid1 : Pipeline.Grid := .none

abbrev stage1_0 : Fin 1 → Memref sig .tc .smem S16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x4097 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S16 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x1024 : Shape := ⟨3, ![16, 4096, 1024]⟩
abbrev S16x4096 : Shape := ⟨2, ![16, 4096]⟩
abbrev S16 : Shape := ⟨1, ![16]⟩
abbrev S1024 : Shape := ⟨1, ![1024]⟩
abbrev S_ : Shape := ⟨0, ![]⟩
abbrev S16x1x1024 : Shape := ⟨3, ![16, 1, 1024]⟩
abbrev S16x4097x1024 : Shape := ⟨3, ![16, 4097, 1024]⟩
abbrev S16x1024 : Shape := ⟨2, ![16, 1024]⟩
abbrev S16x1 : Shape := ⟨2, ![16, 1]⟩
abbrev S16x2 : Shape := ⟨2, ![16, 2]⟩
abbrev S16x1x1 : Shape := ⟨3, ![16, 1, 1]⟩
abbrev S1 : Shape := ⟨1, ![1]⟩
abbrev S1x1x1 : Shape := ⟨3, ![1, 1, 1]⟩
abbrev S16x4097 : Shape := ⟨2, ![16, 4097]⟩

abbrev nBuf : Space → Nat
  | .hbm => 81
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .f32⟩
  | .hbm, ⟨2, _⟩ => ⟨S16, .i32⟩
  | .hbm, ⟨3, _⟩ => ⟨S1024, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16x1x1024, .f32⟩
  | .hbm, ⟨8, _⟩ => ⟨S16x4097x1024, .f32⟩
  | .hbm, ⟨9, _⟩ => ⟨S16, .i32⟩
  | .hbm, ⟨10, _⟩ => ⟨S16x1024, .f32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x1, .i32⟩
  | .hbm, ⟨27, _⟩ => ⟨S16x2, .i32⟩
  | .hbm, ⟨28, _⟩ => ⟨S16x4097x1024, .f32⟩
  | .hbm, ⟨29, _⟩ => ⟨S16x1, .i32⟩
  | .hbm, ⟨30, _⟩ => ⟨S_, .i32⟩
  | .hbm, ⟨31, _⟩ => ⟨S16x1, .i32⟩
  | .hbm, ⟨32, _⟩ => ⟨S16x1, .i32⟩
  | .hbm, ⟨33, _⟩ => ⟨S_, .i32⟩
  | .hbm, ⟨34, _⟩ => ⟨S_, .i32⟩
  | .hbm, ⟨35, _⟩ => ⟨S16x1, .i32⟩
  | .hbm, ⟨36, _⟩ => ⟨S16x1, .i32⟩
  | .hbm, ⟨37, _⟩ => ⟨S_, .i32⟩
  | .hbm, ⟨38, _⟩ => ⟨S16x1, .i32⟩
  | .hbm, ⟨39, _⟩ => ⟨S16x1, .i1⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S16x1, .i32⟩
  | .hbm, ⟨44, _⟩ => ⟨S16x1x1, .i32⟩
  | .hbm, ⟨45, _⟩ => ⟨S1, .i32⟩
  | .hbm, ⟨46, _⟩ => ⟨S_, .i32⟩
  | .hbm, ⟨47, _⟩ => ⟨S16x1x1, .i32⟩
  | .hbm, ⟨48, _⟩ => ⟨S16x1x1, .i1⟩
  | .hbm, ⟨49, _⟩ => ⟨S1x1x1, .i32⟩
  | .hbm, ⟨50, _⟩ => ⟨S16x1x1, .i32⟩
  | .hbm, ⟨51, _⟩ => ⟨S16x1x1, .i1⟩
  | .hbm, ⟨52, _⟩ => ⟨S16x1x1, .i1⟩
  | .hbm, ⟨53, _⟩ => ⟨S_, .i1⟩
  | .hbm, ⟨54, _⟩ => ⟨S16x1, .i1⟩
  | .hbm, ⟨55, _⟩ => ⟨S16x1, .f32⟩
  | .hbm, ⟨56, _⟩ => ⟨S_, .f32⟩
  | .hbm, ⟨57, _⟩ => ⟨S16x1, .f32⟩
  | .hbm, ⟨58, _⟩ => ⟨S16x1, .f32⟩
  | .hbm, ⟨59, _⟩ => ⟨S16x1, .f32⟩
  | .hbm, ⟨60, _⟩ => ⟨S16x4097, .f32⟩
  | .hbm, ⟨61, _⟩ => ⟨S16, .i32⟩
  | .hbm, ⟨62, _⟩ => ⟨S16, .f32⟩
  | .hbm, ⟨63, _⟩ => ⟨S_, .i32⟩
  | .hbm, ⟨64, _⟩ => ⟨S16, .i32⟩
  | .hbm, ⟨65, _⟩ => ⟨S16, .i1⟩
  | .hbm, ⟨66, _⟩ => ⟨S_, .i32⟩
  | .hbm, ⟨67, _⟩ => ⟨S16, .i32⟩
  | .hbm, ⟨68, _⟩ => ⟨S16, .i32⟩
  | .hbm, ⟨69, _⟩ => ⟨S16, .i32⟩
  | .hbm, ⟨70, _⟩ => ⟨S_, .i32⟩
  | .hbm, ⟨71, _⟩ => ⟨S16, .i32⟩
  | .hbm, ⟨72, _⟩ => ⟨S16, .i1⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S16, .i32⟩
  | .hbm, ⟨77, _⟩ => ⟨S16x1, .i32⟩
  | .hbm, ⟨78, _⟩ => ⟨S16x1, .i32⟩
  | .hbm, ⟨79, _⟩ => ⟨S16x2, .i32⟩
  | .hbm, ⟨80, _⟩ => ⟨S16x4097, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_8 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Proof.Fam.lean ====
/-
  The families the SparseCore kernel's text is an instance of. A tile copies 64 chunks of 32 rows; chunk `n` goes through
  slot `n % 2` of the tile's two-slot buffer, is read from the rows of `x` at `xC`, is patched (where it holds the
  token's row) by one row copied in at `rowS`, and goes out to the rows of the result at `outC`. The printed program
  spells each of these out 64 times over; every spelling is the family at its numeral.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof

open Cert.KernelIdeal Cert.KernelIdeal.Gen
open Idealize.ShloMosaic

/-- The condition under which chunk `n` is patched: the tile holds the token's row, and in its chunk `n`. -/
def condF (i : grid0.Coords) (v36 : BitVec 32) (n : ℕ) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v37 : BitVec 1 := Scalar.cmpi .sge v36 v29
  let c2048_i32_12 : BitVec 32 := 2048#32
  let v38 : BitVec 32 := Scalar.addi v29 c2048_i32_12
  let v39 : BitVec 1 := Scalar.cmpi .slt v36 v38
  let v40 : BitVec 1 := Scalar.andi v37 v39
  let v41 : BitVec 32 := Scalar.subi v36 v29
  let c0_i32_13 : BitVec 32 := 0#32
  let v43 : BitVec 1 := Scalar.cmpi .sgt v41 c0_i32_13
  let v44 : BitVec 32 := Scalar.extui v43
  let c0_i32_14 : BitVec 32 := 0#32
  let v45 : BitVec 1 := Scalar.cmpi .slt v41 c0_i32_14
  let v46 : BitVec 32 := Scalar.extui v45
  let v47 : BitVec 32 := Scalar.subi v44 v46
  let c32_i32 : BitVec 32 := 32#32
  let c0_i32_15 : BitVec 32 := 0#32
  let v48 : BitVec 1 := Scalar.cmpi .sgt c32_i32 c0_i32_15
  let v49 : BitVec 32 := Scalar.extui v48
  let c0_i32_16 : BitVec 32 := 0#32
  let v50 : BitVec 1 := Scalar.cmpi .slt c32_i32 c0_i32_16
  let v51 : BitVec 32 := Scalar.extui v50
  let v52 : BitVec 32 := Scalar.subi v49 v51
  let v53 : BitVec 1 := Scalar.cmpi .ne v47 v52
  let v54 : BitVec 32 := Scalar.remsi v41 c32_i32
  let c0_i32_17 : BitVec 32 := 0#32
  let v55 : BitVec 1 := Scalar.cmpi .ne v54 c0_i32_17
  let v56 : BitVec 1 := Scalar.andi v53 v55
  let v42 : BitVec 32 := Scalar.divsi v41 c32_i32
  let c1_i32_18 : BitVec 32 := 1#32
  let v57 : BitVec 32 := Scalar.subi v42 c1_i32_18
  let v58 : BitVec 32 := Scalar.select v56 v57 v42
  let c0_i32_52 : BitVec 32 := BitVec.ofNat 32 (n % 64)
  let v105 : BitVec 1 := Scalar.cmpi .eq v58 c0_i32_52
  let v106 : BitVec 1 := Scalar.andi v40 v105
  let v107 : BitVec 32 := Scalar.extui v106
  let c0_i32_53 : BitVec 32 := 0#32
  let v108 : BitVec 1 := Scalar.cmpi .ne v107 c0_i32_53
  v108

/-- Where in the two-slot buffer the token's row lies when chunk `n` is there: row `(v - first row) mod 32` of slot `n % 2`. -/
def offP (i : grid0.Coords) (v : BitVec 32) (n : ℕ) : Fin 3 → ℕ := ![n % 2, k0_off6 i v 1, 0]

theorem off4_eq : ∀ i : grid0.Coords, k0_off4 i = k0_off8 i (BitVec.ofNat 32 (32 * (0 % 64))) := by decide +kernel

/-- A word's remainder modulo 32, as the kernel computes it, is below 32. -/
theorem floorMod_lt (w : BitVec 32) :
    (Scalar.select (Scalar.andi (Scalar.xori (Scalar.cmpi .slt (w.srem 32#32) 0#32) 0#1) (Scalar.cmpi .ne (w.srem 32#32) 0#32))
      (Scalar.addi (w.srem 32#32) 32#32) (w.srem 32#32)).toNat < 32 := by
  have h : (w.srem 32#32).toInt = w.toInt.tmod 32 := by rw [BitVec.toInt_srem]; rfl
  have h1 : -32 < w.toInt.tmod 32 := by have := Int.lt_tmod_of_pos w.toInt (show (0:ℤ) < 32 by decide); omega
  have h2 : w.toInt.tmod 32 < 32 := Int.tmod_lt_of_pos w.toInt (by decide)
  generalize w.srem 32#32 = r at h
  rw [BitVec.toInt_eq_toNat_cond] at h
  have hr := r.isLt
  unfold Scalar.select Scalar.andi Scalar.xori Scalar.cmpi Scalar.addi IntOp.andi IntOp.xori IntOp.cmpi IntOp.addi
  by_cases hneg : r.slt 0#32 = true
  · have hn : r.toInt < 0 := by simpa [BitVec.slt_eq_decide] using hneg
    rw [BitVec.toInt_eq_toNat_cond] at hn
    have hne : (r != 0#32) = true := by
      simp only [bne_iff_ne, ne_eq]; rintro rfl; simp at hn
    simp only [hneg, hne]
    simp only [BitVec.ofBool_true, BitVec.toNat_add, show (1#1 ^^^ 0#1 &&& 1#1) = 1#1 by decide]
    simp [BitVec.toNat_add]
    split at hn <;> split at h <;> omega
  · have hn : ¬ r.toInt < 0 := by simpa [BitVec.slt_eq_decide] using hneg
    rw [BitVec.toInt_eq_toNat_cond] at hn
    simp only [Bool.not_eq_true] at hneg
    simp only [hneg]
    simp only [BitVec.ofBool_false, show (0#1 ^^^ 0#1) = 0#1 by decide, BitVec.zero_and]
    simp
    split at hn <;> split at h <;> omega

/-- The kernel's `v mod 32` (the sign-corrected remainder), as its text has it. -/
def fmod32 (v41 : BitVec 32) : BitVec 32 :=
  let c32_i32_19 : BitVec 32 := 32#32
  let c0_i32_20 : BitVec 32 := 0#32
  let v59 : BitVec 1 := Scalar.cmpi .eq c32_i32_19 c0_i32_20
  let c1_i32_21 : BitVec 32 := 1#32
  let v60 : BitVec 32 := Scalar.select v59 c1_i32_21 c32_i32_19
  let v61 : BitVec 32 := Scalar.remsi v41 v60
  let c0_i32_23 : BitVec 32 := 0#32
  let v63 : BitVec 1 := Scalar.cmpi .slt v61 c0_i32_23
  let c0_i32_24 : BitVec 32 := 0#32
  let v64 : BitVec 1 := Scalar.cmpi .slt v60 c0_i32_24
  let v65 : BitVec 1 := Scalar.xori v63 v64
  let c0_i32_22 : BitVec 32 := 0#32
  let v62 : BitVec 1 := Scalar.cmpi .ne v61 c0_i32_22
  let v66 : BitVec 1 := Scalar.andi v65 v62
  let v67 : BitVec 32 := Scalar.addi v61 v60
  Scalar.select v66 v67 v61

theorem fmod32_lt (w : BitVec 32) : (fmod32 w).toNat < 32 := by
  have h60 : Scalar.select (Scalar.cmpi .eq 32#32 0#32) 1#32 32#32 = 32#32 := by decide
  have hs : Scalar.cmpi .slt 32#32 0#32 = 0#1 := by decide
  have hr : Scalar.remsi w 32#32 = w.srem 32#32 := by
    show (if IntOp.SDivCorner w 32#32 then _ else _) = _
    rw [if_neg]; simp [IntOp.SDivCorner]
  have := floorMod_lt w
  unfold fmod32
  simp only [h60, hs, hr]
  exact this

/-- The tile's first row, of the 4096 it and its partner copy. -/
def halfW (i : grid0.Coords) : BitVec 32 := BitVec.ofNat 32 ((i 0).val * 2048)

/-- The first of the rows a tile copies, as the kernel computes it: 2048 times its number's remainder modulo two. -/
def firstRow (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  Scalar.muli v28 c2048_i32

theorem firstRow_eq : ∀ i : grid0.Coords, firstRow i = halfW i := by decide +kernel

theorem off6_one (i : grid0.Coords) (v : BitVec 32) : k0_off6 i v 1 = (fmod32 (v - halfW i)).toNat := by
  rw [← firstRow_eq]; rfl

theorem off6_lt (i : grid0.Coords) (v : BitVec 32) : k0_off6 i v 1 < 32 := fmod32_lt _

theorem offP_inb (i : grid0.Coords) (v : BitVec 32) (n : ℕ) : ∀ a, offP i v n a + S1x1x1024.size a ≤ S2x32x1024.size a := by
  intro a
  have h0 : n % 2 < 2 := Nat.mod_lt _ (by decide)
  have h1 := off6_lt i v
  match a with
  | 0 => show n % 2 + 1 ≤ 2; omega
  | 1 => show k0_off6 i v 1 + 1 ≤ 32; omega
  | 2 => show 0 + 1024 ≤ 1024; omega

theorem chk1 (i : grid0.Coords) (v : BitVec 32) : k0_chk1 i v := by
  unfold k0_chk1 k0_chk1_0 k0_chk1_1
  and_intros
  all_goals first
    | exact fun _ => offP_inb i v 0
    | exact fun _ => offP_inb i v 1

end Cert.Proof

end
-- ==== Proof.Tile.lean ====
/-
  The SparseCore kernel's steps, one tile at a time: what each transfer and each wait of the chunk schedule does to the
  tile's resources, stated once for all chunks.
-/
module

public import proofs.«01_k».proof.Proof.Fam

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the staged call's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staged call's component. -/
def EP : Emb UP (MT nD τ sig (HIx 1) (Elt F) ℕ UU ℕ) := (Emb.inl : Emb UP (UP × Counters)).trans embR
instance EP_landsIn : (EP (F := F)).LandsIn (upEmb : UEmb _ 𝕄) := by unfold EP embR; infer_instance

/-! ## The tile, its buffers and its chunk views -/

abbrev cV (L : grid0.Coords) : Fin τ.nSC := (L 0).castLE hcore0
abbrev jV (L : grid0.Coords) : Fin τ.nSub := (L 1).castLE hsub0
/-- The tile at grid point `L` of device `d`. -/
abbrev thr (d : Dev nD) (L : grid0.Coords) : Thread nD τ := V d (cV L) (jV L)

abbrev xLoc (d : Dev nD) : Loc nD τ sig := (SparseCore.T d).loc main_arg0
abbrev tLoc (d : Dev nD) : Loc nD τ sig := (SparseCore.T d).loc main_v0
abbrev pLoc (d : Dev nD) : Loc nD τ sig := (SparseCore.T d).loc main_v23
abbrev oLoc (d : Dev nD) : Loc nD τ sig := (SparseCore.T d).loc main_v24

abbrev xV : Memref sig .scVector .hbm S16x4096x1024 .f32 := Memref.whole main_arg0_scv
abbrev tV : Memref sig .scVector .hbm S1x1024 .f32 := Memref.whole main_v0_scv
abbrev pV : Memref sig .scVector .hbm S256x16 .i32 := Memref.whole main_v23_scv
abbrev oV : Memref sig .scVector .hbm S16x4097x1024 .f32 := Memref.whole main_v24_scv
abbrev bV : Memref sig .scVector .vmem S2x32x1024 .f32 := Memref.whole cc0_scratch0
abbrev wV : Memref sig .scVector .vmem S1x1024 .f32 := Memref.whole cc0_scratch1
abbrev aV : Memref sig .scVector .vmem S8x16 .i32 := Memref.whole cc0_scratch2

theorem xC_inb : ∀ (L : grid0.Coords) (n : ℕ) (a : Fin 3), k0_off8 L (BitVec.ofNat 32 (32 * (n % 64))) a + S1x32x1024.size a ≤ S16x4096x1024.size a := by
  intro L n a
  have h : n % 64 < 64 := Nat.mod_lt _ (by decide)
  rcases hn : n % 64 with _ | k
  · have := k0_off4_inb L a
    rwa [off4_eq] at this
  · have hk : k < 63 := by omega
    have := k0_off8_inb L ⟨k, hk⟩ a
    rwa [show 32 + 32 * (⟨k, hk⟩ : Fin 63).val = 32 * (k + 1) by simp only []; omega] at this
theorem oC_inb (L : grid0.Coords) (n : ℕ) : ∀ a, k0_off7 L (BitVec.ofNat 32 (32 * (n % 64))) a + S1x32x1024.size a ≤ S16x4097x1024.size a :=
  k0_off7_inb L ⟨n % 64, Nat.mod_lt _ (by decide)⟩
theorem slot_inb (n : ℕ) : ∀ a, (![n % 2, 0, 0] : Fin 3 → ℕ) a + S1x32x1024.size a ≤ S2x32x1024.size a := by
  have h0 : n % 2 < 2 := Nat.mod_lt _ (by decide)
  intro a
  match a with
  | 0 => show n % 2 + 1 ≤ 2; omega
  | 1 => show 0 + 32 ≤ 32; omega
  | 2 => show 0 + 1024 ≤ 1024; omega
theorem sem_inb (n : ℕ) : ∀ a, (![n % 2] : Fin 1 → ℕ) a + S1.size a ≤ S2.size a := by
  have h0 : n % 2 < 2 := Nat.mod_lt _ (by decide)
  intro a
  match a with
  | 0 => show n % 2 + 1 ≤ 2; omega
theorem scoped_inb (n : ℕ) : 7 + n % 64 + S_.numel ≤ 75 := by
  have h : n % 64 < 64 := Nat.mod_lt _ (by decide)
  have : S_.numel = 1 := rfl
  omega

/-- Chunk `n` of the tile's rows of `x`. -/
abbrev xC (L : grid0.Coords) (n : ℕ) : Memref sig .scVector .hbm S32x1024 .f32 :=
  (xV.slice (Rect.unit (s := S16x4096x1024) (k0_off8 L (BitVec.ofNat 32 (32 * (n % 64)))) S1x32x1024.size (xC_inb L n)) (fun _ => rfl)).squeeze S32x1024 squeezes_S1x32x1024_S32x1024
/-- Chunk `n` of the tile's rows of the result. -/
abbrev oC (L : grid0.Coords) (n : ℕ) : Memref sig .scVector .hbm S32x1024 .f32 :=
  (oV.slice (Rect.unit (s := S16x4097x1024) (k0_off7 L (BitVec.ofNat 32 (32 * (n % 64)))) S1x32x1024.size (oC_inb L n)) (fun _ => rfl)).squeeze S32x1024 squeezes_S1x32x1024_S32x1024
/-- The slot of the tile's buffer chunk `n` goes through. -/
abbrev bC (n : ℕ) : Memref sig .scVector .vmem S32x1024 .f32 :=
  (bV.slice (Rect.unit (s := S2x32x1024) ![n % 2, 0, 0] S1x32x1024.size (slot_inb n)) (fun _ => rfl)).squeeze S32x1024 squeezes_S1x32x1024_S32x1024
/-- The row of that slot the token goes to. -/
abbrev rC (L : grid0.Coords) (v : BitVec 32) (n : ℕ) : Memref sig .scVector .vmem S1x1024 .f32 :=
  (bV.slice (Rect.unit (s := S2x32x1024) (offP L v n) S1x1x1024.size (offP_inb L v n)) (fun _ => rfl)).squeeze S1x1024 squeezes_S1x1x1024_S1x1024
/-- The semaphores of the loads into, and the stores out of, the slot of chunk `n`; and of chunk `n`'s token copy. -/
abbrev sI (n : ℕ) : DmaSem sig := ((cc0_scratch3.slice (Rect.unit (s := S2) ![n % 2] S1.size (sem_inb n))).squeeze S_ squeezes_S1_S_).sem
abbrev sO (n : ℕ) : DmaSem sig := ((cc0_scratch4.slice (Rect.unit (s := S2) ![n % 2] S1.size (sem_inb n))).squeeze S_ squeezes_S1_S_).sem
abbrev sP (n : ℕ) : DmaSem sig := (SemArray.consecutive (7 + n % 64) S_ (scoped_inb n) : DmaSems sig S_).sem

variable [FloatOps F]

/-! ## One transfer, one wait -/

section Tile

variable (d : Dev nD) (L : grid0.Coords) (O : CellTallies nD τ sig (HIx 1)) (W : Waits sig (HIx 1))

/-- A program of the tile `L` at a postcondition. -/
abbrev wpT {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- The tile's debts and recorded waits, and its leave to wait. -/
def Ow : sProp 𝕄 := iprop(Transfers.MayWaits (thr d L) (default : HIx 1) O
  ∗ ∃ W', ⌜∀ p ∈ W', p ∈ W ∨ p.2 = none⌝ ∗ owes (thr d L) O W')

theorem wp_enq {s : Shape} {e : EltTy} {sp sp' : Space} {src : Memref sig .scVector sp s e} {dst : Memref sig .scVector sp' s e} {sm : DmaSem sig}
    {hsrc : src.view.WordExact} {hdst : dst.view.WordExact} {hsem : DmaTarget.Typed (nD := nD) (τ := τ) (p := .scVector (cV L) (jV L)) sp (.dma sm) (.here dst)}
    {q : PosShare TreeShare} {fs : Buf (Elt F) (src.view.loc (thr d L))} {fd : Buf (Elt F) (dst.view.loc (thr d L))}
    {Sd : Finset (Idx (dst.view.loc (thr d L)))} {Q : PUnit → sProp 𝕄} (N : ℕ) (hN : dst.view.amount (.dma sm) = N) (hN0 : 0 < N)
    (hSd : dst.view.set ⊆ Sd) :
    iprop((src.view.loc (thr d L) ↦[src.view.set]{q} fs) ∗ (dst.view.loc (thr d L) ↦[Sd]{fullShare} fd) ∗ semVal (thr d L, .dma sm) 0)
      ⊢ iprop((Transfers.Flight countersEmb (thr d L) (.dma sm) (default : HIx 1) N
            iprop((dst.view.loc (thr d L) ↦[Sd]{fullShare} (dst.view.write (Elt F) fd (src.view.read (Elt F) fs) Finset.univ))
              ∗ (src.view.loc (thr d L) ↦[src.view.set]{q} fs)) -∗ Q ⟨⟩)
          -∗ wpT d L (Prog.lift (.enqueueDma src (.here dst) (.dma sm) hsrc hdst hsem)) Q) := by
  iintro H Hk
  iapply (Transfers.wp_dmaLocal (defs := defs₀ (F := F)) countersEmb 𝒱₀ (thr d L) none (via := ReadAs.same) (hsem := hsem) (hsrc := hsrc) (hdst := hdst)
    (default : HIx 1) N hN hN0 hSd (k := fun x => pure x) (Q := Q)) $$ H
  iintro Hf
  iapply le_wp_ret
  iapply Hk; iexact Hf

theorem wp_wt {s' s : Shape} {e' e : EltTy} {sp sp' : Space} {sem : DmaSem sig} {srcw : Memref sig .scVector sp' s' e'} {dstw : Memref sig .scVector sp s e}
    {hsrc : srcw.view.WordExact} {hdst : dstw.view.WordExact} {D : sProp 𝕄} {Q : PUnit → sProp 𝕄} (N : ℕ) (hN : dstw.view.dmaCredit = N) :
    iprop(Transfers.Flight countersEmb (thr d L) (.dma sem) (default : HIx 1) N D ∗ Ow d L O W)
      ⊢ iprop((iprop(D ∗ semVal (thr d L, .dma sem) 0 ∗ Ow d L O W) -∗ Q ⟨⟩)
          -∗ wpT d L (Prog.lift (.waitDma2 sem srcw dstw hsrc hdst)) Q) := by
  unfold Ow
  iintro ⟨Hf, #Hmw, %W', %hW', HO⟩ Hk
  iapply (Transfers.wp_waitLocalO (defs := defs₀ (F := F)) countersEmb 𝒱₀ (thr d L) none (k := fun x => pure x) (Q := Q) (default : HIx 1) hN) $$ [Hf HO]
  · isplitl [Hf]; · iexact Hf
    isplitl [HO]; · iexact HO
    iapply (Transfers.MayWaits.elim (SemLoc.dma sem)) $$ Hmw
  iintro ⟨HD, Hs, HO⟩
  iapply le_wp_ret
  iapply Hk
  isplitl [HD]; · iexact HD
  isplitl [Hs]; · iexact Hs
  isplitr; · iexact Hmw
  iexists _; isplitr
  swap; · iexact HO
  ipureintro; intro p hp
  rcases Finset.mem_insert.mp hp with hp | hp; · exact .inr (hp ▸ rfl)
  exact hW' p hp

end Tile

end Cert.Proof

end
-- ==== Proof.Steps.lean ====
/-
  The chunk schedule. A tile's state between two operations of chunk `n`'s round is one of five (`St1` … `St5`); each
  operation of the round takes one to the next, and the last takes `St5` of chunk `n` to `St1` of chunk `n + 1`.
-/
module

public import proofs.«01_k».proof.Proof.Tile

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What a tile's run is stated over: its place, the contents of `x` and of the token, the word it was handed (the row
    the token goes to), its shares of the two, the contents `f0` it finds the result at and `G` it leaves it at. -/
structure Task (F : FTy → Type) where
  d : Dev nD
  L : grid0.Coords
  X : Buf (Elt F) (xLoc d)
  Tk : Buf (Elt F) (tLoc d)
  v : BitVec 32
  q : PosShare TreeShare
  t : PosShare TreeShare
  f0 : Buf (Elt F) (oLoc d)
  G : Buf (Elt F) (oLoc d)
  O : CellTallies nD τ sig (HIx 1)
  W : Waits sig (HIx 1)

/-! ## Where the views lie -/

theorem bC_set (n : ℕ) : ((bC n).view.set : Finset S2x32x1024.Idx) = (Rect.unit (s := S2x32x1024) ![n % 2, 0, 0] S1x32x1024.size (slot_inb n)).set := by
  refine (View.set_reshape _ _).trans ?_
  exact View.set_slice_whole _ _
theorem rC_set (L : grid0.Coords) (v : BitVec 32) (n : ℕ) : ((rC L v n).view.set : Finset S2x32x1024.Idx) = (Rect.unit (s := S2x32x1024) (offP L v n) S1x1x1024.size (offP_inb L v n)).set := by
  refine (View.set_reshape _ _).trans ?_
  exact View.set_slice_whole _ _
theorem oC_set (L : grid0.Coords) (n : ℕ) : ((oC L n).view.set : Finset S16x4097x1024.Idx) = (Rect.unit (s := S16x4097x1024) (k0_off7 L (BitVec.ofNat 32 (32 * (n % 64)))) S1x32x1024.size (oC_inb L n)).set := by
  refine (View.set_reshape _ _).trans ?_
  exact View.set_slice_whole _ _
theorem rC_subset (L : grid0.Coords) (v : BitVec 32) (n : ℕ) : (rC L v n).view.set ⊆ (bC n).view.set := by
  have h : ((rC L v n).view.set : Finset S2x32x1024.Idx) ⊆ ((bC n).view.set : Finset S2x32x1024.Idx) := by
    rw [bC_set, rC_set]
    intro j hj
    rw [Rect.mem_set_unit] at hj ⊢
    have h0 := hj 0
    intro a
    match a with
    | 0 => exact h0
    | 1 => exact ⟨Nat.zero_le _, by have h : (j 1).val < 32 := (j 1).isLt; show (j 1).val < 0 + 32; omega⟩
    | 2 => exact ⟨Nat.zero_le _, by have h : (j 2).val < 1024 := (j 2).isLt; show (j 2).val < 0 + 1024; omega⟩
  exact h
/-- The elements of the two-slot buffer the slot of chunk `n` is. -/
def bset (n : ℕ) : Finset S2x32x1024.Idx := (bC n).view.set
theorem bset_add (n : ℕ) : bset (n + 2) = bset n := by
  have h : (![(n + 2) % 2, 0, 0] : Fin 3 → ℕ) = ![n % 2, 0, 0] := by rw [Nat.add_mod_right]
  refine (bC_set (n + 2)).trans (Eq.trans ?_ (bC_set n).symm)
  ext j
  rw [Rect.mem_set_unit, Rect.mem_set_unit, h]
theorem sI_add (n : ℕ) : sI (n + 2) = sI n :=
  congrArg (fun a => (SemArray.squeeze a S_ squeezes_S1_S_).sem) (SemArray.slice_unit_congr cc0_scratch3 (by rw [Nat.add_mod_right]) _ _)
theorem sO_add (n : ℕ) : sO (n + 2) = sO n :=
  congrArg (fun a => (SemArray.squeeze a S_ squeezes_S1_S_).sem) (SemArray.slice_unit_congr cc0_scratch4 (by rw [Nat.add_mod_right]) _ _)

variable [FloatOps F] (C : Task F)

/-- The tile's thread. -/
abbrev Task.thr : Thread nD τ := Proof.thr C.d C.L

/-- The share of `x` the loads into the slot of chunk `n` read at. -/
def Task.qs (n : ℕ) : PosShare TreeShare := if n % 2 = 0 then C.q.left else C.q.right

/-- What a transfer of one chunk raises its semaphore by; and of one row. -/
abbrev NI : ℕ := (bC 0).view.dmaCredit
abbrev NO : ℕ := (Memref.view (Memref.squeeze (Memref.slice oV (Rect.unit (s := S16x4097x1024) ![0, 0, 0] S1x32x1024.size (by decide)) (fun _ => rfl)) S32x1024 squeezes_S1x32x1024_S32x1024)).dmaCredit
abbrev NR : ℕ := (Memref.view (Memref.squeeze (Memref.slice bV (Rect.unit (s := S2x32x1024) ![0, 0, 0] S1x1x1024.size (by decide)) (fun _ => rfl)) S1x1024 squeezes_S1x1x1024_S1x1024)).dmaCredit

theorem NI_pos : 0 < NI := by decide
theorem NO_pos : 0 < NO := by decide
theorem NR_pos : 0 < NR := by decide

/-- The slot of chunk `n` at contents `f`. -/
def Task.slot (n : ℕ) (f : Buf (Elt F) (bV.view.loc C.thr)) : sProp 𝕄 := bV.view.loc C.thr ↦[bset n]{fullShare} f
/-- The buffer with chunk `n` landed in its slot; -/
def Task.loadF (n : ℕ) (f : Buf (Elt F) (bV.view.loc C.thr)) : Buf (Elt F) (bV.view.loc C.thr) :=
  (bC n).view.write (Elt F) f ((xC C.L n).view.read (Elt F) (show Buf (Elt F) ((xC C.L n).view.loc C.thr) from C.X)) Finset.univ
/-- and with the token's row written over it, where that row is in the chunk. -/
def Task.patF (n : ℕ) (f : Buf (Elt F) (bV.view.loc C.thr)) : Buf (Elt F) (bV.view.loc C.thr) :=
  if condF C.L C.v n = 1#1 then
    (rC C.L C.v n).view.write (Elt F) f (tV.view.read (Elt F) (show Buf (Elt F) (tV.view.loc C.thr) from C.Tk)) Finset.univ
  else f
/-- The result with chunk `n` stored from the buffer at `f`. -/
def Task.outF (n : ℕ) (f : Buf (Elt F) (bV.view.loc C.thr)) : Buf (Elt F) (oLoc C.d) :=
  (oC C.L n).view.write (Elt F) (show Buf (Elt F) ((oC C.L n).view.loc C.thr) from C.f0) ((bC n).view.read (Elt F) f) Finset.univ

/-- What the run needs of `G`: every chunk's store leaves the chunk's rows at it. -/
def Task.ok : Prop := ∀ n, n < 64 → ∀ f, ∀ j ∈ (oC C.L n).view.set, C.outF n (C.patF n (C.loadF n f)) j = C.G j

def Task.xPc (n : ℕ) : sProp 𝕄 := (xC C.L n).view.loc C.thr ↦[(xC C.L n).view.set]{C.qs n} (show Buf (Elt F) ((xC C.L n).view.loc C.thr) from C.X)
def Task.xRest (n : ℕ) : sProp 𝕄 := xLoc C.d ↦[Finset.univ \ (xC C.L n).view.set]{C.qs n} C.X
def Task.xFull (n : ℕ) : sProp 𝕄 := xLoc C.d ↦{C.qs n} C.X
def Task.tok : sProp 𝕄 := tV.view.loc C.thr ↦[tV.view.set]{C.t} (show Buf (Elt F) (tV.view.loc C.thr) from C.Tk)
def Task.i0 (n : ℕ) : sProp 𝕄 := semVal (C.thr, .dma (sI n)) 0
def Task.o0 (n : ℕ) : sProp 𝕄 := semVal (C.thr, .dma (sO n)) 0
/-- The load of chunk `n` in flight: the slot it lands in and the rows it reads, handed back when it is waited for. -/
def Task.inFl (n : ℕ) : sProp 𝕄 :=
  iprop((∃ f, Transfers.Flight countersEmb C.thr (.dma (sI n)) (default : HIx 1) NI iprop(C.slot n (C.loadF n f) ∗ C.xPc n)) ∗ C.xRest n)
/-- The piece of the result chunk `n` is. -/
def Task.oPc (n : ℕ) (f : Buf (Elt F) (oLoc C.d)) : sProp 𝕄 := (oC C.L n).view.loc C.thr ↦[(oC C.L n).view.set]{fullShare} (show Buf (Elt F) ((oC C.L n).view.loc C.thr) from f)
/-- The store of chunk `n` in flight. -/
def Task.outFl (n : ℕ) : sProp 𝕄 :=
  iprop(∃ f, Transfers.Flight countersEmb C.thr (.dma (sO n)) (default : HIx 1) NO
    iprop(C.oPc n (C.outF n (C.patF n (C.loadF n f))) ∗ C.slot n (C.patF n (C.loadF n f))))
/-- The pieces of the result, those of the first `n` chunks written. -/
def Task.outs (S : Finset (Fin 64)) (n : ℕ) : sProp 𝕄 := bigSep S fun k : Fin 64 => C.oPc k.val (if k.val < n then C.G else C.f0)
/-- The chunks' own semaphores for the token's copy. -/
def Task.bag : sProp 𝕄 := bigSep (Finset.univ : Finset (Fin 64)) fun k => semVal (C.thr, .dma (sP k.val)) 0
abbrev Task.ow : sProp 𝕄 := Ow C.d C.L C.O C.W
abbrev Task.wp {α : Type} (p : Prog (TpuEff nD τ sig (Elt F) Λ₀ (.scVector (cV C.L) (jV C.L))) α) (Q : α → sProp 𝕄) : sProp 𝕄 := wpT C.d C.L p Q

def Task.com : sProp 𝕄 := iprop(C.tok ∗ C.bag ∗ C.ow)
def Task.loaded (n : ℕ) : sProp 𝕄 := iprop((∃ f, C.slot n (C.loadF n f)) ∗ C.xFull n ∗ C.i0 n)
def Task.patched (n : ℕ) : sProp 𝕄 := iprop((∃ f, C.slot n (C.patF n (C.loadF n f))) ∗ C.xFull n ∗ C.i0 n)
def Task.free (n : ℕ) : sProp 𝕄 := iprop((∃ f, C.slot n f) ∗ C.xFull n ∗ C.i0 n)

/-! ## The operations of a round -/

theorem wait_load (n : ℕ) {h1 h2} {Q : PUnit → sProp 𝕄} :
    iprop(C.inFl n ∗ C.ow) ⊢ iprop((iprop(C.loaded n ∗ C.ow) -∗ Q ⟨⟩) -∗ C.wp (Prog.lift (.waitDma2 (sI n) (xC C.L n) (bC n) h1 h2)) Q) := by
  unfold Task.inFl Task.loaded
  iintro ⟨⟨⟨%f, Hf⟩, Hr⟩, HO⟩ Hk
  iapply (wp_wt C.d C.L C.O C.W (srcw := xC C.L n) (dstw := bC n) (hsrc := h1) (hdst := h2) NI rfl) $$ [Hf HO]
  · isplitl [Hf]; · iexact Hf
    iexact HO
  iintro ⟨⟨Hs, Hx⟩, Hv, HO⟩
  iapply Hk
  isplitr [HO]
  · isplitl [Hs]; · iexists f; iexact Hs
    isplitl [Hx Hr]
    · unfold Task.xFull
      iapply (pointsTo_split_subset (ℓ := xLoc C.d) (q := C.qs n) (f := C.X) (S := Finset.univ) (Finset.subset_univ (xC C.L n).view.set)).2
      isplitl [Hx]
      · unfold Task.xPc; iexact Hx
      · unfold Task.xRest; iexact Hr
    · unfold Task.i0; iexact Hv
  · iexact HO

theorem enq_load (n : ℕ) {h1 h2 h3} {Q : PUnit → sProp 𝕄} :
    C.free n ⊢ iprop((C.inFl n -∗ Q ⟨⟩) -∗ C.wp (Prog.lift (.enqueueDma (xC C.L n) (.here (bC n)) (.dma (sI n)) h1 h2 h3)) Q) := by
  unfold Task.free
  iintro ⟨⟨%f, Hs⟩, Hx, Hv⟩ Hk
  unfold Task.xFull
  ihave Hx := (pointsTo_split_subset (ℓ := xLoc C.d) (q := C.qs n) (f := C.X) (S := Finset.univ) (Finset.subset_univ (xC C.L n).view.set)).1 $$ Hx
  icases Hx with ⟨Hx, Hr⟩
  unfold Task.slot Task.i0
  iapply (wp_enq C.d C.L (src := xC C.L n) (dst := bC n) NI rfl NI_pos (Finset.Subset.refl _)) $$ [Hs Hx Hv]
  · isplitl [Hx]; · iexact Hx
    isplitl [Hs]; · iexact Hs
    iexact Hv
  iintro Hf
  iapply Hk
  unfold Task.inFl
  isplitl [Hf]
  · iexists f; iexact Hf
  · unfold Task.xRest; iexact Hr

theorem enq_store (n : ℕ) {h1 h2 h3} {Q : PUnit → sProp 𝕄} :
    iprop((∃ f, C.slot n (C.patF n (C.loadF n f))) ∗ C.oPc n C.f0 ∗ C.o0 n)
      ⊢ iprop((C.outFl n -∗ Q ⟨⟩) -∗ C.wp (Prog.lift (.enqueueDma (bC n) (.here (oC C.L n)) (.dma (sO n)) h1 h2 h3)) Q) := by
  iintro ⟨⟨%f, Hs⟩, Ho, Hv⟩ Hk
  unfold Task.slot Task.o0 Task.oPc
  iapply (wp_enq C.d C.L (src := bC n) (dst := oC C.L n) NO rfl NO_pos (Finset.Subset.refl _)) $$ [Hs Ho Hv]
  · isplitl [Hs]; · iexact Hs
    isplitl [Ho]; · iexact Ho
    iexact Hv
  iintro Hf
  iapply Hk
  unfold Task.outFl
  iexists f; iexact Hf

theorem wait_store (hC : C.ok) (n : ℕ) (hn : n < 64) {h1 h2} {Q : PUnit → sProp 𝕄} :
    iprop(C.outFl n ∗ C.ow)
      ⊢ iprop((iprop((∃ f, C.slot n f) ∗ C.oPc n C.G ∗ C.o0 n ∗ C.ow) -∗ Q ⟨⟩)
          -∗ C.wp (Prog.lift (.waitDma2 (sO n) (bC n) (oC C.L n) h1 h2)) Q) := by
  unfold Task.outFl
  iintro ⟨⟨%f, Hf⟩, HO⟩ Hk
  iapply (wp_wt C.d C.L C.O C.W (srcw := bC n) (dstw := oC C.L n) (hsrc := h1) (hdst := h2) NO rfl) $$ [Hf HO]
  · isplitl [Hf]; · iexact Hf
    iexact HO
  iintro ⟨⟨Ho, Hs⟩, Hv, HO⟩
  iapply Hk
  isplitl [Hs]; · iexists _; iexact Hs
  isplitl [Ho]
  · unfold Task.oPc
    iapply (Entails.of_eq (pointsTo_congr (ℓ := oLoc C.d) (f := C.outF n (C.patF n (C.loadF n f))) (g := C.G) (hC n hn f)))
    iexact Ho
  isplitl [Hv]; · unfold Task.o0; iexact Hv
  iexact HO

theorem patch {α : Type} (n : ℕ) (hn : n < 64) {k : Prog (TpuEff nD τ sig (Elt F) Λ₀ (.scVector (cV C.L) (jV C.L))) α} {a1 : tV.view.WordExact} {a2 : (rC C.L C.v n).view.WordExact}
    {a3 : DmaTarget.Typed (nD := nD) (τ := τ) (p := .scVector (cV C.L) (jV C.L)) .hbm (.dma (sP n)) (.here (rC C.L C.v n))} {a4 : tV.view.WordExact} {a5 : (rC C.L C.v n).view.WordExact} {Q : α → sProp 𝕄} :
    iprop((∃ f, C.slot n (C.loadF n f)) ∗ C.com)
      ⊢ iprop((iprop((∃ f, C.slot n (C.patF n (C.loadF n f))) ∗ C.com) -∗ C.wp k Q)
          -∗ C.wp (if _h : condF C.L C.v n = 1#1 then
              (do
                Prog.lift (.enqueueDma tV (.here (rC C.L C.v n)) (.dma (sP n)) a1 a2 a3)
                Prog.lift (.waitDma2 (sP n) tV (rC C.L C.v n) a4 a5)
                k)
            else k) Q) := by
  by_cases h : condF C.L C.v n = 1#1
  · rw [dif_pos h]
    unfold Task.wp wpT Task.com Task.bag Task.slot Task.tok
    rw [SparseCore.bigSep_erase' (Finset.mem_univ (⟨n, hn⟩ : Fin 64))]
    simp only [wp_bind]
    iintro ⟨⟨%f, Hs⟩, Ht, ⟨Hv, Hbag⟩, HO⟩ Hk
    iapply (wp_enq C.d C.L (src := tV) (dst := rC C.L C.v n) NR rfl NR_pos (rC_subset C.L C.v n)) $$ [Hs Ht Hv]
    · isplitl [Ht]; · iexact Ht
      isplitl [Hs]; · iexact Hs
      iexact Hv
    iintro Hf
    iapply (wp_wt C.d C.L C.O C.W (srcw := tV) (dstw := rC C.L C.v n) (hsrc := a4) (hdst := a5) NR rfl) $$ [Hf HO]
    · isplitl [Hf]; · iexact Hf
      iexact HO
    iintro ⟨⟨Hs, Ht⟩, Hv, HO⟩
    iapply Hk
    isplitl [Hs]
    · iexists f; unfold Task.patF; rw [if_pos h]; iexact Hs
    isplitl [Ht]; · iexact Ht
    isplitl [Hv Hbag]
    · isplitl [Hv]; · iexact Hv
      iexact Hbag
    iexact HO
  · rw [dif_neg h]
    iintro ⟨⟨%f, Hs⟩, Hcom⟩ Hk
    iapply Hk
    isplitl [Hs]
    · iexists f; unfold Task.patF; rw [if_neg h]; iexact Hs
    iexact Hcom

/-! ## The states of a round -/

/-- The next chunk's load in flight and its slot's store semaphore at rest. -/
def Task.next (n : ℕ) : sProp 𝕄 := iprop(C.inFl (n + 1) ∗ C.o0 (n + 1))
/-- Before chunk `n`'s load is waited for: it and the next are in flight; -/
def Task.St1 (n : ℕ) : sProp 𝕄 := iprop(C.inFl n ∗ C.o0 n ∗ C.outs Finset.univ n ∗ C.com ∗ C.next n)
/-- landed; -/
def Task.St2 (n : ℕ) : sProp 𝕄 := iprop(C.loaded n ∗ C.o0 n ∗ C.outs Finset.univ n ∗ C.com ∗ C.next n)
/-- patched; -/
def Task.St3 (n : ℕ) : sProp 𝕄 := iprop(C.patched n ∗ C.o0 n ∗ C.outs Finset.univ n ∗ C.com ∗ C.next n)
/-- its store in flight; -/
def Task.St4 (n : ℕ) (hn : n < 64) : sProp 𝕄 := iprop(C.outFl n ∗ (C.xFull n ∗ C.i0 n) ∗ C.outs (Finset.univ.erase ⟨n, hn⟩) n ∗ C.com ∗ C.next n)
/-- stored. -/
def Task.St5 (n : ℕ) : sProp 𝕄 := iprop(C.free n ∗ C.o0 n ∗ C.outs Finset.univ (n + 1) ∗ C.com ∗ C.next n)

theorem outs_take (n : ℕ) (hn : n < 64) : C.outs Finset.univ n = iprop(C.oPc n C.f0 ∗ C.outs (Finset.univ.erase ⟨n, hn⟩) n) := by
  unfold Task.outs
  rw [SparseCore.bigSep_erase' (Finset.mem_univ (⟨n, hn⟩ : Fin 64)), if_neg (lt_irrefl n)]

theorem outs_rest (n : ℕ) (hn : n < 64) (S : Finset (Fin 64)) : C.outs (S.erase ⟨n, hn⟩) n = C.outs (S.erase ⟨n, hn⟩) (n + 1) := by
  unfold Task.outs
  refine bigSep_congr fun k hk => congrArg (C.oPc k.val) ?_
  have hne : k.val ≠ n := fun e => (Finset.mem_erase.mp hk).1 (Fin.ext e)
  by_cases h : k.val < n
  · rw [if_pos h, if_pos (by omega)]
  · rw [if_neg h, if_neg (by omega)]

theorem outs_put (n : ℕ) (hn : n < 64) (S : Finset (Fin 64)) (hS : (⟨n, hn⟩ : Fin 64) ∈ S) :
    iprop(C.oPc n C.G ∗ C.outs (S.erase ⟨n, hn⟩) n) = C.outs S (n + 1) := by
  rw [outs_rest]
  unfold Task.outs
  rw [SparseCore.bigSep_erase' hS, if_pos (Nat.lt_succ_self n)]

theorem next_slot (n : ℕ) : C.free n = C.free (n + 2) := by
  unfold Task.free Task.slot Task.xFull Task.i0 Task.qs
  rw [bset_add, sI_add, Nat.add_mod_right]

theorem step1 (n : ℕ) {h1 h2} {Q : PUnit → sProp 𝕄} (hQ : C.St2 n ⊢ Q ⟨⟩) :
    C.St1 n ⊢ C.wp (Prog.lift (.waitDma2 (sI n) (xC C.L n) (bC n) h1 h2)) Q := by
  unfold Task.St1 Task.com
  iintro ⟨Hf, Ho, Hout, ⟨Ht, Hbag, HO⟩, Hn⟩
  iapply (wait_load C n) $$ [Hf HO]
  · isplitl [Hf]; · iexact Hf
    iexact HO
  iintro ⟨Hl, HO⟩
  iapply hQ
  unfold Task.St2 Task.com
  iframe

theorem step2 {α : Type} (n : ℕ) (hn : n < 64) {k : Prog (TpuEff nD τ sig (Elt F) Λ₀ (.scVector (cV C.L) (jV C.L))) α} {Q : α → sProp 𝕄} (hQ : C.St3 n ⊢ C.wp k Q) :
    C.St2 n ⊢ C.wp (if _h : condF C.L C.v n = 1#1 then
              (do
                Prog.lift (.enqueueDma tV (.here (rC C.L C.v n)) (.dma (sP n))
                  (Memref.isWhole_whole _).wordExact ((View.wordExact_bits rfl).reshape _ _) ⟨Or.inl rfl, trivial⟩)
                Prog.lift (.waitDma2 (sP n) tV (rC C.L C.v n)
                  (Memref.isWhole_whole _).wordExact ((View.wordExact_bits rfl).reshape _ _))
                k)
            else k) Q := by
  unfold Task.St2 Task.loaded
  iintro ⟨⟨Hs, Hx⟩, Ho, Hout, Hcom, Hn⟩
  iapply (patch C n hn) $$ [Hs Hcom]
  · iframe
  iintro ⟨Hl, HO⟩
  iapply hQ
  unfold Task.St3 Task.patched
  iframe

theorem step3 (n : ℕ) (hn : n < 64) {h1 h2 h3} {Q : PUnit → sProp 𝕄} (hQ : C.St4 n hn ⊢ Q ⟨⟩) :
    C.St3 n ⊢ C.wp (Prog.lift (.enqueueDma (bC n) (.here (oC C.L n)) (.dma (sO n)) h1 h2 h3)) Q := by
  unfold Task.St3 Task.patched
  rw [outs_take C n hn]
  iintro ⟨⟨Hs, Hx⟩, Ho, ⟨Hp, Hout⟩, Hcom, Hn⟩
  iapply (enq_store C n) $$ [Hs Hp Ho]
  · iframe
  iintro Hf
  iapply hQ
  unfold Task.St4
  iframe

theorem step4 (hC : C.ok) (n : ℕ) (hn : n < 64) {h1 h2} {Q : PUnit → sProp 𝕄} (hQ : C.St5 n ⊢ Q ⟨⟩) :
    C.St4 n hn ⊢ C.wp (Prog.lift (.waitDma2 (sO n) (bC n) (oC C.L n) h1 h2)) Q := by
  unfold Task.St4 Task.com
  iintro ⟨Hf, Hx, Hout, ⟨Ht, Hbag, HO⟩, Hn⟩
  iapply (wait_store C hC n hn) $$ [Hf HO]
  · iframe
  iintro ⟨Hs, Hp, Ho, HO⟩
  iapply hQ
  unfold Task.St5 Task.com Task.free
  rw [← outs_put C n hn Finset.univ (Finset.mem_univ _)]
  iframe

theorem step5 (n : ℕ) {h1 h2 h3} {Q : PUnit → sProp 𝕄} (hQ : C.St1 (n + 1) ⊢ Q ⟨⟩) :
    C.St5 n ⊢ C.wp (Prog.lift (.enqueueDma (xC C.L (n + 2)) (.here (bC (n + 2))) (.dma (sI (n + 2))) h1 h2 h3)) Q := by
  unfold Task.St5
  rw [next_slot]
  iintro ⟨Hs, Ho, Hout, Hcom, Hn⟩
  iapply (enq_load C (n + 2)) $$ [Hs]
  · iframe
  iintro Hf
  iapply hQ
  unfold Task.St1 Task.next
  icases Hn with ⟨Hn, Ho1⟩
  rw [show C.o0 (n + 1 + 1) = C.o0 n from by unfold Task.o0; rw [show n + 1 + 1 = n + 2 from rfl, sO_add]]
  iframe

end Cert.Proof

end
-- ==== Proof.Pro.lean ====
module

public import proofs.«01_k».proof.Proof.Steps

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (C : Task F)

/-! ## Before the rounds: the tile's word, the wrapped row, the first two loads -/

/-- The rows of the table the tile reads its word from. -/
abbrev pR (L : grid0.Coords) : Memref sig .scVector .hbm S8x16 .i32 :=
  pV.slice (Rect.unit (s := S256x16) (k0_off1 L) S8x16.size (k0_off1_inb L)) (fun _ => rfl)
/-- The row of `x` the wrapped row is, and the row of the result it goes to. -/
abbrev wX (L : grid0.Coords) (h : k0_cond1 L = 1#1) : Memref sig .scVector .hbm S1x1024 .f32 :=
  (xV.slice (Rect.unit (s := S16x4096x1024) (k0_off2 L) S1x1x1024.size (k0_off2_inb L h)) (fun _ => rfl)).squeeze S1x1024 squeezes_S1x1x1024_S1x1024
abbrev wO (L : grid0.Coords) (h : k0_cond1 L = 1#1) : Memref sig .scVector .hbm S1x1024 .f32 :=
  (oV.slice (Rect.unit (s := S16x4097x1024) (k0_off3 L) S1x1x1024.size (k0_off3_inb L h)) (fun _ => rfl)).squeeze S1x1024 squeezes_S1x1x1024_S1x1024
/-- The word of eight loaded rows. -/
abbrev aR : Rect S8x16 := Rect.unit (s := S8x16) ![0, 0] S1x16.size inb_S8x16_S1x16_0_0
def wordOf (v : Vec F S1x16 .i32) : BitVec 32 := extractAt ![0] (k0_pay1 v) inpos_S1_p0

abbrev NA : ℕ := aV.view.dmaCredit
abbrev NW : ℕ := wV.view.dmaCredit
abbrev NX : ℕ := (Memref.view (Memref.squeeze (Memref.slice oV (Rect.unit (s := S16x4097x1024) ![0, 0, 0] S1x1x1024.size (by decide)) (fun _ => rfl)) S1x1024 squeezes_S1x1x1024_S1x1024)).dmaCredit
theorem NA_pos : 0 < NA := by decide
theorem NW_pos : 0 < NW := by decide
theorem NX_pos : 0 < NX := by decide

/-- What a tile's run has besides: the table's contents and its share of them. -/
structure Pre (F : FTy → Type) extends Task F where
  P : Buf (Elt F) (pLoc d)
  p : PosShare TreeShare

variable (B : Pre F)

/-- The buffer of the eight rows, the tile's rows of the table landed in it. -/
def Pre.parF (f : Buf (Elt F) (aV.view.loc B.thr)) : Buf (Elt F) (aV.view.loc B.thr) :=
  aV.view.write (Elt F) f ((pR B.L).view.read (Elt F) (show Buf (Elt F) ((pR B.L).view.loc B.thr) from B.P)) Finset.univ
/-- The row buffer with the wrapped row landed in it; and the result with it stored. -/
def Pre.rowF (h : k0_cond1 B.L = 1#1) (f : Buf (Elt F) (wV.view.loc B.thr)) : Buf (Elt F) (wV.view.loc B.thr) :=
  wV.view.write (Elt F) f ((wX B.L h).view.read (Elt F) (show Buf (Elt F) ((wX B.L h).view.loc B.thr) from B.X)) Finset.univ
def Pre.wrapF (h : k0_cond1 B.L = 1#1) (f : Buf (Elt F) (wV.view.loc B.thr)) : Buf (Elt F) (oLoc B.d) :=
  (wO B.L h).view.write (Elt F) (show Buf (Elt F) ((wO B.L h).view.loc B.thr) from B.f0) (wV.view.read (Elt F) (B.rowF h f)) Finset.univ

/-- What the run needs of the word and of `G`'s wrapped row. -/
def Pre.okv : Prop := ∀ f, wordOf ((aV.access aR).read (Elt F) (show Buf (Elt F) ((aV.access aR).loc B.thr) from B.parF f)) = B.v
def Pre.okw : Prop := ∀ h f, ∀ j ∈ (wO B.L h).view.set, B.wrapF h f j = B.G j

def Pre.pPc : sProp 𝕄 := (pR B.L).view.loc B.thr ↦[(pR B.L).view.set]{B.p} (show Buf (Elt F) ((pR B.L).view.loc B.thr) from B.P)
def Pre.aAt (f : Buf (Elt F) (aV.view.loc B.thr)) : sProp 𝕄 := aV.view.loc B.thr ↦{fullShare} f
def Pre.wAt (f : Buf (Elt F) (wV.view.loc B.thr)) : sProp 𝕄 := wV.view.loc B.thr ↦{fullShare} f
def Pre.wPc (g : Buf (Elt F) (oLoc B.d)) : sProp 𝕄 :=
  if h : k0_cond1 B.L = 1#1 then iprop((wO B.L h).view.loc B.thr ↦[(wO B.L h).view.set]{fullShare} (show Buf (Elt F) ((wO B.L h).view.loc B.thr) from g)) else iprop(emp)
def Pre.sA : sProp 𝕄 := semVal (B.thr, .dma cc0_scoped0.sem) 0
def Pre.sW : sProp 𝕄 := semVal (B.thr, .dma cc0_scratch5.sem) 0
def Pre.sX : sProp 𝕄 := semVal (B.thr, .dma cc0_scratch6.sem) 0
/-- The table's rows in flight. -/
def Pre.pFl : sProp 𝕄 := iprop(∃ f, Transfers.Flight countersEmb B.thr (.dma cc0_scoped0.sem) (default : HIx 1) NA iprop(B.aAt (B.parF f) ∗ B.pPc))

/-- What the run holds through: the pieces of the rounds; and what the wrapped row takes, the result's row at `g`. -/
def Pre.rest : sProp 𝕄 := iprop(B.free 1 ∗ (B.o0 0 ∗ B.o0 1) ∗ B.outs Finset.univ 0 ∗ B.tok ∗ B.bag)
def Pre.wr (g : Buf (Elt F) (oLoc B.d)) : sProp 𝕄 := iprop(B.wPc g ∗ (∃ f, B.wAt f) ∗ B.sW ∗ B.sX)
def Pre.par : sProp 𝕄 := iprop((∃ f, B.aAt f) ∗ B.pPc ∗ B.sA)

/-- The states before the rounds. -/
def Pre.P0 : sProp 𝕄 := iprop(B.par ∗ B.wr B.f0 ∗ B.free 0 ∗ B.rest ∗ B.ow)
def Pre.P1 : sProp 𝕄 := iprop(B.pFl ∗ B.wr B.f0 ∗ B.free 0 ∗ B.rest ∗ B.ow)
def Pre.P2 : sProp 𝕄 := iprop(((∃ f, B.aAt (B.parF f)) ∗ B.pPc ∗ B.sA) ∗ B.wr B.f0 ∗ B.free 0 ∗ B.rest ∗ B.ow)
def Pre.P3 : sProp 𝕄 := iprop(B.par ∗ B.wr B.f0 ∗ B.free 0 ∗ B.rest ∗ B.ow)
/-- What stays put through the rounds. -/
def Pre.kept : sProp 𝕄 := iprop(B.par ∗ B.wr B.G)
def Pre.P4 : sProp 𝕄 := iprop((B.free 0 ∗ B.rest ∗ B.ow) ∗ B.kept)
def Pre.P5 : sProp 𝕄 := iprop((B.inFl 0 ∗ B.rest ∗ B.ow) ∗ B.kept)

theorem pre1 {h1 h2 h3} {Q : PUnit → sProp 𝕄} (hQ : B.P1 ⊢ Q ⟨⟩) :
    B.P0 ⊢ B.wp (Prog.lift (.enqueueDma (pR B.L) (.here aV) (.dma cc0_scoped0.sem) h1 h2 h3)) Q := by
  unfold Pre.P0 Pre.par Pre.aAt Pre.pPc Pre.sA
  iintro ⟨⟨⟨%f, Ha⟩, Hp, Hs⟩, Hr⟩
  iapply (wp_enq B.d B.L (src := pR B.L) (dst := aV) NA rfl NA_pos (Finset.subset_univ _)) $$ [Ha Hp Hs]
  · iframe
  iintro Hf
  iapply hQ
  unfold Pre.P1 Pre.pFl
  isplitl [Hf]
  · iexists f; iexact Hf
  iexact Hr

theorem pre2 {h1 h2} {Q : PUnit → sProp 𝕄} (hQ : B.P2 ⊢ Q ⟨⟩) :
    B.P1 ⊢ B.wp (Prog.lift (.waitDma2 cc0_scoped0.sem (pR B.L) aV h1 h2)) Q := by
  unfold Pre.P1 Pre.pFl
  iintro ⟨⟨%f, Hf⟩, Hw, Hs, Hr, HO⟩
  iapply (wp_wt B.d B.L B.O B.W (srcw := pR B.L) (dstw := aV) (hsrc := h1) (hdst := h2) NA rfl) $$ [Hf HO]
  · isplitl [Hf]; · iexact Hf
    iexact HO
  iintro ⟨⟨Ha, Hp⟩, Hv, HO⟩
  iapply hQ
  unfold Pre.P2 Pre.sA
  isplitl [Ha Hp Hv]
  · isplitl [Ha]; · iexists f; iexact Ha
    isplitl [Hp]; · iexact Hp
    iexact Hv
  iframe

theorem pre3 (hv : B.okv) {hl} {Q : Vec F S1x16 .i32 → sProp 𝕄} (hQ : ∀ v, wordOf v = B.v → B.P3 ⊢ Q v) :
    B.P2 ⊢ B.wp (Prog.lift (.load aV aR.toLoadRect hl)) Q := by
  unfold Pre.P2 Pre.aAt
  iintro ⟨⟨⟨%f, Ha⟩, Hp⟩, Hr⟩
  iapply (wp_load_rect 𝒱₀ (Proof.thr B.d B.L) none Set.univ (m := aV) (r := aR) (hl := hl) (k := fun x => pure x) (S := Finset.univ) (Finset.subset_univ _)) $$ Ha
  iintro Ha
  iapply le_wp_ret
  iapply (hQ _ (hv f))
  unfold Pre.P3 Pre.par Pre.aAt
  isplitl [Ha Hp]
  · isplitl [Ha]; · iexists _; iexact Ha
    iexact Hp
  iexact Hr

theorem pre4 {P : Prop} {hd : Decidable P} (hP : P) {I : sProp 𝕄} {Q : PLift P → sProp 𝕄} (hQ : ∀ h, I ⊢ Q ⟨h⟩) :
    I ⊢ C.wp (Prog.lift (TpuEff.assume P hd)) Q := by
  iintro H
  iapply (wp_assume 𝒱₀ (Proof.thr C.d C.L) none Set.univ (k := fun x => pure x) hP)
  iapply le_wp_ret
  iapply (hQ hP)
  iexact H

theorem pre5 (hw : B.okw) {α : Type} {k : Prog (TpuEff nD τ sig (Elt F) Λ₀ (.scVector (cV B.L) (jV B.L))) α} {Q : α → sProp 𝕄} (hQ : B.P4 ⊢ B.wp k Q) :
    B.P3 ⊢ B.wp (if h : k0_cond1 B.L = 1#1 then
              (do
                Prog.lift (.enqueueDma (wX B.L h) (.here wV) (.dma cc0_scratch5.sem)
                  ((View.wordExact_bits rfl).reshape _ _) (Memref.isWhole_whole _).wordExact ⟨Or.inl rfl, trivial⟩)
                Prog.lift (.waitDma2 cc0_scratch5.sem (wX B.L h) wV ((View.wordExact_bits rfl).reshape _ _) (Memref.isWhole_whole _).wordExact)
                Prog.lift (.enqueueDma wV (.here (wO B.L h)) (.dma cc0_scratch6.sem)
                  (Memref.isWhole_whole _).wordExact ((View.wordExact_bits rfl).reshape _ _) ⟨Or.inl rfl, trivial⟩)
                Prog.lift (.waitDma2 cc0_scratch6.sem wV (wO B.L h) (Memref.isWhole_whole _).wordExact ((View.wordExact_bits rfl).reshape _ _))
                k)
            else k) Q := by
  unfold Pre.P3 Pre.wr Pre.wPc
  by_cases h : k0_cond1 B.L = 1#1
  · rw [dif_pos h, dif_pos h]
    unfold Task.wp wpT Pre.sW Pre.sX Pre.wAt Task.free Task.xFull
    simp only [wp_bind]
    iintro ⟨Hp, ⟨Ho, ⟨%f, Hw⟩, HsW, HsX⟩, ⟨Hsl, Hx, Hi⟩, Hr, HO⟩
    ihave Hx := (pointsTo_split_subset (ℓ := xLoc B.d) (q := B.qs 0) (f := B.X) (S := Finset.univ) (Finset.subset_univ (wX B.L h).view.set)).1 $$ Hx
    icases Hx with ⟨Hx, Hxr⟩
    iapply (wp_enq B.d B.L (src := wX B.L h) (dst := wV) NW rfl NW_pos (Finset.subset_univ _)) $$ [Hx Hw HsW]
    · isplitl [Hx]; · iexact Hx
      isplitl [Hw]; · iexact Hw
      iexact HsW
    iintro Hf
    iapply (wp_wt B.d B.L B.O B.W (srcw := wX B.L h) (dstw := wV) (hsrc := (View.wordExact_bits rfl).reshape _ _) (hdst := (Memref.isWhole_whole _).wordExact) NW rfl) $$ [Hf HO]
    · isplitl [Hf]; · iexact Hf
      iexact HO
    iintro ⟨⟨Hw, Hx⟩, HsW, HO⟩
    ihave Hw := (pointsTo_split_subset (ℓ := wV.view.loc (Proof.thr B.d B.L)) (q := fullShare)
      (f := wV.view.write (Elt F) f ((wX B.L h).view.read (Elt F) (show Buf (Elt F) ((wX B.L h).view.loc (Proof.thr B.d B.L)) from B.X)) Finset.univ) (S := Finset.univ) (Finset.subset_univ wV.view.set)).1 $$ Hw
    icases Hw with ⟨Hw, Hwr⟩
    iapply (wp_enq B.d B.L (src := wV) (dst := wO B.L h) NX rfl NX_pos (Finset.Subset.refl _)) $$ [Ho Hw HsX]
    · isplitl [Hw]; · iexact Hw
      isplitl [Ho]; · iexact Ho
      iexact HsX
    iintro Hf
    iapply (wp_wt B.d B.L B.O B.W (srcw := wV) (dstw := wO B.L h) (hsrc := (Memref.isWhole_whole _).wordExact) (hdst := (View.wordExact_bits rfl).reshape _ _) NX rfl) $$ [Hf HO]
    · isplitl [Hf]; · iexact Hf
      iexact HO
    iintro ⟨⟨Ho, Hw⟩, HsX, HO⟩
    iapply hQ
    unfold Pre.P4 Pre.kept Pre.wr Pre.wPc Pre.sW Pre.sX
    rw [dif_pos h]
    isplitl [Hsl Hx Hxr Hi Hr HO]
    · isplitl [Hsl Hx Hxr Hi]
      · unfold Task.free Task.xFull
        isplitl [Hsl]; · iexact Hsl
        isplitl [Hx Hxr]
        · iapply (pointsTo_split_subset (ℓ := xLoc B.d) (q := B.qs 0) (f := B.X) (S := Finset.univ) (Finset.subset_univ (wX B.L h).view.set)).2
          isplitl [Hx]; · iexact Hx
          iexact Hxr
        iexact Hi
      isplitl [Hr]; · iexact Hr
      iexact HO
    isplitl [Hp]; · iexact Hp
    isplitl [Ho]
    · iapply (Entails.of_eq (pointsTo_congr (ℓ := oLoc B.d) (f := B.wrapF h f) (g := B.G) (hw h f)))
      iexact Ho
    isplitl [Hw Hwr]
    · iexists (B.rowF h f)
      unfold Pre.wAt
      iapply (pointsTo_split_subset (ℓ := wV.view.loc B.thr) (q := fullShare) (f := B.rowF h f) (S := Finset.univ) (Finset.subset_univ wV.view.set)).2
      isplitl [Hw]; · iexact Hw
      iexact Hwr
    isplitl [HsW]; · iexact HsW
    iexact HsX
  · rw [dif_neg h, dif_neg h]
    iintro ⟨Hp, ⟨Ho, Hw⟩, Hf, Hr, HO⟩
    iapply hQ
    unfold Pre.P4 Pre.kept Pre.wr Pre.wPc
    rw [dif_neg h]
    isplitl [Hf Hr HO]
    · iframe
    isplitl [Hp]; · iexact Hp
    isplitl [Ho]; · iexact Ho
    iexact Hw

theorem pre6 {h1 h2 h3} {Q : PUnit → sProp 𝕄} (hQ : B.P5 ⊢ Q ⟨⟩) :
    B.P4 ⊢ B.wp (Prog.lift (.enqueueDma (xC B.L 0) (.here (bC 0)) (.dma (sI 0)) h1 h2 h3)) Q := by
  unfold Pre.P4
  iintro ⟨⟨Hs, Hr⟩, Hk⟩
  iapply (enq_load B.toTask 0) $$ [Hs]
  · iexact Hs
  iintro Hf
  iapply hQ
  unfold Pre.P5
  isplitr [Hk]
  · isplitl [Hf]; · iexact Hf
    iexact Hr
  iexact Hk

theorem pre7 {h1 h2 h3} {Q : PUnit → sProp 𝕄} (hQ : iprop(B.St1 0 ∗ B.kept) ⊢ Q ⟨⟩) :
    B.P5 ⊢ B.wp (Prog.lift (.enqueueDma (xC B.L 1) (.here (bC 1)) (.dma (sI 1)) h1 h2 h3)) Q := by
  unfold Pre.P5 Pre.rest
  iintro ⟨⟨Hf0, ⟨Hs, ⟨Ho0, Ho1⟩, Hout, Ht, Hb⟩, HO⟩, Hk⟩
  iapply (enq_load B.toTask 1) $$ [Hs]
  · iexact Hs
  iintro Hf
  iapply hQ
  isplitr [Hk]
  · unfold Task.St1 Task.com Task.next
    iframe
  iexact Hk

end Cert.Proof

end
-- ==== Proof.Tail.lean ====
module

public import proofs.«01_k».proof.Proof.Pro

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (C : Task F)

/-! ## The last two rounds: no load follows, so their stores are waited for at the end -/

theorem outs_take' (n k : ℕ) (hn : n < 64) (hk : k ≤ n) (S : Finset (Fin 64)) (hS : (⟨n, hn⟩ : Fin 64) ∈ S) :
    C.outs S k = iprop(C.oPc n C.f0 ∗ C.outs (S.erase ⟨n, hn⟩) k) := by
  unfold Task.outs
  rw [SparseCore.bigSep_erase' hS, if_neg (Nat.not_lt.mpr hk)]

theorem free_mod (n : ℕ) : C.free n = C.free (n % 2) := by
  have hb : bset n = bset (n % 2) := by
    have h : (![n % 2, 0, 0] : Fin 3 → ℕ) = ![n % 2 % 2, 0, 0] := by rw [Nat.mod_mod]
    refine (bC_set n).trans (Eq.trans ?_ (bC_set (n % 2)).symm)
    ext j
    rw [Rect.mem_set_unit, Rect.mem_set_unit, h]
  have hs : sI n = sI (n % 2) :=
    congrArg (fun a => (SemArray.squeeze a S_ squeezes_S1_S_).sem) (SemArray.slice_unit_congr cc0_scratch3 (by rw [Nat.mod_mod]) _ _)
  unfold Task.free Task.slot Task.xFull Task.i0 Task.qs
  rw [hb, hs, Nat.mod_mod]
theorem o0_mod (n : ℕ) : C.o0 n = C.o0 (n % 2) := by
  have hs : sO n = sO (n % 2) :=
    congrArg (fun a => (SemArray.squeeze a S_ squeezes_S1_S_).sem) (SemArray.slice_unit_congr cc0_scratch4 (by rw [Nat.mod_mod]) _ _)
  unfold Task.o0
  rw [hs]

/-- Chunk 62's store in flight, and chunk 63 landed; patched; its store in flight too; the first waited for; both. -/
def Task.fl62 : sProp 𝕄 := iprop(C.outFl 62 ∗ (C.xFull 62 ∗ C.i0 62))
def Task.T1 : sProp 𝕄 := iprop(C.fl62 ∗ C.outs (Finset.univ.erase ⟨62, by decide⟩) 62 ∗ C.com ∗ C.loaded 63 ∗ C.o0 63)
def Task.T2 : sProp 𝕄 := iprop(C.fl62 ∗ C.outs (Finset.univ.erase ⟨62, by decide⟩) 62 ∗ C.com ∗ C.patched 63 ∗ C.o0 63)
def Task.T3 : sProp 𝕄 := iprop(C.fl62 ∗ C.outs ((Finset.univ.erase ⟨62, by decide⟩).erase ⟨63, by decide⟩) 62 ∗ C.com ∗ (C.outFl 63 ∗ (C.xFull 63 ∗ C.i0 63)))
def Task.T4 : sProp 𝕄 := iprop((C.free 62 ∗ C.o0 62) ∗ C.outs (Finset.univ.erase ⟨63, by decide⟩) 63 ∗ C.com ∗ (C.outFl 63 ∗ (C.xFull 63 ∗ C.i0 63)))
def Task.T5 : sProp 𝕄 := iprop((C.free 0 ∗ C.o0 0) ∗ (C.free 1 ∗ C.o0 1) ∗ C.outs Finset.univ 64 ∗ C.com)

theorem tail1 (hn : 62 < 64) {h1 h2} {Q : PUnit → sProp 𝕄} (hQ : C.T1 ⊢ Q ⟨⟩) :
    C.St4 62 hn ⊢ C.wp (Prog.lift (.waitDma2 (sI 63) (xC C.L 63) (bC 63) h1 h2)) Q := by
  unfold Task.St4 Task.com Task.next
  iintro ⟨Hf2, Hx, Hout, ⟨Ht, Hbag, HO⟩, Hf, Ho⟩
  iapply (wait_load C 63) $$ [Hf HO]
  · isplitl [Hf]; · iexact Hf
    iexact HO
  iintro ⟨Hl, HO⟩
  iapply hQ
  unfold Task.T1 Task.fl62 Task.com
  iframe

theorem tail2 {α : Type} {k : Prog (TpuEff nD τ sig (Elt F) Λ₀ (.scVector (cV C.L) (jV C.L))) α} {Q : α → sProp 𝕄} (hQ : C.T2 ⊢ C.wp k Q) :
    C.T1 ⊢ C.wp (if _h : condF C.L C.v 63 = 1#1 then
              (do
                Prog.lift (.enqueueDma tV (.here (rC C.L C.v 63)) (.dma (sP 63))
                  (Memref.isWhole_whole _).wordExact ((View.wordExact_bits rfl).reshape _ _) ⟨Or.inl rfl, trivial⟩)
                Prog.lift (.waitDma2 (sP 63) tV (rC C.L C.v 63)
                  (Memref.isWhole_whole _).wordExact ((View.wordExact_bits rfl).reshape _ _))
                k)
            else k) Q := by
  unfold Task.T1 Task.loaded
  iintro ⟨Hf, Hout, Hcom, ⟨Hs, Hx⟩, Ho⟩
  iapply (patch C 63 (by decide)) $$ [Hs Hcom]
  · iframe
  iintro ⟨Hl, HO⟩
  iapply hQ
  unfold Task.T2 Task.patched
  iframe

theorem tail3 {h1 h2 h3} {Q : PUnit → sProp 𝕄} (hQ : C.T3 ⊢ Q ⟨⟩) :
    C.T2 ⊢ C.wp (Prog.lift (.enqueueDma (bC 63) (.here (oC C.L 63)) (.dma (sO 63)) h1 h2 h3)) Q := by
  unfold Task.T2 Task.patched
  rw [outs_take' C 63 62 (by decide) (by decide) _ (by decide)]
  iintro ⟨Hf2, ⟨Hp, Hout⟩, Hcom, ⟨Hs, Hx⟩, Ho⟩
  iapply (enq_store C 63) $$ [Hs Hp Ho]
  · iframe
  iintro Hf
  iapply hQ
  unfold Task.T3
  iframe

theorem tail4 (hC : C.ok) {h1 h2} {Q : PUnit → sProp 𝕄} (hQ : C.T4 ⊢ Q ⟨⟩) :
    C.T3 ⊢ C.wp (Prog.lift (.waitDma2 (sO 62) (bC 62) (oC C.L 62) h1 h2)) Q := by
  unfold Task.T3 Task.com Task.fl62
  iintro ⟨⟨Hf, Hx⟩, Hout, ⟨Ht, Hbag, HO⟩, Hr⟩
  iapply (wait_store C hC 62 (by decide)) $$ [Hf HO]
  · iframe
  iintro ⟨Hs, Hp, Ho, HO⟩
  iapply hQ
  unfold Task.T4 Task.com Task.free
  rw [Finset.erase_right_comm, ← outs_put C 62 (by decide) (Finset.univ.erase ⟨63, by decide⟩) (by decide)]
  iframe

theorem tail5 (hC : C.ok) {h1 h2} {Q : PUnit → sProp 𝕄} (hQ : C.T5 ⊢ Q ⟨⟩) :
    C.T4 ⊢ C.wp (Prog.lift (.waitDma2 (sO 63) (bC 63) (oC C.L 63) h1 h2)) Q := by
  unfold Task.T4 Task.com
  iintro ⟨⟨Hf2, Ho2⟩, Hout, ⟨Ht, Hbag, HO⟩, Hf, Hx, Hi⟩
  iapply (wait_store C hC 63 (by decide)) $$ [Hf HO]
  · iframe
  iintro ⟨Hs, Hp, Ho, HO⟩
  iapply hQ
  unfold Task.T5 Task.com
  rw [show C.free 0 = C.free 62 from (free_mod C 62).symm, show C.o0 0 = C.o0 62 from (o0_mod C 62).symm,
    show C.free 1 = C.free 63 from (free_mod C 63).symm, show C.o0 1 = C.o0 63 from (o0_mod C 63).symm,
    ← outs_put C 63 (by decide) Finset.univ (Finset.mem_univ _)]
  isplitl [Hf2 Ho2]; · iframe
  isplitl [Hs Ho Hx Hi]
  · unfold Task.free; iframe
  iframe

/-! ## Walking along a program -/

theorem bind_step {α β : Type} {I : sProp 𝕄} {p : Prog (TpuEff nD τ sig (Elt F) Λ₀ (.scVector (cV C.L) (jV C.L))) α}
    {k : α → Prog (TpuEff nD τ sig (Elt F) Λ₀ (.scVector (cV C.L) (jV C.L))) β} {Q : β → sProp 𝕄}
    (h : I ⊢ C.wp p (fun x => C.wp (k x) Q)) : I ⊢ C.wp (p >>= k) Q := by
  unfold Task.wp wpT at *
  rw [wp_bind]; exact h
theorem pure_step {α : Type} {I : sProp 𝕄} {a : α} {Q : α → sProp 𝕄} (h : I ⊢ Q a) :
    I ⊢ C.wp (pure a : Prog (TpuEff nD τ sig (Elt F) Λ₀ (.scVector (cV C.L) (jV C.L))) α) Q := by
  unfold Task.wp wpT; iintro H; iapply le_wp_ret; iapply h; iexact H
/-- A part that returns a word one of a run's facts names, a proof and two more words no fact needs. -/
theorem pure_word {P : BitVec 32 → Prop} {I : sProp 𝕄} {w : BitVec 32} {h : P w} {a : BitVec 1} {b : BitVec 32}
    {Q : (Σ' (v : BitVec 32) (_ : P v) (_ : BitVec 1), BitVec 32) → sProp 𝕄} (hw : w = C.v)
    (H : ∀ h a b, I ⊢ Q ⟨C.v, h, a, b⟩) :
    I ⊢ C.wp (pure ⟨w, h, a, b⟩ : Prog (TpuEff nD τ sig (Elt F) Λ₀ (.scVector (cV C.L) (jV C.L))) _) Q := by
  subst hw; exact pure_step C (H _ _ _)
theorem pure_words {I : sProp 𝕄} {a b : BitVec 32} {Q : (Σ' (_ : BitVec 32), BitVec 32) → sProp 𝕄}
    (H : ∀ a b, I ⊢ Q ⟨a, b⟩) :
    I ⊢ C.wp (pure ⟨a, b⟩ : Prog (TpuEff nD τ sig (Elt F) Λ₀ (.scVector (cV C.L) (jV C.L))) _) Q :=
  pure_step C (H _ _)
theorem frame_step {α : Type} {I R : sProp 𝕄} {p : Prog (TpuEff nD τ sig (Elt F) Λ₀ (.scVector (cV C.L) (jV C.L))) α} {Q : α → sProp 𝕄}
    (h : I ⊢ C.wp p (fun x => iprop(R -∗ Q x))) : iprop(I ∗ R) ⊢ C.wp p Q := by
  unfold Task.wp wpT at *
  iintro ⟨HI, HR⟩
  ihave HI := h $$ HI
  iapply (wp_wand_r _ _ _)
  isplitl [HI]; · iexact HI
  iintro %x HQ
  iapply HQ; iexact HR

/-- The first chunk's offset, which the program spells apart. -/
theorem step1_first {off : Fin 3 → ℕ} {inb} (ho : off = k0_off8 C.L (BitVec.ofNat 32 (32 * (0 % 64)))) {h1 h2} {Q : PUnit → sProp 𝕄} (hQ : C.St2 0 ⊢ Q ⟨⟩) :
    C.St1 0 ⊢ C.wp (Prog.lift (.waitDma2 (sI 0)
      ((xV.slice (Rect.unit (s := S16x4096x1024) off S1x32x1024.size inb) (fun _ => rfl)).squeeze S32x1024 squeezes_S1x32x1024_S32x1024) (bC 0) h1 h2)) Q := by
  subst ho
  exact step1 C 0 hQ
theorem pre6_first (B : Pre F) {off : Fin 3 → ℕ} {inb} (ho : off = k0_off8 B.L (BitVec.ofNat 32 (32 * (0 % 64)))) {h1 h2 h3} {Q : PUnit → sProp 𝕄} (hQ : B.P5 ⊢ Q ⟨⟩) :
    B.P4 ⊢ B.wp (Prog.lift (.enqueueDma
      ((xV.slice (Rect.unit (s := S16x4096x1024) off S1x32x1024.size inb) (fun _ => rfl)).squeeze S32x1024 squeezes_S1x32x1024_S32x1024) (.here (bC 0)) (.dma (sI 0)) h1 h2 h3)) Q := by
  subst ho
  exact pre6 B hQ

end Cert.Proof

end
-- ==== Proof.Geo.lean ====
module

public import proofs.«01_k».proof.Proof.Tail

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Where the program's offsets are -/

theorem off7_eq : ∀ (L : grid0.Coords) (n : Fin 64), k0_off7 L (BitVec.ofNat 32 (32 * n.val)) = ![(L 1).val, (L 0).val * 2048 + 32 * n.val, 0] := by decide +kernel
theorem off8_eq : ∀ (L : grid0.Coords) (n : Fin 64), k0_off8 L (BitVec.ofNat 32 (32 * n.val)) = ![(L 1).val, (L 0).val * 2048 + 32 * n.val, 0] := by decide +kernel
theorem off1_eq : ∀ L : grid0.Coords, k0_off1 L = ![8 * (2 * (L 1).val + (L 0).val), 0] := by decide +kernel
theorem off2_eq : ∀ L : grid0.Coords, k0_off2 L = ![(L 1).val, 0, 0] := by decide +kernel
theorem off3_eq : ∀ L : grid0.Coords, k0_off3 L = ![(L 1).val, 4096, 0] := by decide +kernel
theorem cond1_iff : ∀ L : grid0.Coords, k0_cond1 L = 1#1 ↔ (L 0).val = 1 := by decide +kernel

theorem L0_lt (L : grid0.Coords) : (L 0).val < 2 := (L 0).isLt
theorem L1_lt (L : grid0.Coords) : (L 1).val < 16 := (L 1).isLt

/-- The tile at core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))
theorem coordsV_self (L : grid0.Coords) : coordsV (L 0) (L 1) = L := by
  funext a
  match a with
  | 0 => rfl
  | 1 => rfl
  | ⟨_ + 2, h⟩ => exact absurd h (Nat.not_lt.2 (Nat.le_add_left _ _))

/-! ## Indices -/

abbrev IX : Type := S16x4096x1024.Idx
abbrev IO : Type := S16x4097x1024.Idx

theorem io0 (j : IO) : (j 0).val < 16 := (j 0).isLt
theorem io1 (j : IO) : (j 1).val < 4097 := (j 1).isLt
theorem io2 (j : IO) : (j 2).val < 1024 := (j 2).isLt

/-- The tile that writes an element of the result. -/
def tileOf (j : IO) : grid0.Coords := coordsV (if (j 1).val < 2048 then ⟨0, by decide⟩ else ⟨1, by decide⟩) ⟨(j 0).val, (j 0).isLt⟩

theorem tileOf_iff (j : IO) (L : grid0.Coords) :
    tileOf j = L ↔ (j 0).val = (L 1).val ∧ ((j 1).val < 2048 ↔ (L 0).val = 0) := by
  have h0 := L0_lt L
  constructor
  · rintro rfl
    refine ⟨rfl, ?_⟩
    show _ ↔ (if (j 1).val < 2048 then (⟨0, by decide⟩ : Fin (grid0.bound 0)) else ⟨1, by decide⟩).val = 0
    by_cases h : (j 1).val < 2048
    · rw [if_pos h]; exact ⟨fun _ => rfl, fun _ => h⟩
    · rw [if_neg h]; exact ⟨fun h' => absurd h' h, fun h' => absurd h' (by decide)⟩
  · rintro ⟨h1, h2⟩
    refine Eq.trans ?_ (coordsV_self L)
    have e1 : (⟨(j 0).val, (j 0).isLt⟩ : Fin (grid0.bound 1)) = L 1 := Fin.ext h1
    have e0 : (if (j 1).val < 2048 then (⟨0, by decide⟩ : Fin (grid0.bound 0)) else ⟨1, by decide⟩) = L 0 := by
      by_cases h : (j 1).val < 2048
      · rw [if_pos h]; exact Fin.ext (h2.mp h).symm
      · rw [if_neg h]
        refine Fin.ext ?_
        have : (L 0).val ≠ 0 := fun e => h (h2.mpr e)
        show 1 = (L 0).val
        omega
    unfold tileOf
    rw [e0, e1]

/-- The elements a tile writes; and those of one of its chunks, and of the wrapped row. -/
def rset (L : grid0.Coords) : Finset IO := Finset.univ.filter fun j => tileOf j = L
def oset (L : grid0.Coords) (n : ℕ) : Finset IO := (oC L n).view.set
def wset (L : grid0.Coords) (h : k0_cond1 L = 1#1) : Finset IO := (wO L h).view.set

theorem mem_oset (L : grid0.Coords) (n : ℕ) (hn : n < 64) (j : IO) :
    j ∈ oset L n ↔ (j 0).val = (L 1).val ∧ (L 0).val * 2048 + 32 * n ≤ (j 1).val ∧ (j 1).val < (L 0).val * 2048 + 32 * n + 32 := by
  have hj2 := io2 j
  have e : k0_off7 L (BitVec.ofNat 32 (32 * (n % 64))) = ![(L 1).val, (L 0).val * 2048 + 32 * n, 0] := by
    rw [Nat.mod_eq_of_lt hn]; exact off7_eq L ⟨n, hn⟩
  rw [show oset L n = _ from oC_set L n, Rect.mem_set_unit]
  simp only [e]
  constructor
  · intro h
    have h0 : (L 1).val ≤ (j 0).val ∧ (j 0).val < (L 1).val + 1 := h 0
    have h1 : (L 0).val * 2048 + 32 * n ≤ (j 1).val ∧ (j 1).val < (L 0).val * 2048 + 32 * n + 32 := h 1
    exact ⟨by omega, h1⟩
  · rintro ⟨h0, h1⟩ a
    match a with
    | 0 => show (L 1).val ≤ (j 0).val ∧ (j 0).val < (L 1).val + 1; omega
    | 1 => exact h1
    | 2 => show 0 ≤ (j 2).val ∧ (j 2).val < 0 + 1024; omega

theorem wO_set (L : grid0.Coords) (h : k0_cond1 L = 1#1) : ((wO L h).view.set : Finset IO) = (Rect.unit (s := S16x4097x1024) (k0_off3 L) S1x1x1024.size (k0_off3_inb L h)).set := by
  refine (View.set_reshape _ _).trans ?_
  exact View.set_slice_whole _ _

theorem mem_wset (L : grid0.Coords) (h : k0_cond1 L = 1#1) (j : IO) : j ∈ wset L h ↔ (j 0).val = (L 1).val ∧ (j 1).val = 4096 := by
  have hj2 := io2 j
  rw [show wset L h = _ from wO_set L h, Rect.mem_set_unit]
  simp only [off3_eq]
  constructor
  · intro h
    have h0 : (L 1).val ≤ (j 0).val ∧ (j 0).val < (L 1).val + 1 := h 0
    have h1 : 4096 ≤ (j 1).val ∧ (j 1).val < 4096 + 1 := h 1
    omega
  · rintro ⟨h0, h1⟩ a
    match a with
    | 0 => show (L 1).val ≤ (j 0).val ∧ (j 0).val < (L 1).val + 1; omega
    | 1 => show 4096 ≤ (j 1).val ∧ (j 1).val < 4096 + 1; omega
    | 2 => show 0 ≤ (j 2).val ∧ (j 2).val < 0 + 1024; omega

theorem oset_disjoint (L : grid0.Coords) : ∀ i ∈ (Finset.univ : Finset (Fin 64)), ∀ k ∈ (Finset.univ : Finset (Fin 64)), i ≠ k → Disjoint (oset L i.val) (oset L k.val) := by
  intro i _ k _ hik
  rw [Finset.disjoint_left]
  intro j hi hk
  rw [mem_oset L _ i.isLt] at hi
  rw [mem_oset L _ k.isLt] at hk
  exact hik (Fin.ext (by omega))

theorem oset_sub (L : grid0.Coords) : (Finset.univ : Finset (Fin 64)).biUnion (fun k => oset L k.val) ⊆ rset L := by
  intro j hj
  obtain ⟨k, _, hk⟩ := Finset.mem_biUnion.mp hj
  rw [mem_oset L _ k.isLt] at hk
  refine Finset.mem_filter.mpr ⟨Finset.mem_univ _, (tileOf_iff j L).mpr ⟨hk.1, ?_⟩⟩
  have := L0_lt L
  have := k.isLt
  omega

theorem mem_rest (L : grid0.Coords) (j : IO) :
    j ∈ rset L \ (Finset.univ : Finset (Fin 64)).biUnion (fun k => oset L k.val) ↔ (j 0).val = (L 1).val ∧ (j 1).val = 4096 ∧ (L 0).val = 1 := by
  have h0 := L0_lt L
  have h1 := io1 j
  rw [Finset.mem_sdiff]
  constructor
  · rintro ⟨hr, hn⟩
    have hr := (tileOf_iff j L).mp (Finset.mem_filter.mp hr).2
    refine ⟨hr.1, ?_⟩
    by_contra hc
    have hlt : (j 1).val - (L 0).val * 2048 < 2048 := by omega
    refine hn (Finset.mem_biUnion.mpr ⟨⟨((j 1).val - (L 0).val * 2048) / 32, by omega⟩, Finset.mem_univ _, (mem_oset L _ (by omega) j).mpr ⟨hr.1, ?_⟩⟩)
    simp only
    omega
  · rintro ⟨ha, hb, hc⟩
    refine ⟨Finset.mem_filter.mpr ⟨Finset.mem_univ _, (tileOf_iff j L).mpr ⟨ha, by omega⟩⟩, fun hm => ?_⟩
    obtain ⟨k, _, hk⟩ := Finset.mem_biUnion.mp hm
    rw [mem_oset L _ k.isLt] at hk
    have := k.isLt
    omega

/-- A tile's part of the result, apart: its chunks, and the wrapped row where it has it. -/
theorem out_split (d : Dev nD) (L : grid0.Coords) (g : Buf (Elt F) (oLoc d)) :
    (oLoc d ↦[rset L]{fullShare} g : sProp 𝕄)
      = iprop((bigSep Finset.univ fun k : Fin 64 => oLoc d ↦[oset L k.val]{fullShare} g)
          ∗ (if h : k0_cond1 L = 1#1 then oLoc d ↦[wset L h]{fullShare} g else iprop(emp))) := by
  rw [BI.Entails.antisymm (pointsTo_split_subset (ℓ := oLoc d) (q := fullShare) (f := g) (oset_sub L)).1 (pointsTo_split_subset (ℓ := oLoc d) (q := fullShare) (f := g) (oset_sub L)).2,
    pointsTo_biUnion Finset.univ (ℓ := oLoc d) (fun k : Fin 64 => oset L k.val) (oset_disjoint L)]
  congr 1
  by_cases h : k0_cond1 L = 1#1
  · rw [dif_pos h]
    have e : rset L \ (Finset.univ : Finset (Fin 64)).biUnion (fun k => oset L k.val) = wset L h := by
      ext j
      rw [mem_rest, mem_wset]
      have := (cond1_iff L).mp h
      tauto
    rw [e]
  · rw [dif_neg h]
    have e : rset L \ (Finset.univ : Finset (Fin 64)).biUnion (fun k => oset L k.val) = ∅ := by
      ext j
      rw [mem_rest]
      have := mt (cond1_iff L).mpr h
      simp only [Finset.notMem_empty, iff_false]
      tauto
    rw [e]
    exact pointsTo_empty

/-- The whole result is the tiles' parts. -/
theorem rset_split (d : Dev nD) (g : Buf (Elt F) (oLoc d)) :
    (oLoc d ↦{fullShare} g : sProp 𝕄) = bigSep Finset.univ fun c : Fin 2 => bigSep Finset.univ fun s : Fin 16 => oLoc d ↦[rset (coordsV c s)]{fullShare} g := by
  have hd : ∀ i ∈ (Finset.univ : Finset (Fin 2 × Fin 16)), ∀ k ∈ (Finset.univ : Finset (Fin 2 × Fin 16)), i ≠ k → Disjoint (rset (coordsV i.1 i.2)) (rset (coordsV k.1 k.2)) := by
    intro i _ k _ hik
    rw [Finset.disjoint_left]
    intro j hi hk
    have e : coordsV i.1 i.2 = coordsV k.1 k.2 := (Finset.mem_filter.mp hi).2.symm.trans (Finset.mem_filter.mp hk).2
    exact hik (Prod.ext (congrFun e 0) (congrFun e 1))
  have hc : (Finset.univ : Finset (Fin 2 × Fin 16)).biUnion (fun i => rset (coordsV i.1 i.2)) = (Finset.univ : Finset IO) := by
    ext j
    simp only [Finset.mem_univ, iff_true, Finset.mem_biUnion, true_and]
    exact ⟨((tileOf j) 0, (tileOf j) 1), Finset.mem_filter.mpr ⟨Finset.mem_univ _, (coordsV_self _).symm⟩⟩
  refine (show (oLoc d ↦{fullShare} g : sProp 𝕄) = oLoc d ↦[(Finset.univ : Finset (Fin 2 × Fin 16)).biUnion (fun i => rset (coordsV i.1 i.2))]{fullShare} g by rw [hc]).trans ?_
  rw [pointsTo_biUnion Finset.univ (ℓ := oLoc d) _ hd]
  exact bigSep_univ_prod _

end Cert.Proof

end
-- ==== Proof.Vals.lean ====
module

public import proofs.«01_k».proof.Proof.Geo
public import Idealize.ShloMosaic.Lib.ValueIdxCore

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

/-! ## Where an element of a chunk lies -/

theorem fam_off7 (L : grid0.Coords) (n : ℕ) (hn : n < 64) : k0_off7 L (BitVec.ofNat 32 (32 * (n % 64))) = ![(L 1).val, (L 0).val * 2048 + 32 * n, 0] := by
  rw [Nat.mod_eq_of_lt hn]; exact off7_eq L ⟨n, hn⟩
theorem fam_off8 (L : grid0.Coords) (n : ℕ) (hn : n < 64) : k0_off8 L (BitVec.ofNat 32 (32 * (n % 64))) = ![(L 1).val, (L 0).val * 2048 + 32 * n, 0] := by
  rw [Nat.mod_eq_of_lt hn]; exact off8_eq L ⟨n, hn⟩

/-- Element `y` of a block of a rank-three array, its unit axis dropped, is the array's at the block's offsets plus `y`. -/
theorem emb_block {sp : Space} {e : EltTy} {n0 n1 n2 r : ℕ} (M : Memref sig .scVector sp ⟨3, ![n0, n1, n2]⟩ e) (off : Fin 3 → ℕ)
    (inb : ∀ a, off a + (![1, r, n2] : Fin 3 → ℕ) a ≤ (![n0, n1, n2] : Fin 3 → ℕ) a) (hr) (hq : (⟨3, ![1, r, n2]⟩ : Shape).Squeezes ⟨2, ![r, n2]⟩)
    (y : (⟨2, ![r, n2]⟩ : Shape).Idx) (z : (⟨3, ![n0, n1, n2]⟩ : Shape).Idx) (h0 : (z 0).val = off 0) (h1 : (z 1).val = off 1 + (y 0).val) (h2 : (z 2).val = off 2 + (y 1).val) :
    ((M.slice (Rect.unit (s := ⟨3, ![n0, n1, n2]⟩) off ![1, r, n2] inb) hr).squeeze ⟨2, ![r, n2]⟩ hq).view.emb y = M.view.emb z := by
  have e1 : ((M.slice (Rect.unit (s := ⟨3, ![n0, n1, n2]⟩) off ![1, r, n2] inb) hr).squeeze ⟨2, ![r, n2]⟩ hq).view.emb y
      = M.view.emb ((Rect.unit (s := ⟨3, ![n0, n1, n2]⟩) off ![1, r, n2] inb).emb (Shape.reshapeEquiv hq.numel_eq y)) := rfl
  rw [e1, Shape.reshapeEquiv_cons_one]
  congr 1
  funext a
  apply Fin.ext
  rw [Rect.emb_apply]
  match a with
  | ⟨0, _⟩ => show off 0 + 1 * 0 = (z 0).val; omega
  | ⟨1, _⟩ => show off 1 + 1 * (y 0).val = (z 1).val; omega
  | ⟨2, _⟩ => show off 2 + 1 * (y 1).val = (z 2).val; omega

abbrev I32 : Type := S32x1024.Idx
abbrev IB : Type := S2x32x1024.Idx

theorem y0_lt (y : I32) : (y 0).val < 32 := (y 0).isLt
theorem y1_lt (y : I32) : (y 1).val < 1024 := (y 1).isLt

theorem row_lt (L : grid0.Coords) (n : ℕ) (hn : n < 64) (y : I32) : (L 0).val * 2048 + 32 * n + (y 0).val < 4096 := by
  have := L0_lt L; have := y0_lt y; omega

/-- The element of the result, of `x` and of the buffer that element `y` of chunk `n` is. -/
def oAt (L : grid0.Coords) (n : ℕ) (hn : n < 64) (y : I32) : IO :=
  ix3 (n0 := 16) (n1 := 4097) (n2 := 1024) ⟨(L 1).val, L1_lt L⟩ ⟨(L 0).val * 2048 + 32 * n + (y 0).val, by have := row_lt L n hn y; omega⟩ ⟨(y 1).val, y1_lt y⟩
def xAt (L : grid0.Coords) (n : ℕ) (hn : n < 64) (y : I32) : IX :=
  ix3 (n0 := 16) (n1 := 4096) (n2 := 1024) ⟨(L 1).val, L1_lt L⟩ ⟨(L 0).val * 2048 + 32 * n + (y 0).val, row_lt L n hn y⟩ ⟨(y 1).val, y1_lt y⟩
def bAt (n : ℕ) (y : I32) : IB :=
  ix3 (n0 := 2) (n1 := 32) (n2 := 1024) ⟨n % 2, Nat.mod_lt _ (by decide)⟩ ⟨(y 0).val, y0_lt y⟩ ⟨(y 1).val, y1_lt y⟩

theorem oC_emb (L : grid0.Coords) (n : ℕ) (hn : n < 64) (y : I32) : (oC L n).view.emb y = oAt L n hn y := by
  refine emb_block oV _ _ _ _ y (oAt L n hn y) ?_ ?_ ?_ <;> rw [fam_off7 L n hn]
  · rfl
  · rfl
  · exact (Nat.zero_add _).symm
theorem xC_emb (L : grid0.Coords) (n : ℕ) (hn : n < 64) (y : I32) : (xC L n).view.emb y = xAt L n hn y := by
  refine emb_block xV _ _ _ _ y (xAt L n hn y) ?_ ?_ ?_ <;> rw [fam_off8 L n hn]
  · rfl
  · rfl
  · exact (Nat.zero_add _).symm
theorem bC_emb (n : ℕ) (y : I32) : (bC n).view.emb y = bAt n y := by
  refine emb_block bV _ _ _ _ y (bAt n y) ?_ ?_ ?_
  · rfl
  · exact (Nat.zero_add _).symm
  · exact (Nat.zero_add _).symm
theorem rC_emb (L : grid0.Coords) (v : BitVec 32) (n : ℕ) (y : I32) (h : (y 0).val = k0_off6 L v 1) :
    (rC L v n).view.emb (ix2 (n0 := 1) (n1 := 1024) ⟨0, Nat.one_pos⟩ ⟨(y 1).val, y1_lt y⟩) = bAt n y := by
  refine emb_block bV _ _ _ _ (ix2 (n0 := 1) (n1 := 1024) ⟨0, Nat.one_pos⟩ ⟨(y 1).val, y1_lt y⟩) (bAt n y) ?_ ?_ ?_
  · rfl
  · exact h
  · exact (Nat.zero_add _).symm
theorem rC_not (L : grid0.Coords) (v : BitVec 32) (n : ℕ) (y : I32) (h : (y 0).val ≠ k0_off6 L v 1) : bAt n y ∉ (rC L v n).view.set := by
  rw [show ((rC L v n).view.set : Finset IB) = _ from rC_set L v n, Rect.mem_set_unit]
  intro hh
  have h1 : k0_off6 L v 1 ≤ (y 0).val ∧ (y 0).val < k0_off6 L v 1 + 1 := hh 1
  omega

/-! ## The result -/

/-- The word a tile reads of the table. -/
def wordAt {d : Dev nD} (P : Buf (Elt F) (pLoc d)) (L : grid0.Coords) : BitVec 32 :=
  P (ix2 (n0 := 256) (n1 := 16) ⟨8 * (2 * (L 1).val + (L 0).val), by have := L0_lt L; have := L1_lt L; omega⟩ ⟨0, by decide⟩)

/-- The row of the token, for the tile that has it. -/
def hitAt (L : grid0.Coords) (v : BitVec 32) (n r : ℕ) : Prop := condF L v n = 1#1 ∧ r = k0_off6 L v 1
instance (L : grid0.Coords) (v : BitVec 32) (n r : ℕ) : Decidable (hitAt L v n r) := by unfold hitAt; infer_instance

/-- What the tiles leave: row `j` of `x` or the token, and below them the first row again. -/
def resG {d : Dev nD} (X : Buf (Elt F) (xLoc d)) (Tk : Buf (Elt F) (tLoc d)) (P : Buf (Elt F) (pLoc d)) : Buf (Elt F) (oLoc d) :=
  fun (j : IO) =>
    if h : (j 1).val < 4096 then
      if hitAt (tileOf j) (wordAt P (tileOf j)) ((j 1).val % 2048 / 32) ((j 1).val % 32) then Tk (ix2 (n0 := 1) (n1 := 1024) ⟨0, Nat.one_pos⟩ ⟨(j 2).val, io2 j⟩)
      else X (ix3 (n0 := 16) (n1 := 4096) (n2 := 1024) ⟨(j 0).val, io0 j⟩ ⟨(j 1).val, h⟩ ⟨(j 2).val, io2 j⟩)
    else X (ix3 (n0 := 16) (n1 := 4096) (n2 := 1024) ⟨(j 0).val, io0 j⟩ ⟨0, by decide⟩ ⟨(j 2).val, io2 j⟩)

theorem resG_chunk {d : Dev nD} (X : Buf (Elt F) (xLoc d)) (Tk : Buf (Elt F) (tLoc d)) (P : Buf (Elt F) (pLoc d)) (L : grid0.Coords) (n : ℕ) (hn : n < 64) (y : I32) :
    resG X Tk P (oAt L n hn y) = if hitAt L (wordAt P L) n (y 0).val then Tk (ix2 (n0 := 1) (n1 := 1024) ⟨0, Nat.one_pos⟩ ⟨(y 1).val, y1_lt y⟩) else X (xAt L n hn y) := by
  have hy := y0_lt y
  have hL := L0_lt L
  have ht : tileOf (oAt L n hn y) = L := (tileOf_iff _ L).mpr ⟨rfl, by
    show (L 0).val * 2048 + 32 * n + (y 0).val < 2048 ↔ _
    omega⟩
  have e1 : (oAt L n hn y 1).val % 2048 / 32 = n := by
    show ((L 0).val * 2048 + 32 * n + (y 0).val) % 2048 / 32 = n
    omega
  have e2 : (oAt L n hn y 1).val % 32 = (y 0).val := by
    show ((L 0).val * 2048 + 32 * n + (y 0).val) % 32 = (y 0).val
    omega
  unfold resG
  rw [dif_pos (show (oAt L n hn y 1).val < 4096 from row_lt L n hn y), ht, e1, e2]
  rfl

/-! ## A tile's task -/

/-- The tile's task: the arrays, the word it reads, its shares, and the result it leaves. -/
def task (d : Dev nD) (L : grid0.Coords) (X : Buf (Elt F) (xLoc d)) (Tk : Buf (Elt F) (tLoc d)) (P : Buf (Elt F) (pLoc d)) (q t p : PosShare TreeShare)
    (f0 : Buf (Elt F) (oLoc d)) (O : CellTallies nD τ sig (HIx 1)) (W : Waits sig (HIx 1)) : Pre F where
  d := d
  L := L
  X := X
  Tk := Tk
  v := wordAt P L
  q := q
  t := t
  f0 := f0
  G := resG X Tk P
  O := O
  W := W
  P := P
  p := p

section Task

variable (d : Dev nD) (L : grid0.Coords) (X : Buf (Elt F) (xLoc d)) (Tk : Buf (Elt F) (tLoc d)) (P : Buf (Elt F) (pLoc d)) (q t p : PosShare TreeShare)
  (f0 : Buf (Elt F) (oLoc d)) (O : CellTallies nD τ sig (HIx 1)) (W : Waits sig (HIx 1))

theorem loadF_at (n : ℕ) (hn : n < 64) (f) (y : I32) : (task d L X Tk P q t p f0 O W).loadF n f (bAt n y) = X (xAt L n hn y) := by
  unfold Task.loadF
  rw [← bC_emb]
  refine (View.write_emb_of_mem _ _ (Finset.mem_univ y)).trans ?_
  exact congrArg X (xC_emb L n hn y)

theorem patF_at (n : ℕ) (f) (y : I32) : (task d L X Tk P q t p f0 O W).patF n f (bAt n y)
    = if hitAt L (wordAt P L) n (y 0).val then Tk (ix2 (n0 := 1) (n1 := 1024) ⟨0, Nat.one_pos⟩ ⟨(y 1).val, y1_lt y⟩) else f (bAt n y) := by
  unfold Task.patF
  by_cases hc : condF L (wordAt P L) n = 1#1
  · rw [if_pos (show condF (task d L X Tk P q t p f0 O W).L (task d L X Tk P q t p f0 O W).v n = 1#1 from hc)]
    by_cases hr : (y 0).val = k0_off6 L (wordAt P L) 1
    · rw [if_pos (show hitAt L (wordAt P L) n (y 0).val from ⟨hc, hr⟩), ← rC_emb L (wordAt P L) n y hr]
      exact View.write_emb_of_mem _ _ (Finset.mem_univ _)
    · rw [if_neg (fun h : hitAt L (wordAt P L) n (y 0).val => hr h.2)]
      exact View.write_of_not_mem _ _ _ (rC_not L (wordAt P L) n y hr)
  · rw [if_neg (show ¬ condF (task d L X Tk P q t p f0 O W).L (task d L X Tk P q t p f0 O W).v n = 1#1 from hc), if_neg (fun h : hitAt L (wordAt P L) n (y 0).val => hc h.1)]

theorem task_ok : (task d L X Tk P q t p f0 O W).ok := by
  intro n hn f j hj
  obtain ⟨y, _, rfl⟩ := Finset.mem_map.mp hj
  have e : (task d L X Tk P q t p f0 O W).outF n ((task d L X Tk P q t p f0 O W).patF n ((task d L X Tk P q t p f0 O W).loadF n f)) ((oC L n).view.emb y)
      = (task d L X Tk P q t p f0 O W).patF n ((task d L X Tk P q t p f0 O W).loadF n f) ((bC n).view.emb y) := View.write_emb_of_mem _ _ (Finset.mem_univ y)
  refine e.trans ?_
  rw [bC_emb, patF_at, loadF_at d L X Tk P q t p f0 O W n hn]
  refine (resG_chunk X Tk P L n hn y).symm.trans ?_
  exact congrArg (resG X Tk P) (oC_emb L n hn y).symm

theorem wordOf_eq (v : Vec F S1x16 .i32) : wordOf v = v (ix2 (n0 := 1) (n1 := 16) ⟨0, Nat.one_pos⟩ ⟨0, by decide⟩) := by
  refine Eq.trans (b := v (Shape.reshapeEquiv (s' := S16) (s := S1x16) (by decide) (fun a => ⟨0, (by decide : ∀ a, 0 < S16.size a) a⟩))) rfl ?_
  refine congrArg v ?_
  refine (Shape.reshapeEquiv_cons_one (n := 1) (d := ![16]) (by decide) _).trans ?_
  funext a
  match a with
  | ⟨0, _⟩ => rfl
  | ⟨1, _⟩ => rfl

theorem task_okv : (task d L X Tk P q t p f0 O W).okv := by
  intro f
  rw [wordOf_eq]
  have e0 : (aV.access aR).emb (ix2 (n0 := 1) (n1 := 16) ⟨0, Nat.one_pos⟩ ⟨0, by decide⟩) = aV.view.emb (ix2 (n0 := 8) (n1 := 16) ⟨0, by decide⟩ ⟨0, by decide⟩) := by
    refine Eq.trans (b := aV.view.emb (aR.emb (ix2 (n0 := 1) (n1 := 16) ⟨0, Nat.one_pos⟩ ⟨0, by decide⟩))) rfl ?_
    congr 1
    funext a
    apply Fin.ext
    rw [Rect.emb_apply]
    match a with
    | ⟨0, _⟩ => rfl
    | ⟨1, _⟩ => rfl
  have e1 : (pR L).view.emb (ix2 (n0 := 8) (n1 := 16) ⟨0, by decide⟩ ⟨0, by decide⟩)
      = ix2 (n0 := 256) (n1 := 16) ⟨8 * (2 * (L 1).val + (L 0).val), by have := L0_lt L; have := L1_lt L; omega⟩ ⟨0, by decide⟩ := by
    refine Eq.trans (b := (Rect.unit (s := S256x16) (k0_off1 L) S8x16.size (k0_off1_inb L)).emb (ix2 (n0 := 8) (n1 := 16) ⟨0, by decide⟩ ⟨0, by decide⟩)) rfl ?_
    funext a
    apply Fin.ext
    rw [Rect.emb_apply]
    have e := off1_eq L
    match a with
    | ⟨0, _⟩ => exact congrFun e 0
    | ⟨1, _⟩ => exact congrFun e 1
  refine Eq.trans (b := (task d L X Tk P q t p f0 O W).parF f ((aV.access aR).emb (ix2 (n0 := 1) (n1 := 16) ⟨0, Nat.one_pos⟩ ⟨0, by decide⟩))) rfl ?_
  rw [e0]
  refine Eq.trans (b := P ((pR L).view.emb (ix2 (n0 := 8) (n1 := 16) ⟨0, by decide⟩ ⟨0, by decide⟩))) (View.write_emb_of_mem _ _ (Finset.mem_univ _)) ?_
  rw [e1]
  rfl

theorem task_okw : (task d L X Tk P q t p f0 O W).okw := by
  intro h f j hj
  obtain ⟨y, _, rfl⟩ := Finset.mem_map.mp hj
  have hy : (y 1).val < 1024 := (y 1).isLt
  have hy0 : (y 0).val < 1 := (y 0).isLt
  have eo : (wO L h).view.emb y = (ix3 (n0 := 16) (n1 := 4097) (n2 := 1024) ⟨(L 1).val, L1_lt L⟩ ⟨4096, by decide⟩ ⟨(y 1).val, hy⟩ : IO) := by
    refine emb_block oV _ _ _ _ y (ix3 (n0 := 16) (n1 := 4097) (n2 := 1024) ⟨(L 1).val, L1_lt L⟩ ⟨4096, by decide⟩ ⟨(y 1).val, hy⟩) ?_ ?_ ?_ <;> rw [off3_eq L]
    · rfl
    · show 4096 = 4096 + (y 0).val
      omega
    · exact (Nat.zero_add _).symm
  have ex : (wX L h).view.emb y = (ix3 (n0 := 16) (n1 := 4096) (n2 := 1024) ⟨(L 1).val, L1_lt L⟩ ⟨0, by decide⟩ ⟨(y 1).val, hy⟩ : IX) := by
    refine emb_block xV _ _ _ _ y (ix3 (n0 := 16) (n1 := 4096) (n2 := 1024) ⟨(L 1).val, L1_lt L⟩ ⟨0, by decide⟩ ⟨(y 1).val, hy⟩) ?_ ?_ ?_ <;> rw [off2_eq L]
    · rfl
    · show 0 = 0 + (y 0).val
      omega
    · exact (Nat.zero_add _).symm
  have e1 : (task d L X Tk P q t p f0 O W).wrapF h f ((wO L h).view.emb y) = (task d L X Tk P q t p f0 O W).rowF h f (wV.view.emb y) :=
    View.write_emb_of_mem _ _ (Finset.mem_univ y)
  have e2 : (task d L X Tk P q t p f0 O W).rowF h f (wV.view.emb y) = X ((wX L h).view.emb y) := View.write_emb_of_mem _ _ (Finset.mem_univ y)
  refine (e1.trans e2).trans ?_
  refine (congrArg X ex).trans (Eq.trans ?_ (congrArg (resG X Tk P) eo).symm)
  unfold resG
  rw [dif_neg (show ¬ 4096 < 4096 from Nat.lt_irrefl _)]

end Task

end Cert.Proof

end
-- ==== Proof.Body.lean ====
module

public import proofs.«01_k».proof.Proof.Tail

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (B : Pre F)

attribute [local irreducible] Idealize.SL.Sem.wp Task.St1 Task.St2 Task.St3 Task.St4 Task.St5 Task.T1 Task.T2 Task.T3 Task.T4 Task.T5
  Pre.P0 Pre.P1 Pre.P2 Pre.P3 Pre.P4 Pre.P5

/-! ## The program -/

set_option maxHeartbeats 40000000 in
/-- The first half of the program: the table's rows, the word, the wrapped row, and the rounds up to the store of chunk 38. -/
theorem walk97 (hC : B.ok) (hv : B.okv) (hw : B.okw) (Q : _ → sProp 𝕄) (hQ : ∀ v29 h v40 v58, iprop(B.St4 38 (by decide) ∗ B.kept) ⊢ Q ⟨v29, B.v, h, v40, v58⟩) :
   B.P0 ⊢ B.wp (k0_part97 B.L xV (Memref.isWhole_whole _) tV (Memref.isWhole_whole _) pV (Memref.isWhole_whole _) oV (Memref.isWhole_whole _) bV (Memref.isWhole_whole _) wV (Memref.isWhole_whole _) aV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64) Q := by
  refine bind_step B.toTask ?_
  refine bind_step B.toTask ?_
  refine pre1 B ?_
  refine bind_step B.toTask ?_
  refine pre2 B ?_
  refine pure_words B.toTask fun v28 v29 => ?_
  refine bind_step B.toTask ?_
  refine bind_step B.toTask ?_
  refine pre3 B hv fun v hv => ?_
  refine bind_step B.toTask ?_
  refine pre4 B.toTask (chk1 _ _) fun h => ?_
  refine pre5 B hw ?_
  refine pure_word B.toTask hv fun h v40 v58 => ?_
  refine bind_step B.toTask ?_
  refine bind_step B.toTask ?_
  refine pre6_first B (off4_eq B.L) ?_
  refine bind_step B.toTask ?_
  refine pre7 B ?_
  refine pure_step B.toTask ?_
  refine frame_step B.toTask ?_
  refine bind_step B.toTask ?_
  refine bind_step B.toTask ?_
  refine step1_first B.toTask (off4_eq B.L) ?_
  repeat first
    | refine step1 B.toTask _ ?_
    | (refine step2 B.toTask _ ?_ ?_; · decide)
    | (refine step3 B.toTask _ ?_ ?_; · decide)
    | refine step4 B.toTask hC _ _ ?_
    | refine step5 B.toTask _ ?_
    | refine pure_step B.toTask ?_
    | refine bind_step B.toTask ?_
  exact BI.wand_intro (hQ _ _ _ _)

set_option maxHeartbeats 40000000 in
/-- The second half: the other rounds, up to the last two stores in flight. -/
theorem walk98 (C : Task F) (hC : C.ok) (v29 : BitVec 32) (h : k0_chk1 C.L C.v) (v40 : BitVec 1) (v58 : BitVec 32) (Q : PUnit → sProp 𝕄) (hQ : C.T3 ⊢ Q ⟨⟩) :
    C.St4 38 (by decide) ⊢ C.wp (k0_part98 C.L xV (Memref.isWhole_whole _) tV (Memref.isWhole_whole _) pV (Memref.isWhole_whole _) oV (Memref.isWhole_whole _) bV (Memref.isWhole_whole _) wV (Memref.isWhole_whole _) aV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 v29 C.v h v40 v58) Q := by
  refine bind_step C ?_
  repeat first
    | refine step1 C _ ?_
    | (refine step2 C _ ?_ ?_; · decide)
    | (refine step3 C _ ?_ ?_; · decide)
    | refine step4 C hC _ _ ?_
    | refine step5 C _ ?_
    | refine tail1 C _ ?_
    | refine tail2 C ?_
    | refine tail3 C ?_
    | refine pure_step C ?_
    | refine bind_step C ?_
  exact hQ

set_option maxHeartbeats 4000000 in
/-- The tile's whole program, at any table, word and result its arithmetic agrees with. -/
theorem body_run (hC : B.ok) (hv : B.okv) (hw : B.okw) (Q : PUnit → sProp 𝕄) (hQ : iprop(B.T5 ∗ B.kept) ⊢ Q ⟨⟩) :
    B.P0 ⊢ B.wp (cc0__sc_body B.L xV (Memref.isWhole_whole _) tV (Memref.isWhole_whole _) pV (Memref.isWhole_whole _) oV (Memref.isWhole_whole _) bV (Memref.isWhole_whole _) wV (Memref.isWhole_whole _) aV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64) Q := by
  refine bind_step B.toTask ?_
  refine walk97 B hC hv hw _ fun v29 h v40 v58 => ?_
  refine frame_step B.toTask ?_
  refine bind_step B.toTask ?_
  refine walk98 B.toTask hC v29 h v40 v58 _ ?_
  refine bind_step B.toTask ?_
  refine tail4 B.toTask hC ?_
  refine bind_step B.toTask ?_
  refine tail5 B.toTask hC ?_
  refine pure_step B.toTask ?_
  exact BI.wand_intro hQ

end Cert.Proof

end
-- ==== Proof.Own.lean ====
module

public import proofs.«01_k».proof.Proof.Vals
public import proofs.«01_k».proof.Proof.Body

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable [FloatOps F]

/-! ## A tile's own semaphores and buffers -/

/-- The tile's copies' semaphores: the slots' four, the table's, the wrapped row's two; and each chunk's for the token. -/
def dsem : Fin 7 ⊕ Fin 64 → DmaSem sig :=
  Sum.elim ![sI 0, sI 1, sO 0, sO 1, cc0_scoped0.sem, cc0_scratch5.sem, cc0_scratch6.sem] fun k => sP k.val

theorem dsem_injective : Function.Injective dsem := by
  have h : ∀ a b, dsem a = dsem b → a = b := by decide +kernel
  exact fun a b => h a b

theorem dsem_scoped : ∀ a, (SemLoc.dma (dsem a) : SemLoc sig).isScoped .scVector = true := by decide +kernel

/-- The cell of each. -/
def dcell (d : Dev nD) (L : grid0.Coords) : Fin 7 ⊕ Fin 64 ↪ GSem nD τ sig :=
  ⟨fun a => (thr d L, .dma (dsem a)), fun a b h => dsem_injective (by
    have h' : (SemLoc.dma (dsem a) : SemLoc sig) = .dma (dsem b) := congrArg Prod.snd h
    exact SemLoc.dma.inj h')⟩

def semRest (d : Dev nD) (L : grid0.Coords) : sProp 𝕄 :=
  bigSep (ownCells (thr d L) \ Finset.univ.map (dcell d L)) fun g => semVal g 0

theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [SparseCore.bigSep_insert' (by decide)]
  rw [bigSep_singleton]

/-- Separating conjunction reassociates, as an equality. -/
theorem assoc_eq (P Q R : sProp 𝕄) : iprop((P ∗ Q) ∗ R) = iprop(P ∗ Q ∗ R) := equiv_iff.mp ⟨BI.sep_assoc, BI.sep_assoc'⟩

theorem own_sems (d : Dev nD) (L : grid0.Coords) : (ownSems0 (thr d L) : sProp 𝕄)
    = iprop((bigSep Finset.univ fun a : Fin 7 => semVal (thr d L, .dma (dsem (.inl a))) 0)
        ∗ (bigSep Finset.univ fun k : Fin 64 => semVal (thr d L, .dma (sP k.val)) 0) ∗ semRest d L) := by
  unfold SparseCore.Cfg.ownSems0 semRest
  have hs : Finset.univ.map (dcell d L) ⊆ ownCells (thr d L) := by
    intro g hg
    obtain ⟨a, _, rfl⟩ := Finset.mem_map.mp hg
    exact mem_ownCells.mpr ⟨rfl, dsem_scoped a⟩
  have e : (bigSep Finset.univ fun a => semVal (dcell d L a) 0 : sProp 𝕄)
      = iprop((bigSep Finset.univ fun a : Fin 7 => semVal (thr d L, .dma (dsem (.inl a))) 0)
        ∗ (bigSep Finset.univ fun k : Fin 64 => semVal (thr d L, .dma (sP k.val)) 0)) := bigSep_univ_sum _
  rw [SparseCore.bigSep_sdiff_split' hs, bigSep_map, e]
  exact assoc_eq _ _ _

def bufRest (d : Dev nD) (L : grid0.Coords) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem own_bufs (d : Dev nD) (L : grid0.Coords) : (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ bufRest d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]
  rfl

/-- The two slots are the buffer. -/
theorem mem_bset (n : ℕ) (j : IB) : j ∈ bset n ↔ (j 0).val = n % 2 := by
  have h1 : (j 1).val < 32 := (j 1).isLt
  have h2 : (j 2).val < 1024 := (j 2).isLt
  rw [show bset n = _ from bC_set n, Rect.mem_set_unit]
  constructor
  · intro h
    have h0 : n % 2 ≤ (j 0).val ∧ (j 0).val < n % 2 + 1 := h 0
    omega
  · intro h a
    match a with
    | 0 => show n % 2 ≤ (j 0).val ∧ (j 0).val < n % 2 + 1; omega
    | 1 => show 0 ≤ (j 1).val ∧ (j 1).val < 0 + 32; omega
    | 2 => show 0 ≤ (j 2).val ∧ (j 2).val < 0 + 1024; omega

theorem bset_disjoint : ∀ i ∈ (Finset.univ : Finset (Fin 2)), ∀ k ∈ (Finset.univ : Finset (Fin 2)), i ≠ k → Disjoint (bset i.val) (bset k.val) := by
  intro i _ k _ hik
  rw [Finset.disjoint_left]
  intro j hi hk
  rw [mem_bset] at hi hk
  have := i.isLt
  have := k.isLt
  exact hik (Fin.ext (by omega))

theorem bset_cover : (Finset.univ : Finset (Fin 2)).biUnion (fun k => bset k.val) = (Finset.univ : Finset IB) := by
  ext j
  have h0 : (j 0).val < 2 := (j 0).isLt
  simp only [Finset.mem_univ, iff_true, Finset.mem_biUnion, true_and]
  exact ⟨⟨(j 0).val, h0⟩, (mem_bset _ j).mpr (Nat.mod_eq_of_lt h0).symm⟩

section Tile

variable (d : Dev nD) (L : grid0.Coords) (X : Buf (Elt F) (xLoc d)) (Tk : Buf (Elt F) (tLoc d)) (P : Buf (Elt F) (pLoc d)) (q : PosShare TreeShare)
  (f0 : Buf (Elt F) (oLoc d)) (O : CellTallies nD τ sig (HIx 1)) (W : Waits sig (HIx 1))

local notation "B₀" => task d L X Tk P q q q f0 O W

theorem slots_split (f : Buf (Elt F) ((thr d L).loc cc0_scratch0)) :
    ((thr d L).loc cc0_scratch0 ↦{fullShare} f : sProp 𝕄) ⊢ iprop((B₀).slot 0 f ∗ (B₀).slot 1 f) := by
  refine (Entails.of_eq (show ((thr d L).loc cc0_scratch0 ↦{fullShare} f : sProp 𝕄)
    = (thr d L).loc cc0_scratch0 ↦[(Finset.univ : Finset (Fin 2)).biUnion (fun k => bset k.val)]{fullShare} f by rw [bset_cover])).trans ?_
  rw [pointsTo_biUnion Finset.univ (ℓ := (thr d L).loc cc0_scratch0) (fun k : Fin 2 => bset k.val) bset_disjoint, bigSep_univ_two]
  exact Entails.rfl

theorem slots_pair (f g : Buf (Elt F) ((thr d L).loc cc0_scratch0)) :
    iprop((B₀).slot 0 f ∗ (B₀).slot 1 g) ⊢ (bigSep Finset.univ fun k : Fin 2 => (thr d L).loc cc0_scratch0 ↦[bset k.val]{fullShare} (![f, g] : Fin 2 → _) k : sProp 𝕄) := by
  rw [bigSep_univ_two]
  exact Entails.rfl

theorem slots_join : iprop((∃ f, (B₀).slot 0 f) ∗ ∃ f, (B₀).slot 1 f) ⊢ (iprop(∃ f, (thr d L).loc cc0_scratch0 ↦{fullShare} f) : sProp 𝕄) := by
  iintro ⟨⟨%f, Hf⟩, ⟨%g, Hg⟩⟩
  ihave H := (pointsTo_biUnion_join (ℓ := (thr d L).loc cc0_scratch0) (q := fullShare) (Val := Elt F) Finset.univ (fun k : Fin 2 => bset k.val) ![f, g] f bset_disjoint) $$ [Hf Hg]
  · iapply (slots_pair d L X Tk P q f0 O W f g)
    isplitl [Hf]; · iexact Hf
    iexact Hg
  icases H with ⟨%e, -, H⟩
  rw [bset_cover]
  iexists e; iexact H

/-- What a tile takes: its shares of `x`, of the token and of the table, and its part of the result, at `f`. -/
def tileRes (f : Buf (Elt F) (oLoc d)) : sProp 𝕄 :=
  iprop((xLoc d ↦{q} X) ∗ (tLoc d ↦{q} Tk) ∗ (pLoc d ↦{q} P) ∗ oLoc d ↦[rset L]{fullShare} f)

def pRest : sProp 𝕄 := pLoc d ↦[Finset.univ \ (pR L).view.set]{q} P

theorem x_split : (xLoc d ↦{q} X : sProp 𝕄) = iprop((B₀).xFull 0 ∗ (B₀).xFull 1) :=
  BI.Entails.antisymm (pointsTo_share (PosShare.mem_left_op_right q)).1 (pointsTo_share (PosShare.mem_left_op_right q)).2
theorem p_split : (pLoc d ↦{q} P : sProp 𝕄) = iprop((B₀).pPc ∗ pRest d L P q) :=
  BI.Entails.antisymm (pointsTo_split_subset (ℓ := pLoc d) (q := q) (f := P) (S := Finset.univ) (Finset.subset_univ (pR L).view.set)).1
    (pointsTo_split_subset (ℓ := pLoc d) (q := q) (f := P) (S := Finset.univ) (Finset.subset_univ (pR L).view.set)).2
theorem t_whole : (tLoc d ↦{q} Tk : sProp 𝕄) = (B₀).tok := by
  have e : tV.view.set = Finset.univ := View.set_whole _
  unfold Task.tok
  rw [e]
  rfl
theorem o_start : (oLoc d ↦[rset L]{fullShare} f0 : sProp 𝕄) = iprop((B₀).outs Finset.univ 0 ∗ (B₀).wPc f0) := by
  rw [out_split]
  rfl
theorem o_end : (oLoc d ↦[rset L]{fullShare} (resG X Tk P) : sProp 𝕄) = iprop((B₀).outs Finset.univ 64 ∗ (B₀).wPc (B₀).G) := by
  rw [out_split]
  refine congrArg₂ _ (bigSep_congr fun k _ => ?_) rfl
  unfold Task.oPc
  rw [if_pos k.isLt]
  rfl

theorem own_bufs' : (ownBufs (thr d L) : sProp 𝕄)
    = iprop((∃ f, (thr d L).loc cc0_scratch0 ↦{fullShare} f) ∗ (∃ f, (B₀).wAt f) ∗ (∃ f, (B₀).aAt f) ∗ bufRest d L) := own_bufs d L
theorem own_sems' : (ownSems0 (thr d L) : sProp 𝕄)
    = iprop((bigSep Finset.univ fun a : Fin 7 => semVal (thr d L, .dma (dsem (.inl a))) 0) ∗ (B₀).bag ∗ semRest d L) := own_sems d L

theorem own_seven : (bigSep Finset.univ fun a : Fin 7 => semVal (thr d L, .dma (dsem (.inl a))) 0 : sProp 𝕄)
    = iprop((B₀).i0 0 ∗ (B₀).i0 1 ∗ (B₀).o0 0 ∗ (B₀).o0 1 ∗ (B₀).sA ∗ (B₀).sW ∗ (B₀).sX) := bigSep_seven _

/-- A tile's start: what it takes and its own are the run's first state and the rest. -/
theorem tile_start : iprop(tileRes d L X Tk P q f0 ∗ ownBufs (thr d L) ∗ ownSems0 (thr d L) ∗ Ow d L O W)
    ⊢ iprop((B₀).P0 ∗ pRest d L P q ∗ bufRest d L ∗ semRest d L) := by
  unfold tileRes
  rw [own_sems' d L X Tk P q f0 O W, own_bufs' d L X Tk P q f0 O W, own_seven d L X Tk P q f0 O W, x_split d L X Tk P q f0 O W, p_split d L X Tk P q f0 O W, t_whole d L X Tk P q f0 O W, o_start d L X Tk P q f0 O W]
  unfold Pre.P0 Pre.par Pre.wr Pre.rest Task.free
  iintro ⟨⟨⟨Hx0, Hx1⟩, Ht, ⟨Hp, Hpr⟩, Ho, Hw⟩, ⟨⟨%fb, Hb⟩, ⟨%fw, Hrow⟩, ⟨%fa, Ha⟩, Hbr⟩, ⟨⟨Hi0, Hi1, Ho0, Ho1, HsA, HsW, HsX⟩, Hbag, Hsr⟩, How⟩
  ihave Hb' := (slots_split d L X Tk P q f0 O W fb) $$ Hb
  icases Hb' with ⟨Hb0, Hb1⟩
  isplitr [Hpr Hbr Hsr]
  · isplitl [Ha Hp HsA]
    · isplitl [Ha]; · iexists fa; iexact Ha
      isplitl [Hp]; · iexact Hp
      iexact HsA
    isplitl [Hw Hrow HsW HsX]
    · isplitl [Hw]; · iexact Hw
      isplitl [Hrow]; · iexists fw; iexact Hrow
      isplitl [HsW]; · iexact HsW
      iexact HsX
    isplitl [Hb0 Hx0 Hi0]
    · isplitl [Hb0]; · iexists fb; iexact Hb0
      isplitl [Hx0]; · iexact Hx0
      iexact Hi0
    isplitr [How]
    · isplitl [Hb1 Hx1 Hi1]
      · isplitl [Hb1]; · iexists fb; iexact Hb1
        isplitl [Hx1]; · iexact Hx1
        iexact Hi1
      isplitl [Ho0 Ho1]
      · isplitl [Ho0]; · iexact Ho0
        iexact Ho1
      isplitl [Ho]; · iexact Ho
      isplitl [Ht]; · iexact Ht
      iexact Hbag
    iexact How
  isplitl [Hpr]; · iexact Hpr
  isplitl [Hbr]; · iexact Hbr
  iexact Hsr

/-- A tile's end: the run's last state and the rest are what it brings back and its own. -/
theorem tile_end : iprop(((B₀).T5 ∗ (B₀).kept) ∗ pRest d L P q ∗ bufRest d L ∗ semRest d L)
    ⊢ iprop(tileRes d L X Tk P q (resG X Tk P) ∗ ownBufs (thr d L) ∗ ownSems0 (thr d L) ∗ Ow d L O W) := by
  unfold tileRes
  rw [own_sems' d L X Tk P q f0 O W, own_bufs' d L X Tk P q f0 O W, own_seven d L X Tk P q f0 O W, x_split d L X Tk P q f0 O W, p_split d L X Tk P q f0 O W, t_whole d L X Tk P q f0 O W, o_end d L X Tk P q f0 O W]
  unfold Task.T5 Task.com Pre.kept Pre.par Pre.wr Task.free
  iintro ⟨⟨⟨⟨⟨Hb0, Hx0, Hi0⟩, Ho0⟩, ⟨⟨Hb1, Hx1, Hi1⟩, Ho1⟩, Ho, Ht, Hbag, How⟩, ⟨⟨%fa, Ha⟩, Hp, HsA⟩, Hw, ⟨%fw, Hrow⟩, HsW, HsX⟩, Hpr, Hbr, Hsr⟩
  ihave Hb := (slots_join d L X Tk P q f0 O W) $$ [Hb0 Hb1]
  · isplitl [Hb0]; · iexact Hb0
    iexact Hb1
  isplitl [Hx0 Hx1 Ht Hp Hpr Ho Hw]
  · isplitl [Hx0 Hx1]
    · isplitl [Hx0]; · iexact Hx0
      iexact Hx1
    isplitl [Ht]; · iexact Ht
    isplitl [Hp Hpr]
    · isplitl [Hp]; · iexact Hp
      iexact Hpr
    isplitl [Ho]; · iexact Ho
    iexact Hw
  isplitl [Hb Hrow Ha Hbr]
  · isplitl [Hb]; · iexact Hb
    isplitl [Hrow]; · iexists fw; iexact Hrow
    isplitl [Ha]; · iexists fa; iexact Ha
    iexact Hbr
  isplitr [How]
  · isplitl [Hi0 Hi1 Ho0 Ho1 HsA HsW HsX]
    · isplitl [Hi0]; · iexact Hi0
      isplitl [Hi1]; · iexact Hi1
      isplitl [Ho0]; · iexact Ho0
      isplitl [Ho1]; · iexact Ho1
      isplitl [HsA]; · iexact HsA
      isplitl [HsW]; · iexact HsW
      iexact HsX
    isplitl [Hbag]; · iexact Hbag
    iexact Hsr
  iexact How

/-- The task of a tile, from what its go hands it to what it hands back. -/
theorem tile_body (hO : ∀ g, O g none = 0) :
    iprop(levAts (K (F := F)).L (K (F := F)).lev ∗ emp ∗ tileRes d L X Tk P q f0
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) tV (Memref.isWhole_whole _) pV (Memref.isWhole_whole _) oV (Memref.isWhole_whole _) bV (Memref.isWhole_whole _) wV (Memref.isWhole_whole _) aV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64)
          fun _ => iprop(tileRes d L X Tk P q (resG X Tk P) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L)]
  iintro ⟨#Hlv, -, HR, Hb, Hs, HO⟩
  ihave Hmw := (show levAts (K (F := F)).L (K (F := F)).lev ⊢ Transfers.MayWaits (thr d L) (default : HIx 1) O from
    (K (F := F)).mayWaits_none (thr := thr d L) hO) $$ Hlv
  ihave H := (tile_start d L X Tk P q f0 O W) $$ [HR Hb Hs HO Hmw]
  · isplitl [HR]; · iexact HR
    isplitl [Hb]; · iexact Hb
    isplitl [Hs]; · iexact Hs
    unfold Ow
    isplitl [Hmw]; · iexact Hmw
    iexists W
    isplitr; · ipureintro; exact fun p hp => .inl hp
    iexact HO
  icases H with ⟨H0, Hr⟩
  iapply (wp_wand_r _ _ _)
  isplitl [H0]
  · iapply (body_run (task d L X Tk P q q q f0 O W) (task_ok d L X Tk P q q q f0 O W) (task_okv d L X Tk P q q q f0 O W) (task_okw d L X Tk P q q q f0 O W)
      (fun _ => iprop((B₀).T5 ∗ (B₀).kept)) Entails.rfl)
    iexact H0
  iintro %_ HT
  ihave H := (tile_end d L X Tk P q f0 O W) $$ [HT Hr]
  · isplitl [HT]; · iexact HT
    iexact Hr
  icases H with ⟨HR, Hb, Hs, How⟩
  unfold Ow
  icases How with ⟨-, How⟩
  isplitl [HR]; · iexact HR
  isplitl [Hb]; · iexact Hb
  isplitl [Hs]; · iexact Hs
  iexact How

end Tile

end Cert.Proof

end
-- ==== Proof.TsBody.lean ====
/-
  The TensorCore kernel's body: one run of its sixteen rows, leaving the two results' staging buffers at explicit
  functions of the inputs'.
-/
module

public import proofs.«01_k».proof.Proof.Tile
public import Idealize.ShloMosaic.Lib.Tactic

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What a memref's buffer holds on core `c`, and that buffer held whole. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

/-- The body's run: from the four staging buffers held whole, the inputs at `f0` and `f1` and the results at anything,
    the body returns the inputs as they were and the results at the witnesses, functions of `f0` and `f1`. -/
def tsRun [FloatOps F] (c : Dev nD) (M0 : Memref sig .tc .smem S16 .i32) (h0 : M0.IsWhole) (M1 : Memref sig .tc .vmem S16x4096 .f32) (h1 : M1.IsWhole)
    (M2 : Memref sig .tc .vmem S16x4097 .f32) (h2 : M2.IsWhole) (M3 : Memref sig .tc .smem S16 .i32) (h3 : M3.IsWhole)
    (f0 : Bf (F := F) c M0) (f1 : Bf (F := F) c M1) :
    { W : Bf (F := F) c M2 × Bf (F := F) c M3 //
      ∀ (f2 : Bf (F := F) c M2) (f3 : Bf (F := F) c M3) (Q : PUnit → sProp 𝕄),
        iprop(pt c M0 f0 ∗ pt c M1 f1 ∗ pt c M2 f2 ∗ pt c M3 f3
          ∗ (iprop(pt c M0 f0 ∗ pt c M1 f1 ∗ pt c M2 W.1 ∗ pt c M3 W.2) -∗ Q ⟨⟩))
        ⊢ wp frame (wpE (defs₀ (F := F)) 𝒱₀ (c : Thread nD τ) none) Set.univ (cc1__ts_body M0 h0 M1 h1 M2 h2 M3 h3) Q } := by
  refine ⟨⟨?_, ?_⟩, fun f2 f3 Q => ?run⟩
  case run =>
    iintro ⟨H0, H1, H2, H3, Hk⟩
    sl_exec_parts!
    sl_step
    iapply Hk
    isplitl [H0]; · iexact H0
    isplitl [H1]; · iexact H1
    isplitl [H2]; · iexact H2
    iexact H3

end Cert.Proof

end
-- ==== Proof.TsVal.lean ====
/-
  What the TensorCore kernel's run leaves, entry by entry: the two results' staging buffers as functions of the inputs'.
-/
module

public import proofs.«01_k».proof.Proof.TsBody
public import Idealize.ShloMosaic.Lib.ValueIdxCore

@[expose] public section

set_option maxRecDepth 16384

noncomputable section

namespace Cert.Proof

open Cert.KernelIdeal Cert.KernelIdeal.Gen

open Idealize.ShloMosaic Idealize.ShloMosaic.TcCoe
open Idealize.ShloMosaic.ValueIdx (ix1 ix2 ix3)

variable {F : FTy → Type}

/-! ## The writes, row by row -/

section
variable [FloatOps F] (c : Dev nD) (M0 : Memref sig .tc .smem S16 .i32) (M1 : Memref sig .tc .vmem S16x4096 .f32)
  (f0 : Bf (F := F) c M0) (f1 : Bf (F := F) c M1)

theorem inbW (n : ℕ) (h : n < 16) : ∀ a, (![n] : Fin 1 → ℕ) a + S1.size a ≤ S16.size a := by
  intro a; fin_cases a; show n + 1 ≤ 16; omega
theorem inbR (n : ℕ) (h : n < 16) : ∀ a, (![n, 0] : Fin 2 → ℕ) a + S1x4096.size a ≤ S16x4096.size a := by
  intro a; fin_cases a
  · show n + 1 ≤ 16; omega
  · show 0 + 4096 ≤ 4096; omega
theorem inbO (n : ℕ) (h : n < 16) : ∀ a, (![n, 0] : Fin 2 → ℕ) a + S1x4096.size a ≤ S16x4097.size a := by
  intro a; fin_cases a
  · show n + 1 ≤ 16; omega
  · show 0 + 4096 ≤ 4097; omega
theorem inbE (n : ℕ) (h : n < 16) : ∀ a, (![n, 4096] : Fin 2 → ℕ) a + S1x1.size a ≤ S16x4097.size a := by
  intro a; fin_cases a
  · show n + 1 ≤ 16; omega
  · show 4096 + 1 ≤ 4097; omega

/-- Row `n`'s length, as the body reads it. -/
def rowWord (n : ℕ) (h : n < 16) : BitVec 32 :=
  M0.view.readAt (Elt F) (Rect.unit (s := S16) ![n] S1.size (inbW n h)).toLoadRect f0 (Shape.Idx.first (by rw [show (Rect.unit (s := S16) ![n] S1.size (inbW n h)).toLoadRect.shape.numel = 1 from numel1_S1]; decide))
/-- Row `n` of the timestamps, as the body reads it. -/
def rowVec (n : ℕ) (h : n < 16) : Vec F S1x4096 .f32 :=
  M1.view.readAt (Elt F) (Rect.unit (s := S16x4096) ![n, 0] S1x4096.size (inbR n h)).toLoadRect f1

/-- The two writes row `n` makes to the timestamps result, the later one first. -/
def tsPair (n : ℕ) (h : n < 16) : List (View.Piece (Elt F) S16x4097 .f32) :=
  [⟨Rect.unit (s := S16x4097) ![n, 4096] S1x1.size (inbE n h), k1_pay2 (rowVec c M1 f1 n h)⟩,
   ⟨Rect.unit (s := S16x4097) ![n, 0] S1x4096.size (inbO n h), k1_pay1 (rowWord c M0 f0 n h) (rowVec c M1 f1 n h)⟩]
/-- The write row `n` makes to the lengths result. -/
def lenOne (n : ℕ) (h : n < 16) : List (View.Piece (Elt F) S16 .i32) :=
  [⟨Rect.unit (s := S16) ![n] S1.size (inbW n h), fun _ => Scalar.addi (rowWord c M0 f0 n h) 1#32⟩]

/-- The first `n` rows' writes. -/
def tsList : (n : ℕ) → n ≤ 16 → List (View.Piece (Elt F) S16x4097 .f32)
  | 0, _ => []
  | n + 1, h => tsPair c M0 M1 f0 f1 n h ++ tsList n (Nat.le_of_succ_le h)
def lenList : (n : ℕ) → n ≤ 16 → List (View.Piece (Elt F) S16 .i32)
  | 0, _ => []
  | n + 1, h => lenOne c M0 f0 n h ++ lenList n (Nat.le_of_succ_le h)

theorem tsRun_ts (h0 : M0.IsWhole) (h1 : M1.IsWhole) (M2 : Memref sig .tc .vmem S16x4097 .f32) (h2 : M2.IsWhole) (M3 : Memref sig .tc .smem S16 .i32) (h3 : M3.IsWhole) :
    (tsRun c M0 h0 M1 h1 M2 h2 M3 h3 f0 f1).1.1 = M2.view.writes (Elt F) M2.view.junk (tsList c M0 M1 f0 f1 16 (le_refl _)) := rfl
theorem tsRun_len (h0 : M0.IsWhole) (h1 : M1.IsWhole) (M2 : Memref sig .tc .vmem S16x4097 .f32) (h2 : M2.IsWhole) (M3 : Memref sig .tc .smem S16 .i32) (h3 : M3.IsWhole) :
    (tsRun c M0 h0 M1 h1 M2 h2 M3 h3 f0 f1).1.2 = M3.view.writes (Elt F) M3.view.junk (lenList c M0 f0 16 (le_refl _)) := rfl

/-! ## Entry by entry -/

/-- The timestamps result from the lengths `A` and the timestamps `T`: along the old columns what the body selects, at
    the last the row's first element. -/
def newTs (A : S16.Idx → BitVec 32) (T : S16x4096.Idx → F .f32) : S16x4097.Idx → F .f32 := fun y =>
  if h : (y 1).val < 4096 then
    (k1_pay1 (A (ix1 (y 0))) (fun x : S1x4096.Idx => T (ix2 (n0 := 16) (n1 := 4096) (y 0) (x 1))) : S1x4096.Idx → F .f32) (ix2 (n0 := 1) (n1 := 4096) 0 ⟨(y 1).val, h⟩)
  else T (ix2 (n0 := 16) (n1 := 4096) (y 0) 0)

/-- The lengths result. -/
def newLen (A : S16.Idx → BitVec 32) : S16.Idx → BitVec 32 := fun y => Scalar.addi (A y) 1#32

theorem rowVec_eq (n : ℕ) (h : n < 16) :
    rowVec c M1 f1 n h = fun x : S1x4096.Idx => M1.view.read (Elt F) f1 (ix2 (n0 := 16) (n1 := 4096) ⟨n, h⟩ (x 1)) := by
  funext x
  show M1.view.read (Elt F) f1 _ = _
  congr 1
  funext a; apply Fin.ext
  have hx : (x 0).val < 1 := (x 0).isLt
  fin_cases a
  · show n + 1 * (x 0).val = n; omega
  · show 0 + 1 * (x 1).val = (x 1).val; omega

theorem rowWord_eq (n : ℕ) (h : n < 16) : rowWord c M0 f0 n h = M0.view.read (Elt F) f0 (ix1 (n := 16) ⟨n, h⟩) := by
  show M0.view.read (Elt F) f0 _ = _
  congr 1
  funext a; apply Fin.ext
  fin_cases a
  show n + 1 * 0 = n; omega

theorem pay2_apply (v : Vec F S1x4096 .f32) (x : S1x1.Idx) : (k1_pay2 v : S1x1.Idx → F .f32) x = v (ix2 (n0 := 1) (n1 := 4096) 0 0) := by
  show v _ = v _
  congr 1
  funext a; apply Fin.ext
  have h0 : (x 0).val < 1 := (x 0).isLt
  have h1 : (x 1).val < 1 := (x 1).isLt
  fin_cases a
  · show 0 + (x 0).val = 0; omega
  · show 0 + (x 1).val = 0; omega

/-- Each write of row `n` writes what the result holds there. -/
theorem tsPair_agree (n : ℕ) (h : n < 16) : ∀ p ∈ tsPair c M0 M1 f0 f1 n h, ∀ x : p.1.shape.Idx,
    p.2 x = newTs (M0.view.read (Elt F) f0) (M1.view.read (Elt F) f1) (p.1.emb x) := by
  intro p hp x
  simp only [tsPair, List.mem_cons, List.not_mem_nil, or_false] at hp
  rcases hp with rfl | rfl
  · have hx0 : (x 0).val < 1 := (x 0).isLt
    have hx1 : (x 1).val < 1 := (x 1).isLt
    have e : (Rect.unit (s := S16x4097) ![n, 4096] S1x1.size (inbE n h)).emb x = ix2 (n0 := 16) (n1 := 4097) ⟨n, h⟩ ⟨4096, by omega⟩ := by
      funext a; apply Fin.ext
      fin_cases a
      · show n + 1 * (x 0).val = n; omega
      · show 4096 + 1 * (x 1).val = 4096; omega
    show (k1_pay2 (rowVec c M1 f1 n h) : S1x1.Idx → F .f32) x = newTs _ _ ((Rect.unit (s := S16x4097) ![n, 4096] S1x1.size (inbE n h)).emb x)
    rw [e, pay2_apply, rowVec_eq]
    unfold newTs
    rw [dif_neg (show ¬ (4096 : ℕ) < 4096 by omega)]
  · have hx0 : (x 0).val < 1 := (x 0).isLt
    have hx1 : (x 1).val < 4096 := (x 1).isLt
    have e : (Rect.unit (s := S16x4097) ![n, 0] S1x4096.size (inbO n h)).emb x = ix2 (n0 := 16) (n1 := 4097) ⟨n, h⟩ ⟨(x 1).val, by omega⟩ := by
      funext a; apply Fin.ext
      fin_cases a
      · show n + 1 * (x 0).val = n; omega
      · show 0 + 1 * (x 1).val = (x 1).val; omega
    show (k1_pay1 (rowWord c M0 f0 n h) (rowVec c M1 f1 n h) : S1x4096.Idx → F .f32) x = newTs _ _ ((Rect.unit (s := S16x4097) ![n, 0] S1x4096.size (inbO n h)).emb x)
    rw [e, rowVec_eq, rowWord_eq]
    unfold newTs
    rw [dif_pos (show (x 1).val < 4096 from hx1)]
    have ex : x = ix2 (n0 := 1) (n1 := 4096) 0 ⟨(x 1).val, hx1⟩ := by
      funext a; apply Fin.ext
      fin_cases a
      · show (x 0).val = 0; omega
      · rfl
    exact congrArg (k1_pay1 (M0.view.read (Elt F) f0 (ix1 (n := 16) ⟨n, h⟩)) (fun x : S1x4096.Idx => M1.view.read (Elt F) f1 (ix2 (n0 := 16) (n1 := 4096) ⟨n, h⟩ (x 1))) : S1x4096.Idx → F .f32) ex

theorem tsList_agree : ∀ (n : ℕ) (h : n ≤ 16), ∀ p ∈ tsList c M0 M1 f0 f1 n h, ∀ x : p.1.shape.Idx,
    p.2 x = newTs (M0.view.read (Elt F) f0) (M1.view.read (Elt F) f1) (p.1.emb x)
  | 0, _ => fun _ hp => absurd hp List.not_mem_nil
  | n + 1, h => fun p hp => (List.mem_append.mp hp).elim (tsPair_agree c M0 M1 f0 f1 n h p) (tsList_agree n (Nat.le_of_succ_le h) p)

theorem tsPair_cover (n : ℕ) (h : n < 16) (y : S16x4097.Idx) (hy : (y 0).val = n) : ∃ p ∈ tsPair c M0 M1 f0 f1 n h, y ∈ p.1.set := by
  have hy1 : (y 1).val < 4097 := (y 1).isLt
  by_cases hc : (y 1).val < 4096
  · refine ⟨_, List.mem_cons_of_mem _ List.mem_cons_self, ?_⟩
    refine (LoadRect.mem_set _).mpr fun a => ?_
    fin_cases a
    · exact ⟨0, by show 0 < 1; omega, by show (y 0).val = n + 1 * 0; omega⟩
    · exact ⟨(y 1).val, hc, by show (y 1).val = 0 + 1 * (y 1).val; omega⟩
  · refine ⟨_, List.mem_cons_self, ?_⟩
    refine (LoadRect.mem_set _).mpr fun a => ?_
    fin_cases a
    · exact ⟨0, by show 0 < 1; omega, by show (y 0).val = n + 1 * 0; omega⟩
    · exact ⟨0, by show 0 < 1; omega, by show (y 1).val = 4096 + 1 * 0; omega⟩

theorem tsList_cover : ∀ (n : ℕ) (h : n ≤ 16) (y : S16x4097.Idx), (y 0).val < n → ∃ p ∈ tsList c M0 M1 f0 f1 n h, y ∈ p.1.set
  | 0, _, _, hy => absurd hy (Nat.not_lt_zero _)
  | n + 1, h, y, hy => by
    rcases Nat.lt_succ_iff_lt_or_eq.mp hy with hlt | heq
    · obtain ⟨p, hp, hm⟩ := tsList_cover n (Nat.le_of_succ_le h) y hlt
      exact ⟨p, List.mem_append_right _ hp, hm⟩
    · obtain ⟨p, hp, hm⟩ := tsPair_cover c M0 M1 f0 f1 n h y heq
      exact ⟨p, List.mem_append_left _ hp, hm⟩

/-- What the timestamps result's staging buffer reads after the body. -/
theorem read_ts (h0 : M0.IsWhole) (h1 : M1.IsWhole) (M2 : Memref sig .tc .vmem S16x4097 .f32) (h2 : M2.IsWhole) (M3 : Memref sig .tc .smem S16 .i32) (h3 : M3.IsWhole) :
    M2.view.read (Elt F) (tsRun c M0 h0 M1 h1 M2 h2 M3 h3 f0 f1).1.1 = newTs (M0.view.read (Elt F) f0) (M1.view.read (Elt F) f1) := by
  rw [tsRun_ts]
  funext y
  exact View.read_writes_apply_of_pieces M2.view _ _ _ (tsList_agree c M0 M1 f0 f1 16 (le_refl _)) y (tsList_cover c M0 M1 f0 f1 16 (le_refl _) y (y 0).isLt)

theorem lenList_agree : ∀ (n : ℕ) (h : n ≤ 16), ∀ p ∈ lenList c M0 f0 n h, ∀ x : p.1.shape.Idx,
    p.2 x = newLen (M0.view.read (Elt F) f0) (p.1.emb x)
  | 0, _ => fun _ hp => absurd hp List.not_mem_nil
  | n + 1, h => fun p hp x => by
    rcases List.mem_append.mp hp with hp | hp
    · simp only [lenOne, List.mem_cons, List.not_mem_nil, or_false] at hp
      subst hp
      have hx0 : (x 0).val < 1 := (x 0).isLt
      have e : (Rect.unit (s := S16) ![n] S1.size (inbW n h)).emb x = ix1 (n := 16) ⟨n, h⟩ := by
        funext a; apply Fin.ext
        fin_cases a
        show n + 1 * (x 0).val = n; omega
      show Scalar.addi (rowWord c M0 f0 n h) 1#32 = newLen _ ((Rect.unit (s := S16) ![n] S1.size (inbW n h)).emb x)
      rw [e, rowWord_eq]; rfl
    · exact lenList_agree n (Nat.le_of_succ_le h) p hp x

theorem lenList_cover : ∀ (n : ℕ) (h : n ≤ 16) (y : S16.Idx), (y 0).val < n → ∃ p ∈ lenList c M0 f0 n h, y ∈ p.1.set
  | 0, _, _, hy => absurd hy (Nat.not_lt_zero _)
  | n + 1, h, y, hy => by
    rcases Nat.lt_succ_iff_lt_or_eq.mp hy with hlt | heq
    · obtain ⟨p, hp, hm⟩ := lenList_cover n (Nat.le_of_succ_le h) y hlt
      exact ⟨p, List.mem_append_right _ hp, hm⟩
    · refine ⟨_, List.mem_append_left _ List.mem_cons_self, ?_⟩
      refine (LoadRect.mem_set _).mpr fun a => ?_
      fin_cases a
      exact ⟨0, by show 0 < 1; omega, by show (y 0).val = n + 1 * 0; omega⟩

/-- What the lengths result's staging buffer reads after the body. -/
theorem read_len (h0 : M0.IsWhole) (h1 : M1.IsWhole) (M2 : Memref sig .tc .vmem S16x4097 .f32) (h2 : M2.IsWhole) (M3 : Memref sig .tc .smem S16 .i32) (h3 : M3.IsWhole) :
    M3.view.read (Elt F) (tsRun c M0 h0 M1 h1 M2 h2 M3 h3 f0 f1).1.2 = newLen (M0.view.read (Elt F) f0) := by
  rw [tsRun_len]
  funext y
  exact View.read_writes_apply_of_pieces M3.view _ _ _ (lenList_agree c M0 f0 16 (le_refl _)) y (lenList_cover c M0 f0 16 (le_refl _) y (y 0).isLt)
end

end Cert.Proof

end
-- ==== Proof.Region.lean ====
/-
  The TensorCore call: its pipeline of one point, entered with the four arrays whole and left with the two results at
  explicit functions of the two inputs.
-/
module

public import proofs.«01_k».proof.Proof.TsVal
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.ValueKit.Geometry

@[expose] public section

set_option maxRecDepth 16384

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig (HIx 1) (Elt F) ℕ UU ℕ

variable (m : (ℓ : Loc nD τ sig) → Buf (Elt F) ℓ)

/-! ## The proof data -/

/-- The lengths and the timestamps on core `c`. -/
abbrev lens (c : Dev nD) : S16.Idx → BitVec 32 := m ((c : Thread nD τ).loc main_arg2)
abbrev stamps (c : Dev nD) : S16x4096.Idx → F .f32 := m ((c : Thread nD τ).loc main_arg1)

/-- The four arrays at their contents on entry; after the body the inputs as fetched and the results computed; nothing
    owed, the recorded pairs at or below the first call's levels. -/
def dat1 (c : Dev nD) : Pipeline.Dat τ (Elt F) (HIx 1) ℕ UU ℕ cfg1 c where
  A w := m ((cfg1.win w).arr.view.loc (c : Thread nD τ))
  after w _ := match w with
    | ⟨0, _⟩ => lens m c
    | ⟨1, _⟩ => stamps m c
    | ⟨2, _⟩ => newTs (lens m c) (stamps m c)
    | ⟨3, _⟩ => newLen (lens m c)
  Φ _ := iprop(emp)
  q _ := fullShare
  owed _ := 0
  recorded _ := {p | (K (F := F)).lev ((c : Thread nD τ), p.1) p.2 ≤ 8}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 m

/-! ## The body -/

theorem before_len (c : Dev nD) (d : (cfg1.win 0).block.Idx → Elt F (cfg1.win 0).elt) : (dat1 m c).before 0 t1_0 d = lens m c := by
  unfold Pipeline.Dat.before; rw [if_pos (by decide)]
  funext j
  refine congrArg (lens m c) ?_
  funext a; apply Fin.ext
  fin_cases a
  show 0 + 1 * (j 0).val = (j 0).val; omega
theorem before_ts (c : Dev nD) (d : (cfg1.win 1).block.Idx → Elt F (cfg1.win 1).elt) : (dat1 m c).before 1 t1_0 d = stamps m c := by
  unfold Pipeline.Dat.before; rw [if_pos (by decide)]
  funext j
  refine congrArg (stamps m c) ?_
  funext a; apply Fin.ext
  fin_cases a
  · show 0 + 1 * (j 0).val = (j 0).val; omega
  · show 0 + 1 * (j 1).val = (j 1).val; omega

omit [FloatOps F] in
theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem ts_whole (c : Dev nD) : (tsRun c (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _) (lens m c) (stamps m c)).1.1
      = newTs (lens m c) (stamps m c) :=
  read_ts c (Memref.whole cc1_stg0_0) (Memref.whole cc1_stg1_0) (lens m c) (stamps m c) (Memref.isWhole_whole _) (Memref.isWhole_whole _)
    (Memref.whole cc1_stg2_0) (Memref.isWhole_whole _) (Memref.whole cc1_stg3_0) (Memref.isWhole_whole _)
theorem len_whole (c : Dev nD) : (tsRun c (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _) (lens m c) (stamps m c)).1.2
      = newLen (lens m c) :=
  read_len c (Memref.whole cc1_stg0_0) (Memref.whole cc1_stg1_0) (lens m c) (stamps m c) (Memref.isWhole_whole _) (Memref.isWhole_whole _)
    (Memref.whole cc1_stg2_0) (Memref.isWhole_whole _) (Memref.whole cc1_stg3_0) (Memref.isWhole_whole _)

/-- The pipeline's body obligation on core `c`: the staging buffers taken apart, `tsRun` applied. -/
theorem body_obligation (c : Dev nD) : BodyObligation (dat1 (F := F) m c) (defs₀ (F := F)) 𝒱₀ none Set.univ := fun t => by
  obtain rfl := fin_N1 t
  rw [bigSep_W1, bigSep_W1]
  simp only [owns_whole_eq]
  rw [show (dat1 m c).Φ t1_0.castSucc = iprop(emp) from rfl, show (dat1 m c).Φ t1_0.succ = iprop(emp) from rfl,
    show (dat1 m c).owesAt none t1_0.succ = (dat1 m c).owesAt none t1_0.castSucc from rfl]
  iintro ⟨-, HO, ⟨%d0, %f0, %hf0, H0⟩, ⟨%d1, %f1, %hf1, H1⟩, ⟨%d2, %f2, %hf2, H2⟩, ⟨%d3, %f3, %hf3, H3⟩⟩
  rw [before_len] at hf0
  rw [before_ts] at hf1
  subst hf0 hf1
  iapply ((tsRun c (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _) (lens m c) (stamps m c)).2 f2 f3 _)
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; exact ts_whole m c
  iexists _; isplitr; swap; (· iexact H3); ipureintro; exact len_whole m c

/-! ## The region -/

/-- A buffer of core `c` at the full share, spelt at the location. -/
abbrev pl (c : Dev nD) (b : Ref sig .tc) (f : b.ty.Contents (Elt F)) : sProp 𝕄 := ((c : Thread nD τ).loc b) ↦{fullShare} f

theorem arrays_eq (c : Dev nD) (Fa) : ((pdats (F := F) m 0 c).arrays Fa : sProp 𝕄)
    = iprop(pl c main_arg2 (Fa 0) ∗ pl c main_arg1 (Fa 1) ∗ pl c main_v25_0 (Fa 2) ∗ pl c main_v25_1 (Fa 3)) := by
  rw [Pipeline.arrays_eq (Pipeline.pin (pcfgs (F := F)) adm) (pdats m) 0 c launch1.arr_whole ((pdats m 0 c).share_full fun _ => rfl) Fa, bigSep_W1]

theorem arrAt_len (c : Dev nD) : (pdats (F := F) m 0 c).arrAt 0 (Pipeline.pin (pcfgs (F := F)) adm 0).N = lens m c :=
  (dat1 (F := F) m c).arrAt_in 0 rfl _
theorem arrAt_ts (c : Dev nD) : (pdats (F := F) m 0 c).arrAt 1 (Pipeline.pin (pcfgs (F := F)) adm 0).N = stamps m c :=
  (dat1 (F := F) m c).arrAt_in 1 rfl _
theorem arrAt_newTs (c : Dev nD) : (pdats (F := F) m 0 c).arrAt 2 (Pipeline.pin (pcfgs (F := F)) adm 0).N = newTs (lens m c) (stamps m c) :=
  (dat1 (F := F) m c).arrAt_eq_of_after_last 2 t1_0 (by decide +kernel) _ (fun j => rfl)
theorem arrAt_newLen (c : Dev nD) : (pdats (F := F) m 0 c).arrAt 3 (Pipeline.pin (pcfgs (F := F)) adm 0).N = newLen (lens m c) :=
  (dat1 (F := F) m c).arrAt_eq_of_after_last 3 t1_0 (by decide +kernel) _ (fun j => rfl)

/-- What the call takes besides the arrays and gives back: the core owing nothing, its recorded pairs low. -/
abbrev owesLow (c : Dev nD) : sProp 𝕄 := iprop(∃ W, ⌜(K (F := F)).WBelow (c : Thread nD τ) W 8⌝ ∗ owes (c : Thread nD τ) 0 W)

/-- The TensorCore call's region. -/
def reg1 : Pipeline.RegionSeg (Name := ℕ) (U := UU) (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ _ _ 0 fun _ _ => rfl
  pre c := iprop((pl c main_arg2 (lens m c) ∗ pl c main_arg1 (stamps m c) ∗ pl c main_v25_0 (m ((c : Thread nD τ).loc main_v25_0)) ∗ pl c main_v25_1 (m ((c : Thread nD τ).loc main_v25_1)))
    ∗ owesLow c)
  post c := iprop((pl c main_arg2 (lens m c) ∗ pl c main_arg1 (stamps m c) ∗ pl c main_v25_0 (newTs (lens m c) (stamps m c)) ∗ pl c main_v25_1 (newLen (lens m c)))
    ∗ owesLow c)
  X _ := iprop(emp)
  Y _ := iprop(emp)
  Z _ := iprop(emp)
  hentry c := by
    rw [Pipeline.ownSems0_none, arrays_eq]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_len, arrAt_ts, arrAt_newTs, arrAt_newLen]
    iintro ⟨Ha, HO, -, -⟩
    imodintro
    isplitl [Ha]; · iexact Ha
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.Proof

end
-- ==== Proof.Host.lean ====
/-
  The operations @main runs before its two calls, as a list, and what they leave: the token as a row, the parameter
  table, and every other array as launched.
-/
module

public import proofs.«01_k».proof.Proof.Tile
public import Idealize.ShloMosaic.Lib.StableHlo.Run

@[expose] public section

set_option maxRecDepth 16384

noncomputable section

namespace Cert.Proof

open Cert.KernelIdeal Cert.KernelIdeal.Gen

open Idealize.ShloMosaic Idealize.ShloMosaic.TcCoe
open Idealize.SL.Sem
open Idealize.ShloMosaic.StableHlo

variable {F : FTy → Type} [FloatOps F]

/-- The operation that writes `main_v22`: the two columns of the table's indices side by side. -/
def fn_main_v22 : (⟨S32x1, .i32⟩ : BufTy).Contents (Elt F) → (⟨S32x1, .i32⟩ : BufTy).Contents (Elt F) → (⟨S32x2, .i32⟩ : BufTy).Contents (Elt F) :=
  (fun a b => concatenate S32x2 1 [⟨S32x1, a⟩, ⟨S32x1, b⟩] concatenates_S32x1_S32x1_S32x2_d1)

/-- @main's operations before its first call, in order. -/
def hostOps : List (HloOp τ sig (Elt F)) :=
  [ reshape main_arg3 main_v0 (rfl : (.f32 : EltTy) = .f32) shapeCasts_S1024_S1x1024,
    nullary main_v1 (iotaInDim S32 32 0),
    nullary main_c (constantI S_ 32 0#32),
    unary main_c main_v2 (broadcastInDim S256x16 ![] bcast_S_S256x16 : (⟨S_, .i32⟩ : BufTy).Contents (Elt F) → (⟨S256x16, .i32⟩ : BufTy).Contents (Elt F)),
    nullary main_c_0 (constantI S_ 32 8#32),
    unary main_c_0 main_v3 (broadcastInDim S32 ![] bcast_S_S32 : (⟨S_, .i32⟩ : BufTy).Contents (Elt F) → (⟨S32, .i32⟩ : BufTy).Contents (Elt F)),
    binary main_v1 main_v3 main_v4 (muli : (⟨S32, .i32⟩ : BufTy).Contents (Elt F) → (⟨S32, .i32⟩ : BufTy).Contents (Elt F) → (⟨S32, .i32⟩ : BufTy).Contents (Elt F)),
    nullary main_c_1 (constantI S_ 32 2#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S32, .i32⟩) main_call0_v1) (broadcastInDim S32 ![] bcast_S_S32),
    TRef.binary (TRef.of (T := ⟨S32, .i32⟩) main_v1) (TRef.of (T := ⟨S32, .i32⟩) main_call0_v1) (TRef.of (T := ⟨S32, .i32⟩) main_call0_v2) Host.divsi,
    TRef.unary (TRef.of (T := ⟨S32, .i32⟩) main_v1) (TRef.of (T := ⟨S32, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S32, .i32⟩) main_call0_v5) (broadcastInDim S32 ![] bcast_S_S32),
    TRef.binary (TRef.of (T := ⟨S32, .i32⟩) main_call0_v3) (TRef.of (T := ⟨S32, .i32⟩) main_call0_v5) (TRef.of (T := ⟨S32, .i1⟩) main_call0_v6) (cmpi .ne),
    TRef.unary (TRef.of (T := ⟨S_, .i32⟩) main_call0_v0) (TRef.of (T := ⟨S32, .i32⟩) main_call0_v7) (broadcastInDim S32 ![] bcast_S_S32),
    TRef.binary (TRef.of (T := ⟨S32, .i32⟩) main_v1) (TRef.of (T := ⟨S32, .i32⟩) main_call0_v7) (TRef.of (T := ⟨S32, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S32, .i32⟩) main_call0_v9) (broadcastInDim S32 ![] bcast_S_S32),
    TRef.binary (TRef.of (T := ⟨S32, .i32⟩) main_call0_v8) (TRef.of (T := ⟨S32, .i32⟩) main_call0_v9) (TRef.of (T := ⟨S32, .i1⟩) main_call0_v10) (cmpi .ne),
    TRef.binary (TRef.of (T := ⟨S32, .i1⟩) main_call0_v6) (TRef.of (T := ⟨S32, .i1⟩) main_call0_v10) (TRef.of (T := ⟨S32, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S32, .i32⟩) main_call0_v12) (broadcastInDim S32 ![] bcast_S_S32),
    TRef.binary (TRef.of (T := ⟨S32, .i32⟩) main_call0_v2) (TRef.of (T := ⟨S32, .i32⟩) main_call0_v12) (TRef.of (T := ⟨S32, .i32⟩) main_call0_v13) subi,
    TRef.ternary (TRef.of (T := ⟨S32, .i1⟩) main_call0_v11) (TRef.of (T := ⟨S32, .i32⟩) main_call0_v13) (TRef.of (T := ⟨S32, .i32⟩) main_call0_v2) (TRef.of (T := ⟨S32, .i32⟩) main_v5) select,
    nullary main_c_2 (constantI S_ 32 0#32),
    unary main_c_2 main_v6 (broadcastInDim S32 ![] bcast_S_S32 : (⟨S_, .i32⟩ : BufTy).Contents (Elt F) → (⟨S32, .i32⟩ : BufTy).Contents (Elt F)),
    binary main_v5 main_v6 main_v7 (cmpi .slt : (⟨S32, .i32⟩ : BufTy).Contents (Elt F) → (⟨S32, .i32⟩ : BufTy).Contents (Elt F) → (⟨S32, .i1⟩ : BufTy).Contents (Elt F)),
    nullary main_c_3 (constantI S_ 32 16#32),
    unary main_c_3 main_v8 (broadcastInDim S32 ![] bcast_S_S32 : (⟨S_, .i32⟩ : BufTy).Contents (Elt F) → (⟨S32, .i32⟩ : BufTy).Contents (Elt F)),
    binary main_v5 main_v8 main_v9 (addi : (⟨S32, .i32⟩ : BufTy).Contents (Elt F) → (⟨S32, .i32⟩ : BufTy).Contents (Elt F) → (⟨S32, .i32⟩ : BufTy).Contents (Elt F)),
    ternary main_v7 main_v9 main_v5 main_v10 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v10 main_v11 (broadcastInDim S32x1 ![0] bcast_S32_S32x1_0 : (⟨S32, .i32⟩ : BufTy).Contents (Elt F) → (⟨S32x1, .i32⟩ : BufTy).Contents (Elt F)),
    binary main_arg2 main_v11 main_v12 ((fun x i => Host.gather gather_S16_S32x1_S32_n_0_n_n_0_1_1 x i) : (⟨S16, .i32⟩ : BufTy).Contents (Elt F) → (⟨S32x1, .i32⟩ : BufTy).Contents (Elt F) → (⟨S32, .i32⟩ : BufTy).Contents (Elt F)),
    nullary main_c_4 (constantI S_ 32 0#32),
    unary main_c_4 main_v13 (broadcastInDim S32 ![] bcast_S_S32 : (⟨S_, .i32⟩ : BufTy).Contents (Elt F) → (⟨S32, .i32⟩ : BufTy).Contents (Elt F)),
    binary main_v4 main_v13 main_v14 (cmpi .slt : (⟨S32, .i32⟩ : BufTy).Contents (Elt F) → (⟨S32, .i32⟩ : BufTy).Contents (Elt F) → (⟨S32, .i1⟩ : BufTy).Contents (Elt F)),
    nullary main_c_5 (constantI S_ 32 256#32),
    unary main_c_5 main_v15 (broadcastInDim S32 ![] bcast_S_S32 : (⟨S_, .i32⟩ : BufTy).Contents (Elt F) → (⟨S32, .i32⟩ : BufTy).Contents (Elt F)),
    binary main_v4 main_v15 main_v16 (addi : (⟨S32, .i32⟩ : BufTy).Contents (Elt F) → (⟨S32, .i32⟩ : BufTy).Contents (Elt F) → (⟨S32, .i32⟩ : BufTy).Contents (Elt F)),
    ternary main_v14 main_v16 main_v4 main_v17 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    nullary main_c_6 (constantI S_ 32 0#32),
    unary main_c_6 main_v18 (broadcastInDim S32 ![] bcast_S_S32 : (⟨S_, .i32⟩ : BufTy).Contents (Elt F) → (⟨S32, .i32⟩ : BufTy).Contents (Elt F)),
    unary main_v18 main_v19 (id : (⟨S32, .i32⟩ : BufTy).Contents (Elt F) → (⟨S32, .i32⟩ : BufTy).Contents (Elt F)),
    unary main_v17 main_v20 (broadcastInDim S32x1 ![0] bcast_S32_S32x1_0 : (⟨S32, .i32⟩ : BufTy).Contents (Elt F) → (⟨S32x1, .i32⟩ : BufTy).Contents (Elt F)),
    unary main_v19 main_v21 (broadcastInDim S32x1 ![0] bcast_S32_S32x1_0 : (⟨S32, .i32⟩ : BufTy).Contents (Elt F) → (⟨S32x1, .i32⟩ : BufTy).Contents (Elt F)),
    binary main_v20 main_v21 main_v22 (fn_main_v22 (F := F)),
    ternary main_v2 main_v22 main_v12 main_v23 ((fun x i u => Host.scatter scatter_S256x16_S32x2_S32_n_01_01_1 (fun _ b => b) x i u) : (⟨S256x16, .i32⟩ : BufTy).Contents (Elt F) → (⟨S32x2, .i32⟩ : BufTy).Contents (Elt F) → (⟨S32, .i32⟩ : BufTy).Contents (Elt F) → (⟨S256x16, .i32⟩ : BufTy).Contents (Elt F)) ]

set_option maxHeartbeats 4000000 in
/-- @main is those operations, the SparseCore call, the TensorCore call. -/
theorem main_eq (d : Dev nD) : main (F := F) d = (seq hostOps >>= fun _ => ((K (F := F)).run d 0 >>= fun _ =>
    Prog.lift (.customCall (SparseCore.inner (Pipeline.entry 0)) ()) >>= fun _ => pure ⟨⟩)) := rfl

/-- The buffers of @main's values. -/
def uc : Finset (DevRef τ sig) := (tcRefs τ sig).filter fun b => ¬ b.isScoped

theorem hostOps_tc : (hostOps : List (HloOp τ sig (Elt F))).Forall fun op => op.bufs ⊆ tcRefs τ sig :=
  ⟨reshape_bufs_sub .., nullary_bufs_sub .., nullary_bufs_sub .., unary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., ternary_bufs_sub ..⟩
theorem hostOps_sub : ∀ op ∈ (hostOps : List (HloOp τ sig (Elt F))), op.bufs ⊆ uc := fun op h b hb =>
  Finset.mem_filter.mpr ⟨(List.forall_iff_forall_mem.mp hostOps_tc) op h hb, by rw [op.no_scoped b hb]; exact Bool.false_ne_true⟩
theorem hostOps_fresh : ∀ op ∈ (hostOps : List (HloOp τ sig (Elt F))), op.fresh = ∅ :=
  List.forall_iff_forall_mem.mp (forall_fresh_of_map rfl)

/-- The references those operations write. -/
def hostOuts : List (Ref sig .tc) := [main_v0, main_v1, main_c, main_v2, main_c_0, main_v3, main_v4, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v5, main_c_2, main_v6, main_v7, main_c_3, main_v8, main_v9, main_v10, main_v11, main_v12, main_c_4, main_v13, main_v14, main_c_5, main_v15, main_v16, main_v17, main_c_6, main_v18, main_v19, main_v20, main_v21, main_v22, main_v23]
theorem hostOps_writes : (hostOps : List (HloOp τ sig (Elt F))).Forall fun op => op.writes ⊆ (hostOuts.map (Proc.devRef (τ := τ) .tc)).toFinset :=
  forall_writes_sub_of_map rfl

/-- An array none of them writes is as before. -/
theorem host_keep (V : Valuation τ sig (Elt F)) (r : Ref sig .tc) (h : r ∉ hostOuts) :
    after hostOps V (Proc.devRef .tc r) = V (Proc.devRef .tc r) :=
  after_of_writes_sub hostOps V hostOps_writes h

theorem host_arg0 (V : Valuation τ sig (Elt F)) : after hostOps V main_arg0 = V main_arg0 := host_keep V main_arg0 (by decide)
theorem host_arg1 (V : Valuation τ sig (Elt F)) : after hostOps V main_arg1 = V main_arg1 := host_keep V main_arg1 (by decide)
theorem host_arg2 (V : Valuation τ sig (Elt F)) : after hostOps V main_arg2 = V main_arg2 := host_keep V main_arg2 (by decide)
theorem host_arg3 (V : Valuation τ sig (Elt F)) : after hostOps V main_arg3 = V main_arg3 := host_keep V main_arg3 (by decide)
theorem host_v24 (V : Valuation τ sig (Elt F)) : after hostOps V main_v24 = V main_v24 := host_keep V main_v24 (by decide)
theorem host_v25_0 (V : Valuation τ sig (Elt F)) : after hostOps V main_v25_0 = V main_v25_0 := host_keep V main_v25_0 (by decide)
theorem host_v25_1 (V : Valuation τ sig (Elt F)) : after hostOps V main_v25_1 = V main_v25_1 := host_keep V main_v25_1 (by decide)

end Cert.Proof

end
-- ==== Proof.Launch.lean ====
/-
  The SparseCore call's launch: what the handshakes carry, each tile's task as the launch theorem asks for it, the split of
  the four arrays among the tiles, and the launch's ghost state.
-/
module

public import proofs.«01_k».proof.Proof.Own
public import proofs.«01_k».proof.Proof.Region
public import proofs.«01_k».proof.Proof.Host
public import Idealize.ShloMosaic.Lib.SparseCore.Quiescent

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## Shares -/

/-- Share `i` of `n + 1`: the left half for the first, the right half cut further for the rest. -/
def part : (n : ℕ) → PosShare TreeShare → Fin (n + 1) → PosShare TreeShare
  | 0, q, _ => q
  | n + 1, q, i => Fin.cases q.left (part n q.right) i

omit [FloatOps F] in
/-- Over the first index and the rest. -/
theorem bigSep_head (n : ℕ) (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), BI.bigSep_map]
  rfl

omit [FloatOps F] in
/-- Contents held at a share are held at its parts. -/
theorem pointsTo_parts {ℓ : Loc nD τ sig} (f : Buf (Elt F) ℓ) :
    ∀ (n : ℕ) (q : PosShare TreeShare), (ℓ ↦{q} f : sProp 𝕄) = bigSep Finset.univ fun i : Fin (n + 1) => ℓ ↦{part n q i} f
  | 0, q => (bigSep_univ_of_subsingleton (0 : Fin 1) (Φ := fun i : Fin 1 => (ℓ ↦{part 0 q i} f : sProp 𝕄))).symm
  | n + 1, q => by
    rw [bigSep_head, BI.Entails.antisymm (pointsTo_share (PosShare.mem_left_op_right q)).1 (pointsTo_share (PosShare.mem_left_op_right q)).2,
      pointsTo_parts f n q.right]
    rfl

/-- The share of tile `s` of core `c`. -/
def shr (c : Fin 2) (s : Fin 16) : PosShare TreeShare := part 15 (part 1 fullShare c) s

omit [FloatOps F] in
theorem pointsTo_tiles {ℓ : Loc nD τ sig} (f : Buf (Elt F) ℓ) :
    (ℓ ↦{fullShare} f : sProp 𝕄) = bigSep Finset.univ fun c : Fin 2 => bigSep Finset.univ fun s : Fin 16 => ℓ ↦{shr c s} f :=
  (pointsTo_parts f 1 fullShare).trans (bigSep_congr fun c _ => pointsTo_parts f 15 (part 1 fullShare c))

/-! ## What the handshakes carry -/

/-- A device's buffers at launch, and after @main's operations. -/
abbrev V₀ (d : Dev nD) : Valuation τ sig (Elt F) := fun b => m (d, b)
def V₁ (d : Dev nD) : Valuation τ sig (Elt F) := StableHlo.after hostOps (V₀ m d)

/-- The token's row, and the parameter table. -/
def tokRow (d : Dev nD) : Buf (Elt F) (tLoc d) := V₁ m d (Proc.devRef .tc main_v0)
def params (d : Dev nD) : Buf (Elt F) (pLoc d) := V₁ m d (Proc.devRef .tc main_v23)

/-- The SparseCore call's result. -/
def resX (d : Dev nD) : Buf (Elt F) (oLoc d) := resG (m (xLoc d)) (tokRow m d) (params m d)

/-- What tile `s` of core `c` takes, its part of the result at `f`. -/
abbrev tRes (d : Dev nD) (f : Buf (Elt F) (oLoc d)) (c : Fin 2) (s : Fin 16) : sProp 𝕄 :=
  tileRes d (coordsV c s) (m (xLoc d)) (tokRow m d) (params m d) (shr c s) f

theorem nCore_zero : (K (F := F)).nCore 0 = 2 := rfl
theorem nSub_zero : (K (F := F)).nSub 0 = 16 := rfl

/-- The call takes every tile's part, the result's at its launch contents, and brings them back with the result's as
    computed. -/
def P : (K (F := F)).Pay (nD := nD) (Val := Elt F) (Name := ℕ) (U := UU) where
  st := fun q d c => match q with | 0 => bigSep Finset.univ fun s : Fin 16 => tRes m d (m (oLoc d)) (Fin.cast nCore_zero c) s
  dn := fun q d c => match q with | 0 => bigSep Finset.univ fun s : Fin 16 => tRes m d (resX m d) (Fin.cast nCore_zero c) s
  go := fun q d c i => match q with | 0 => tRes m d (m (oLoc d)) (Fin.cast nCore_zero c) (Fin.cast nSub_zero i)
  td := fun q d c i => match q with | 0 => tRes m d (resX m d) (Fin.cast nCore_zero c) (Fin.cast nSub_zero i)
  x := fun _ _ => iprop(emp)

instance tRes_storable (d : Dev nD) (f : Buf (Elt F) (oLoc d)) (c : Fin 2) (s : Fin 16) : BI.Storable (upEmb : UEmb _ 𝕄) (tRes m d f c s) := by
  unfold tRes tileRes; infer_instance

instance P_storable : (P (F := F) m).IsStorable where
  st q d c := match q with
    | 0 => (inferInstance : BI.Storable (upEmb : UEmb _ 𝕄) (bigSep Finset.univ fun s : Fin 16 => tRes m d (m (oLoc d)) (Fin.cast nCore_zero c) s))
  dn q d c := match q with
    | 0 => (inferInstance : BI.Storable (upEmb : UEmb _ 𝕄) (bigSep Finset.univ fun s : Fin 16 => tRes m d (resX m d) (Fin.cast nCore_zero c) s))
  go q d c i := match q with
    | 0 => tRes_storable m d (m (oLoc d)) (Fin.cast nCore_zero c) (Fin.cast nSub_zero i)
  td q d c i := match q with
    | 0 => tRes_storable m d (resX m d) (Fin.cast nCore_zero c) (Fin.cast nSub_zero i)

/-! ## The tile's task as the launch theorem asks for it -/

theorem defs₀_vector (c : Fin τ.nSC) (s : Fin τ.nSub) :
    defs₀ (F := F) (.scVector c s) 0 ()
      = SparseCore.onTile hcore0 hsub0 (fun c s => cc0__sc_body (coordsV c s) xV (Memref.isWhole_whole _) tV (Memref.isWhole_whole _) pV (Memref.isWhole_whole _) oV (Memref.isWhole_whole _) bV (Memref.isWhole_whole _) wV (Memref.isWhole_whole _) aV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (xLoc d)) (tokRow m d) (params m d) (shr (Fin.cast nCore_zero c) (Fin.cast nSub_zero i)) (m (oLoc d)) O W hO).trans
    (wp_mono frame _ _ fun _ => obl_post)

/-! ## The arrays split among the tiles -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The four arrays whole are the tiles' parts. -/
theorem tiles_eq (d : Dev nD) (f : Buf (Elt F) (oLoc d)) :
    (bigSep Finset.univ fun c : Fin 2 => bigSep Finset.univ fun s : Fin 16 => tRes m d f c s : sProp 𝕄)
      = iprop((xLoc d ↦{fullShare} m (xLoc d)) ∗ (tLoc d ↦{fullShare} tokRow m d) ∗ (pLoc d ↦{fullShare} params m d) ∗ oLoc d ↦{fullShare} f) := by
  unfold tRes tileRes
  rw [pointsTo_tiles (m (xLoc d)), pointsTo_tiles (tokRow m d), pointsTo_tiles (params m d), rset_split d f]
  simp only [bigSep_sep']

theorem st0_eq (d : Dev nD) : (bigSep Finset.univ fun c : Fin ((K (F := F)).nCore 0) => (P m).st 0 d c : sProp 𝕄)
    = iprop((xLoc d ↦{fullShare} m (xLoc d)) ∗ (tLoc d ↦{fullShare} tokRow m d) ∗ (pLoc d ↦{fullShare} params m d) ∗ oLoc d ↦{fullShare} m (oLoc d)) :=
  (bigSep_cores (F := F) fun c => bigSep Finset.univ fun s : Fin 16 => tRes m d (m (oLoc d)) c s).trans (tiles_eq m d _)
theorem dn0_eq (d : Dev nD) : (bigSep Finset.univ fun c : Fin ((K (F := F)).nCore 0) => (P m).dn 0 d c : sProp 𝕄)
    = iprop((xLoc d ↦{fullShare} m (xLoc d)) ∗ (tLoc d ↦{fullShare} tokRow m d) ∗ (pLoc d ↦{fullShare} params m d) ∗ oLoc d ↦{fullShare} resX m d) :=
  (bigSep_cores (F := F) fun c => bigSep Finset.univ fun s : Fin 16 => tRes m d (resX m d) c s).trans (tiles_eq m d _)

theorem vecSplit : (K (F := F)).VecSplit' (P m) 0 := by
  intro d c
  show (bigSep Finset.univ fun s : Fin 16 => tRes m d (m (oLoc d)) (Fin.cast nCore_zero c) s) ⊢ |={Set.univ}=> iprop(
      (bigSep Finset.univ fun i : Fin ((K (F := F)).nSub 0) => tRes m d (m (oLoc d)) (Fin.cast nCore_zero c) (Fin.cast nSub_zero i))
      ∗ ((bigSep Finset.univ fun i : Fin ((K (F := F)).nSub 0) => tRes m d (resX m d) (Fin.cast nCore_zero c) (Fin.cast nSub_zero i))
          -∗ (bigSep Finset.univ fun s : Fin 16 => tRes m d (resX m d) (Fin.cast nCore_zero c) s)))
  rw [bigSep_tasks (F := F) (fun s => tRes m d (m (oLoc d)) (Fin.cast nCore_zero c) s), bigSep_tasks (F := F) (fun s => tRes m d (resX m d) (Fin.cast nCore_zero c) s)]
  iintro H; imodintro
  isplitl [H]; · iexact H
  iintro H; iexact H

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the TensorCore call is entered with. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_G : (bigSep Finset.univ fun d : Dev nD => G (F := F) d)
    = iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => Pipeline.toksInit (Pipeline.pin (pcfgs (F := F)) adm) EP p c)) := by
  unfold G
  rw [bigSep_sep']
  congr 1 <;> refine bigSep_congr fun _ _ => ?_ <;> rw [bigSep_univ_of_subsingleton (0 : Fin 1)]

omit [FloatOps F] in
theorem bigSep_emp' {I : Type} (s : Finset I) : (bigSep s fun _ => iprop(emp)) = (iprop(emp) : sProp 𝕄) := bigSep_emp_const s

theorem own_EP (a : UP) : (BI.own (embR (a, (1 : Counters))) : sProp 𝕄) = BI.own (EP a) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HP⟩
  ihave HP := (Entails.of_eq (own_EP _)) $$ HP
  ihave H := (Pipeline.fund_ghost (Pipeline.pin (pcfgs (F := F)) adm) EP cellOf_inj) $$ HP
  imod H
  icases H with ⟨Hc, Ht⟩
  imodintro
  isplitl [HH]; · iexact HH
  isplitl [Hc Ht]
  · rw [bigSep_G]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof

end
-- ==== Proof.Main.lean ====
/-
  @main on the TensorCore: its operations, the SparseCore call, the TensorCore call; and the program's run, every result
  at an explicit function of the arguments.
-/
module

public import proofs.«01_k».proof.Proof.Launch

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers the two calls and the claim are about. -/
def named : Finset (DevRef τ sig) :=
  {Proc.devRef .tc main_arg0, Proc.devRef .tc main_arg1, Proc.devRef .tc main_arg2, Proc.devRef .tc main_arg3, Proc.devRef .tc main_v0,
    Proc.devRef .tc main_v23, Proc.devRef .tc main_v24, Proc.devRef .tc main_v25_0, Proc.devRef .tc main_v25_1}
theorem named_sub : named ⊆ uc := by decide +kernel

omit [FloatOps F] in
theorem unscopedBufs_held (d : Dev nD) (W : Valuation τ sig (Elt F)) :
    (unscopedBufs d (fun b => W b) : sProp 𝕄) = StableHlo.held (d : Thread nD τ) uc W := by
  unfold unscopedBufs StableHlo.held uc StableHlo.tcRefs
  rw [Finset.filter_map, BI.bigSep_map]
  rfl

omit [FloatOps F] in
theorem named_eq (d : Dev nD) (W : Valuation τ sig (Elt F)) : (StableHlo.held (d : Thread nD τ) named W : sProp 𝕄)
    = iprop(pl d main_arg0 (W main_arg0) ∗ pl d main_arg1 (W main_arg1) ∗ pl d main_arg2 (W main_arg2) ∗ pl d main_arg3 (W main_arg3)
        ∗ pl d main_v0 (W main_v0) ∗ pl d main_v23 (W main_v23) ∗ pl d main_v24 (W main_v24) ∗ pl d main_v25_0 (W main_v25_0) ∗ pl d main_v25_1 (W main_v25_1)) := by
  unfold StableHlo.held
  rw [bigSep_eq_bigSepL_of_eq [Proc.devRef .tc main_arg0, Proc.devRef .tc main_arg1, Proc.devRef .tc main_arg2, Proc.devRef .tc main_arg3, Proc.devRef .tc main_v0,
    Proc.devRef .tc main_v23, Proc.devRef .tc main_v24, Proc.devRef .tc main_v25_0, Proc.devRef .tc main_v25_1] (by decide) (by decide)]
  rfl

/-- What @main leaves of device `d`: the arguments as launched, the results as computed. -/
abbrev FIN (d : Dev nD) : sProp 𝕄 :=
  iprop(pl d main_arg0 (m ((d : Thread nD τ).loc main_arg0)) ∗ pl d main_arg1 (stamps m d) ∗ pl d main_arg2 (lens m d) ∗ pl d main_arg3 (m ((d : Thread nD τ).loc main_arg3))
    ∗ pl d main_v24 (resX m d) ∗ pl d main_v25_0 (newTs (lens m d) (stamps m d)) ∗ pl d main_v25_1 (newLen (lens m d)))

theorem tcall_lift : (Prog.lift (.customCall (SparseCore.inner (Pipeline.entry 0)) ())
      : Prog (TpuEff nD τ sig (Elt F) (SparseCore.Sig (ΛP (F := F)) 1) .tc) PUnit)
    = SparseCore.liftProg (Prog.op (.customCall (Pipeline.entry 0) ()) .ret) := rfl

/-- The TensorCore call in @main. -/
theorem tcall (d : Dev nD) (Q : PUnit → sProp 𝕄) :
    iprop((iprop(boundary (d : Thread nD τ) ∗ (reg1 m).post d) -∗ Q ⟨⟩) ∗ boundary (d : Thread nD τ) ∗ (reg1 m).pre d
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [tcall_lift]
  refine BI.Entails.trans ?_ ((K (F := F)).wp_liftProg (D (F := F)) 𝒱 (SparseCore.T d) Set.univ none _ _)
  refine BI.Entails.trans ?_ (Pipeline.RegionSeg.wp (pcfgs (F := F)) adm (pdats m) none cellOf_inj EP defs₀ 𝒱₀ (K (F := F)).L (K (F := F)).lev (reg1 m) d none
    (fun u hu => absurd hu (by simp)) _ Q)
  unfold G
  change ((_ : sProp 𝕄) ⊢ (_ : sProp 𝕄))
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

theorem reg1_pre (d : Dev nD) : (reg1 m).pre d = iprop((pl d main_arg2 (lens m d) ∗ pl d main_arg1 (stamps m d)
    ∗ pl d main_v25_0 (m ((d : Thread nD τ).loc main_v25_0)) ∗ pl d main_v25_1 (m ((d : Thread nD τ).loc main_v25_1))) ∗ owesLow d) := rfl
theorem reg1_post (d : Dev nD) : (reg1 m).post d = iprop((pl d main_arg2 (lens m d) ∗ pl d main_arg1 (stamps m d)
    ∗ pl d main_v25_0 (newTs (lens m d) (stamps m d)) ∗ pl d main_v25_1 (newLen (lens m d))) ∗ owesLow d) := rfl

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = _ from unscopedBufs_held d (V₀ m d)]
  iintro ⟨#Hctx, Hst, ⟨Hb, Hu, Hts, -⟩, Hg⟩
  iapply (StableHlo.wp_seq 𝒱 none Set.univ d uc _ hostOps hostOps_sub hostOps_fresh (V₀ m d)) $$ [Hb Hu]
  · isplitl [Hb] <;> iassumption
  rw [StableHlo.held_sub_split _ named_sub, named_eq, host_arg0, host_arg1, host_arg2, host_arg3, host_v24, host_v25_0, host_v25_1]
  iintro ⟨Hb, ⟨H0, H1, H2, H3, Hv0, Hv23, Hv24, Ha, Hc⟩, -⟩
  rw [wp_bind]
  iapply ((K (F := F)).wp_run (D (F := F)) 𝒱 (EH := EH) (P := P m) κ d 0) $$ [Hst H0 H1 H2 H3 Hv0 Hv23 Hv24 Ha Hc Hb Hts Hg]
  isplitr; · iexact Hctx
  isplitl [Hst]; · iexact Hst
  isplitl [H0 Hv0 Hv23 Hv24]
  · rw [st0_eq]
    isplitl [H0]; · iexact H0
    isplitl [Hv0]; · iexact Hv0
    isplitl [Hv23]; · iexact Hv23
    iexact Hv24
  iintro ⟨Hst, Hdn⟩
  ihave Hdn' := (Entails.of_eq (dn0_eq m d)) $$ Hdn
  icases Hdn' with ⟨H0, -, -, Hv24⟩
  unfold SparseCore.Cfg.tcSt
  icases Hst with ⟨⟨%W, %hW, HO⟩, Hst⟩
  ihave Hlv := (SparseCore.Cfg.ctx_levAts κ) $$ Hctx
  rw [wp_bind]
  iapply (tcall m d _)
  isplitr [Hb H1 H2 Ha Hc HO Hlv Hg]
  · rw [reg1_post]
    iintro ⟨Hb, ⟨H2, H1, Ha, Hc⟩, ⟨%W', %hW', HO⟩⟩
    rw [wp_pure]
    imodintro
    isplitl [Hst HO]
    · isplitl [HO]
      · iexists W'
        isplitr; · ipureintro; exact hW'
        rw [(K (F := F)).Otc_end d (le_refl _)]
        iexact HO
      iexact Hst
    isplitl [H0 H1 H2 H3 Hv24 Ha Hc]
    · isplitl [H0]; · iexact H0
      isplitl [H1]; · iexact H1
      isplitl [H2]; · iexact H2
      isplitl [H3]; · iexact H3
      isplitl [Hv24]; · iexact Hv24
      isplitl [Ha] <;> iassumption
    isplitl [Hb] <;> iassumption
  isplitl [Hb]; · iexact Hb
  isplitl [H1 H2 Ha Hc HO]
  · rw [reg1_pre]
    isplitl [H1 H2 Ha Hc]
    · isplitl [H2]; · iexact H2
      isplitl [H1]; · iexact H1
      isplitl [Ha] <;> iassumption
    iexists W
    isplitr; · ipureintro; exact hW
    rw [← (K (F := F)).Otc_end d (le_refl _)]
    iexact HO
  isplitl [Hlv] <;> iassumption

/-! ## The run -/

/-- A final state of device `d`: the arguments as launched, the results as computed. -/
def fq (d : Dev nD) (s' : Phys nD τ sig (Elt F)) : Prop :=
  s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_v24) = resX m d
    ∧ s'.mem.mem ((d : Thread nD τ).loc main_v25_0) = newTs (lens m d) (stamps m d)
    ∧ s'.mem.mem ((d : Thread nD τ).loc main_v25_1) = newLen (lens m d)

omit [FloatOps F] in
/-- A buffer held whole beside the state: the state has its contents. -/
theorem read_pl (d : Dev nD) (b : Ref sig .tc) (f : b.ty.Contents (Elt F)) (s' : Phys nD τ sig (Elt F)) :
    iprop(SI s' ∗ pl d b f) ⊢ iprop(⌜s'.mem.mem ((d : Thread nD τ).loc b) = f⌝ ∗ SI s' : sProp 𝕄) := by
  iintro H
  ihave H := (persistent_entails_right (SI_pointsTo_agree (st := s') (ℓ := (d : Thread nD τ).loc b) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5, H6⟩, HS⟩
  ihave H := (read_pl d _ _ s') $$ [HS H0]
  · isplitl [HS] <;> iassumption
  icases H with ⟨%h0, HS⟩
  ihave H := (read_pl d _ _ s') $$ [HS H1]
  · isplitl [HS] <;> iassumption
  icases H with ⟨%h1, HS⟩
  ihave H := (read_pl d _ _ s') $$ [HS H2]
  · isplitl [HS] <;> iassumption
  icases H with ⟨%h2, HS⟩
  ihave H := (read_pl d _ _ s') $$ [HS H3]
  · isplitl [HS] <;> iassumption
  icases H with ⟨%h3, HS⟩
  ihave H := (read_pl d _ _ s') $$ [HS H4]
  · isplitl [HS] <;> iassumption
  icases H with ⟨%h4, HS⟩
  ihave H := (read_pl d _ _ s') $$ [HS H5]
  · isplitl [HS] <;> iassumption
  icases H with ⟨%h5, HS⟩
  ihave H := (read_pl d _ _ s') $$ [HS H6]
  · isplitl [HS] <;> iassumption
  icases H with ⟨%h6, -⟩
  ipureintro; exact ⟨h0, h1, h2, h3, h4, h5, h6⟩

/-- The final memory: the arguments as launched, the results as computed. -/
def Good (d : Dev nD) (r : PUnit × MemSt nD τ sig (Elt F)) : Prop :=
  r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_v24) = resX m d
    ∧ r.2.mem ((d : Thread nD τ).loc main_v25_0) = newTs (lens m d) (stamps m d)
    ∧ r.2.mem ((d : Thread nD τ).loc main_v25_1) = newLen (lens m d)

/-- Every execution of the program ends with the arguments as launched, the results as computed, every counter zero. -/
theorem run_main [∀ e, Nonempty (Elt F e)] :
    θ_run (Cert.KernelIdeal.defs (F := F)) (Cert.KernelIdeal.threads (F := F)) ⟨m, fun _ => 0, ρ⟩
      (fun r => (∀ d, Good m d r) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G d) (FIN m) (u₀ (F := F)) (sep_elim_left.trans (hu₀ m)) (hmain m ρ) (fq m) (hfin m) _ (fun _ h hz => ⟨h, hz⟩)

end Cert.Proof

end
-- ==== Proof.Same.lean ====
/-
  The program and its idealization are one text: their body tables and their threads' programs are equal, over any
  float values.
-/
module

public import proofs.«01_k».proof.Defs
public import proofs.«01_k».proof.Proof.Gen.Kernel
public import proofs.«01_k».proof.Proof.Gen.KernelIdeal

@[expose] public section

set_option maxRecDepth 100000

noncomputable section

namespace Cert.Proof

open Idealize.ShloMosaic Idealize.SL.Sem

attribute [local instance] Cert.Kernel.Gen.facts Cert.KernelIdeal.Gen.facts

variable {F : FTy → Type} [FloatOps F]

set_option maxHeartbeats 4000000 in
/-- The tile's program is the same. -/
theorem scBody_same : Cert.Kernel.cc0__sc_body (F := F) = Cert.KernelIdeal.cc0__sc_body (F := F) := rfl

set_option maxHeartbeats 4000000 in
/-- The TensorCore kernel's program is the same. -/
theorem tsBody_same : Cert.Kernel.cc1__ts_body (F := F) = Cert.KernelIdeal.cc1__ts_body (F := F) := rfl

set_option maxHeartbeats 4000000 in
/-- The kernels' bodies are the same. -/
theorem bodies_same : Cert.Kernel.defs₀ (F := F) = Cert.KernelIdeal.defs₀ (F := F) := by
  funext p l a
  match p, l, a with
  | .scVector c s, 0, a => unfold Cert.Kernel.defs₀ Cert.KernelIdeal.defs₀; rw [scBody_same]; rfl
  | .scVector c s, 1, a => rfl
  | .tc, 0, a => rfl
  | .tc, 1, (t, s) => unfold Cert.Kernel.defs₀ Cert.KernelIdeal.defs₀; rw [tsBody_same]; rfl
  | .scScalar c, 0, a => rfl
  | .scScalar c, 1, a => rfl

end Cert.Proof

end
-- ==== Proof.MainSame.lean ====
/-
  The program and its idealization, continued: their @main, body tables and threads' programs are equal.
-/
module

public import proofs.«01_k».proof.Proof.Same

@[expose] public section

set_option maxRecDepth 100000

noncomputable section

namespace Cert.Proof

open Idealize.ShloMosaic Idealize.SL.Sem

attribute [local instance] Cert.Kernel.Gen.facts Cert.KernelIdeal.Gen.facts

variable {F : FTy → Type} [FloatOps F]

set_option maxHeartbeats 8000000 in
/-- @main is the same. -/
theorem main_same (d : Dev Cert.Kernel.nD) : Cert.Kernel.main (F := F) d = Cert.KernelIdeal.main (F := F) d := rfl

set_option maxHeartbeats 4000000 in
/-- The body tables are the same. -/
theorem defs_same : Cert.Kernel.defs (F := F) = Cert.KernelIdeal.defs (F := F) := by
  unfold Cert.Kernel.defs Cert.KernelIdeal.defs
  rw [bodies_same]
  rfl

set_option maxHeartbeats 4000000 in
/-- The threads' programs are the same. -/
theorem threads_same : Cert.Kernel.threads (F := F) = Cert.KernelIdeal.threads (F := F) := by
  have h : Cert.Kernel.main (F := F) = Cert.KernelIdeal.main (F := F) := funext main_same
  unfold Cert.Kernel.threads Cert.KernelIdeal.threads
  rw [h]
  rfl

end Cert.Proof

end
-- ==== Proof.Frames.lean ====
/-
  The frames: the program at either reading, and the reference, run to the end with their arguments as launched and
  every counter zero.
-/
module

public import proofs.«01_k».proof.Defs
public import proofs.«01_k».proof.Proof.Main
public import proofs.«01_k».proof.Proof.MainSame
public import proofs.«01_k».proof.Proof.Gen.ReferenceIdeal.Run
public import proofs.«01_k».proof.Proof.Gen.Pre_pre
public import Idealize.ShloMosaic.Lib.Quiescent

@[expose] public section

set_option maxRecDepth 16384

noncomputable section

namespace Cert.Proof

open Idealize.ShloMosaic Idealize.SL.Sem Idealize.ShloMosaic.StableHlo

attribute [local instance] Cert.Kernel.Gen.facts Cert.ReferenceIdeal.Gen.facts Cert.Pre_pre.Gen.facts

/-- The idealized program's frame: its run, the values dropped. -/
theorem frame_kernelIdeal : Cert.quiescent_KernelIdeal := fun m ρ _ =>
  (θ_run (Cert.KernelIdeal.defs (F := Ideal)) _ _).mono
    (fun _ h => ⟨fun c => ⟨(h.1 c).1, (h.1 c).2.1, (h.1 c).2.2.1, (h.1 c).2.2.2.1⟩, h.2⟩) (run_main (F := Ideal) m ρ)

/-- The same under the precondition. -/
theorem frame_kernelIdeal_pre : Cert.quiescent_KernelIdeal_pre_pre := fun m ρ _ => frame_kernelIdeal m ρ trivial

set_option maxHeartbeats 4000000 in
/-- The program's frame at float words: its text is the idealized program's, whose run is over any floats. -/
theorem frame_kernel : Cert.quiescent_Kernel := by
  intro m ρ _
  rw [defs_same, threads_same]
  exact (θ_run (Cert.KernelIdeal.defs (F := Bits)) (Cert.KernelIdeal.threads (F := Bits)) _).mono
    (fun _ h => ⟨fun c => ⟨(h.1 c).1, (h.1 c).2.1, (h.1 c).2.2.1, (h.1 c).2.2.2.1⟩, h.2⟩) (run_main (F := Bits) m ρ)

/-- The reference's frame: its run, the values dropped; it declares no counter, so every one reads zero. -/
theorem frame_reference : Cert.quiescent_ReferenceIdeal := fun m ρ _ =>
  (θ_run (Cert.ReferenceIdeal.defs (F := Ideal)) _ _).mono
    (fun r h => ⟨fun c => ⟨(h c).2.2.2.2.1, (h c).2.2.2.2.2.1, (h c).2.2.2.2.2.2.1, (h c).2.2.2.2.2.2.2⟩,
      sem_eq_zero_of_no_sems (by decide) r.2⟩) (Cert.ReferenceIdeal.Value.run (F := Ideal) m ρ)

/-- The same under the precondition. -/
theorem frame_reference_pre : Cert.quiescent_ReferenceIdeal_pre_pre := fun m ρ _ => frame_reference m ρ trivial

end Cert.Proof

end
-- ==== Proof.Hit.lean ====
/-
  Which row of a sequence the tiles overwrite: the one the sequence's length names.
-/
module

public import proofs.«01_k».proof.Proof.Vals

@[expose] public section

set_option maxRecDepth 16384

noncomputable section

namespace Cert.Proof

open Cert.KernelIdeal Cert.KernelIdeal.Gen
open Idealize.ShloMosaic

/-- The kernel's `w // 32` (the sign-corrected quotient), as its text has it. -/
def fdiv32 (v41 : BitVec 32) : BitVec 32 :=
  let v47 : BitVec 32 := Scalar.subi (Scalar.extui (Scalar.cmpi .sgt v41 0#32)) (Scalar.extui (Scalar.cmpi .slt v41 0#32))
  let v52 : BitVec 32 := Scalar.subi (Scalar.extui (Scalar.cmpi .sgt 32#32 0#32)) (Scalar.extui (Scalar.cmpi .slt 32#32 0#32))
  let v56 : BitVec 1 := Scalar.andi (Scalar.cmpi .ne v47 v52) (Scalar.cmpi .ne (Scalar.remsi v41 32#32) 0#32)
  Scalar.select v56 (Scalar.subi (Scalar.divsi v41 32#32) 1#32) (Scalar.divsi v41 32#32)

/-- Whether row `v` is among the 2048 rows from `h`, as the kernel computes it. -/
def ownF (h v : BitVec 32) : BitVec 1 := Scalar.andi (Scalar.cmpi .sge v h) (Scalar.cmpi .slt v (Scalar.addi h 2048#32))

theorem condF_eq (i : grid0.Coords) (v : BitVec 32) (n : ℕ) :
    condF i v n = Scalar.cmpi .ne (Scalar.extui (Scalar.andi (ownF (firstRow i) v)
      (Scalar.cmpi .eq (fdiv32 (Scalar.subi v (firstRow i))) (BitVec.ofNat 32 (n % 64)))) : BitVec 32) 0#32 := rfl

theorem both_iff : ∀ p q : BitVec 1, Scalar.cmpi .ne (Scalar.extui (Scalar.andi p q) : BitVec 32) 0#32 = 1#1 ↔ p = 1#1 ∧ q = 1#1 := by
  decide

/-- The kernel's arithmetic on row `2048 c + 32 a + b`. -/
theorem ownF_num : ∀ (h c : Fin 2) (a : Fin 64) (b : Fin 32),
    ownF (BitVec.ofNat 32 (h.val * 2048)) (BitVec.ofNat 32 (2048 * c.val + 32 * a.val + b.val)) = 1#1 ↔ c = h := by
  decide +kernel

theorem fdiv32_num : ∀ (a : Fin 64) (b : Fin 32), fdiv32 (BitVec.ofNat 32 (32 * a.val + b.val)) = BitVec.ofNat 32 a.val := by
  decide +kernel

theorem fmod32_num : ∀ (a : Fin 64) (b : Fin 32), fmod32 (BitVec.ofNat 32 (32 * a.val + b.val)) = BitVec.ofNat 32 b.val := by
  decide +kernel

/-- A row is overwritten exactly when it is the row the word names. -/
theorem hitAt_iff (L : grid0.Coords) (v : BitVec 32) (hv : v.toNat < 4096) (n r : ℕ) (hn : n < 64) (hr : r < 32) :
    hitAt L v n r ↔ v.toNat = (L 0).val * 2048 + 32 * n + r := by
  have hL := L0_lt L
  obtain ⟨k, hk⟩ : ∃ k : ℕ, v.toNat = k := ⟨_, rfl⟩
  have ev : v = BitVec.ofNat 32 (2048 * (k / 2048) + 32 * (k % 2048 / 32) + k % 32) := by
    apply BitVec.eq_of_toNat_eq
    rw [BitVec.toNat_ofNat, hk]
    omega
  have hown := ownF_num ⟨(L 0).val, hL⟩ ⟨k / 2048, by omega⟩ ⟨k % 2048 / 32, by omega⟩ ⟨k % 32, by omega⟩
  rw [← ev, Fin.mk.injEq] at hown
  unfold hitAt
  rw [condF_eq, both_iff, off6_one, firstRow_eq]
  unfold halfW
  rw [hown]
  by_cases hc : k / 2048 = (L 0).val
  · have es : Scalar.subi v (BitVec.ofNat 32 ((L 0).val * 2048)) = BitVec.ofNat 32 (32 * (k % 2048 / 32) + k % 32) := by
      show v - _ = _
      apply BitVec.eq_of_toNat_eq
      rw [BitVec.toNat_sub, BitVec.toNat_ofNat, BitVec.toNat_ofNat, hk]
      omega
    have es' : v - BitVec.ofNat 32 ((L 0).val * 2048) = BitVec.ofNat 32 (32 * (k % 2048 / 32) + k % 32) := es
    have hd := fdiv32_num ⟨k % 2048 / 32, by omega⟩ ⟨k % 32, by omega⟩
    have hm := fmod32_num ⟨k % 2048 / 32, by omega⟩ ⟨k % 32, by omega⟩
    have ec : Scalar.cmpi .eq (BitVec.ofNat 32 (k % 2048 / 32)) (BitVec.ofNat 32 (n % 64)) = 1#1 ↔ k % 2048 / 32 = n := by
      show BitVec.ofBool (BitVec.ofNat 32 (k % 2048 / 32) == BitVec.ofNat 32 (n % 64)) = 1#1 ↔ _
      by_cases e : k % 2048 / 32 = n
      · simp [e, Nat.mod_eq_of_lt hn]
      · have : ¬ BitVec.ofNat 32 (k % 2048 / 32) = BitVec.ofNat 32 (n % 64) := fun q => e (by
          have := congrArg BitVec.toNat q
          rw [BitVec.toNat_ofNat, BitVec.toNat_ofNat] at this
          omega)
        rw [beq_eq_false_iff_ne.mpr this]
        exact iff_of_false (by decide) e
    rw [es, es', hd, hm, ec, BitVec.toNat_ofNat, hk]
    show (k / 2048 = (L 0).val ∧ _) ∧ r = k % 32 % 2 ^ 32 ↔ _
    omega
  · constructor
    · intro h; exact absurd h.1.1 hc
    · intro h; exfalso; omega

end Cert.Proof

end
-- ==== Proof.Pair.lean ====
/-
  Where an update lands in a scatter whose every update is one entry, its row and its column given by an index word each.
-/
module

public import Idealize.ShloMosaic.Lib.Routing.OpsPair
public import Idealize.ShloMosaic.Lib.ValueIdxCore

@[expose] public section

set_option maxRecDepth 16384

noncomputable section

namespace Cert.Proof.Ref

open Idealize.ShloMosaic
open Idealize.ShloMosaic.ValueIdx (ix0 ix1 ix2 ix3)

/-- The scatter of `A` entries into an array of `R` rows and `C` columns. -/
abbrev pairDims {R C A : ℕ} (wf : ScatterDims.WF ⟨2, ![R, C]⟩ ⟨2, ![A, 2]⟩ ⟨1, ![A]⟩ [] [0, 1] [0, 1] 1) :
    ScatterDims ⟨2, ![R, C]⟩ ⟨2, ![A, 2]⟩ ⟨1, ![A]⟩ where
  updateWindowDims := []
  insertedWindowDims := [0, 1]
  scatterDimsToOperandDims := [0, 1]
  indexVectorDim := 1
  wf := wf

/-- Its update `k` lands at the entry its two index words name. -/
theorem lands_pair {R C A : ℕ} (wf : ScatterDims.WF ⟨2, ![R, C]⟩ ⟨2, ![A, 2]⟩ ⟨1, ![A]⟩ [] [0, 1] [0, 1] 1)
    (idx : IVec ⟨2, ![A, 2]⟩ 32) (k : (⟨1, ![A]⟩ : Shape).Idx) (i : (⟨2, ![R, C]⟩ : Shape).Idx) :
    (pairDims wf).resultIdx? k idx = some i
      ↔ (idx (ix2 (n0 := A) (n1 := 2) (k 0) 0)).toInt = (i 0).val ∧ (idx (ix2 (n0 := A) (n1 := 2) (k 0) 1)).toInt = (i 1).val := by
  have s0 : (pairDims wf).start k idx 0 = (idx (ix2 (n0 := A) (n1 := 2) (k 0) 0)).toInt := by
    show (idx ((pairDims wf).siIdx k ⟨0, _⟩)).toInt = _
    refine congrArg (fun q => (idx q).toInt) (funext fun b => ?_)
    match b with | ⟨0, _⟩ => rfl | ⟨1, _⟩ => rfl
  have s1 : (pairDims wf).start k idx 1 = (idx (ix2 (n0 := A) (n1 := 2) (k 0) 1)).toInt := by
    show (idx ((pairDims wf).siIdx k ⟨1, _⟩)).toInt = _
    refine congrArg (fun q => (idx q).toInt) (funext fun b => ?_)
    match b with | ⟨0, _⟩ => rfl | ⟨1, _⟩ => rfl
  have w0 : (pairDims wf).window k 0 = 0 := rfl
  have w1 : (pairDims wf).window k 1 = 0 := rfl
  rw [Routing.resultIdx?_eq_some]
  constructor
  · intro h
    have h0 := h 0
    have h1 := h 1
    rw [s0, w0] at h0
    rw [s1, w1] at h1
    omega
  · intro ⟨h0, h1⟩ a
    match a with
    | ⟨0, _⟩ => refine (congrArg₂ (fun (x : ℤ) (y : ℕ) => x + y) s0 w0).trans ?_; change _ = ((i 0).val : ℤ); omega
    | ⟨1, _⟩ => refine (congrArg₂ (fun (x : ℤ) (y : ℕ) => x + y) s1 w1).trans ?_; change _ = ((i 1).val : ℤ); omega

end Cert.Proof.Ref

end
-- ==== Proof.ParVal.lean ====
/-
  What @main's operations leave the tiles: the token as a row, and in row `8 w` of the parameter table, the length of
  sequence `w / 2`.
-/
module

public import proofs.«01_k».proof.Proof.Launch
public import proofs.«01_k».proof.Proof.Pair
public import Idealize.ShloMosaic.Lib.Routing.OpsSet
public import Idealize.ShloMosaic.Lib.Pointwise.SelectCore

@[expose] public section

set_option maxRecDepth 16384

noncomputable section

namespace Cert.Proof

open Cert.KernelIdeal Cert.KernelIdeal.Gen
open Idealize.ShloMosaic hiding ix1 ix2 ix3
open Idealize.ShloMosaic.TcCoe
open Idealize.ShloMosaic.ValueIdx (ix0 ix1 ix2 ix3)
open Idealize.SL.Sem
open Idealize.ShloMosaic.StableHlo

variable {F : FTy → Type} [FloatOps F]

/-- `w // 2` of the tile's number `w`, as jnp computes it. -/
def halfW0 : IVec S32 32 :=
  select (andi (cmpi .ne (signi (iotaInDim S32 32 0)) (broadcastInDim S32 ![] bcast_S_S32 (signi (id (constantI S_ 32 2#32)))))
      (cmpi .ne (Host.remsi (iotaInDim S32 32 0) (broadcastInDim S32 ![] bcast_S_S32 (id (constantI S_ 32 2#32)))) (broadcastInDim S32 ![] bcast_S_S32 (constantI S_ 32 0#32))))
    (subi (Host.divsi (iotaInDim S32 32 0) (broadcastInDim S32 ![] bcast_S_S32 (id (constantI S_ 32 2#32)))) (broadcastInDim S32 ![] bcast_S_S32 (constantI S_ 32 1#32)))
    (Host.divsi (iotaInDim S32 32 0) (broadcastInDim S32 ![] bcast_S_S32 (id (constantI S_ 32 2#32))))

/-- The sequence of tile `w`, wrapped. -/
def seqT : IVec S32 32 :=
  select (cmpi .slt halfW0 (broadcastInDim S32 ![] bcast_S_S32 (constantI S_ 32 0#32))) (addi halfW0 (broadcastInDim S32 ![] bcast_S_S32 (constantI S_ 32 16#32))) halfW0

/-- Tile `w`'s row of the table, wrapped. -/
def rowT : IVec S32 32 :=
  select (cmpi .slt (muli (iotaInDim S32 32 0) (broadcastInDim S32 ![] bcast_S_S32 (constantI S_ 32 8#32))) (broadcastInDim S32 ![] bcast_S_S32 (constantI S_ 32 0#32)))
    (addi (muli (iotaInDim S32 32 0) (broadcastInDim S32 ![] bcast_S_S32 (constantI S_ 32 8#32))) (broadcastInDim S32 ![] bcast_S_S32 (constantI S_ 32 256#32)))
    (muli (iotaInDim S32 32 0) (broadcastInDim S32 ![] bcast_S_S32 (constantI S_ 32 8#32)))

theorem seqT_at : ∀ w : Fin 32, seqT (ix1 w) = BitVec.ofNat 32 (w.val / 2) := by decide +kernel
theorem rowT_at : ∀ w : Fin 32, rowT (ix1 w) = BitVec.ofNat 32 (8 * w.val) := by decide +kernel

/-- Where each tile's length goes in the table. -/
def posT : IVec S32x2 32 :=
  concatenate S32x2 1 [⟨S32x1, broadcastInDim S32x1 ![0] bcast_S32_S32x1_0 rowT⟩,
    ⟨S32x1, broadcastInDim S32x1 ![0] bcast_S32_S32x1_0 (id (broadcastInDim S32 ![] bcast_S_S32 (constantI S_ 32 0#32)))⟩] concatenates_S32x1_S32x1_S32x2_d1

theorem posT_zero (w : Fin 32) : (posT (ix2 w (0 : Fin 2))).toInt = ((8 * w.val : ℕ) : ℤ) := by
  have e : posT (ix2 w (0 : Fin 2)) = rowT (ix1 w) := by
    unfold posT
    rw [concatenate_pair_apply]
    refine (dif_pos (show (0 : ℕ) < 1 by decide)).trans ?_
    refine congrArg rowT (funext fun a => ?_)
    match a with | ⟨0, _⟩ => rfl
  rw [e, rowT_at, BitVec.toInt_eq_toNat_cond, BitVec.toNat_ofNat]
  omega

theorem posT_one (w : Fin 32) : (posT (ix2 w (1 : Fin 2))).toInt = 0 := by
  have e : posT (ix2 w (1 : Fin 2)) = 0#32 := by
    unfold posT
    rw [concatenate_pair_apply]
    exact (dif_neg (show ¬ (1 : ℕ) < 1 by decide)).trans rfl
  rw [e]
  decide

/-- Each tile's length. -/
def lenT (A : IVec S16 32) : IVec S32 32 := Host.gather gather_S16_S32x1_S32_n_0_n_n_0_1_1 A (broadcastInDim S32x1 ![0] bcast_S32_S32x1_0 seqT)

theorem lenT_at (A : IVec S16 32) (w : Fin 32) : lenT A (ix1 w) = A (ix1 (⟨w.val / 2, by omega⟩ : Fin 16)) := by
  unfold lenT Host.gather
  refine congrArg A (funext fun a => Fin.ext ?_)
  match a with
  | ⟨0, _⟩ =>
    have e : (broadcastInDim S32x1 ![0] bcast_S32_S32x1_0 seqT) (gather_S16_S32x1_S32_n_0_n_n_0_1_1.siIdx (ix1 w) ⟨0, by decide⟩) = seqT (ix1 w) := by
      refine congrArg seqT (funext fun c => ?_)
      match c with | ⟨0, _⟩ => rfl
    show min ((broadcastInDim S32x1 ![0] bcast_S32_S32x1_0 seqT) (gather_S16_S32x1_S32_n_0_n_n_0_1_1.siIdx (ix1 w) ⟨0, _⟩)).toInt.toNat 15 + 0 + 0 = w.val / 2
    rw [e, seqT_at, BitVec.toInt_eq_toNat_cond, BitVec.toNat_ofNat]
    omega

/-- The table. -/
def parT (A : IVec S16 32) : IVec S256x16 32 :=
  Host.scatter scatter_S256x16_S32x2_S32_n_01_01_1 (fun _ b => b) (broadcastInDim S256x16 ![] bcast_S_S256x16 (constantI S_ 32 0#32)) posT (lenT A)

theorem parT_at (A : IVec S16 32) (w : Fin 32) :
    parT A (ix2 (⟨8 * w.val, by omega⟩ : Fin 256) (0 : Fin 16)) = A (ix1 (⟨w.val / 2, by omega⟩ : Fin 16)) := by
  refine Eq.trans ?_ (lenT_at A w)
  unfold parT
  have hl : ∀ k : S32.Idx, scatter_S256x16_S32x2_S32_n_01_01_1.resultIdx? k posT = some (ix2 (⟨8 * w.val, by omega⟩ : Fin 256) (0 : Fin 16))
      ↔ (k 0).val = w.val := fun k => by
    have h0 := posT_zero (k 0)
    have h1 := posT_one (k 0)
    refine (Ref.lands_pair (A := 32) (R := 256) (C := 16) _ posT k _).trans ⟨fun h => ?_, fun h => ?_⟩
    · have := Int.ofNat.inj (h0.symm.trans h.1)
      change 8 * (k 0).val = 8 * w.val at this
      omega
    · exact ⟨h0.trans (congrArg (fun q : ℕ => ((8 * q : ℕ) : ℤ)) h), h1⟩
  refine Routing.scatter_set_hit _ _ _ _ _ _ (fun k hk => ?_) (ix1 w) ((hl _).2 rfl)
  exact congrArg (lenT A) (funext fun a => match a with | ⟨0, _⟩ => Fin.ext ((hl k).1 hk))

variable (m : (ℓ : Loc nD τ sig) → Buf (Elt F) ℓ)

set_option maxHeartbeats 4000000 in
theorem params_eq (d : Dev nD) : params m d = parT (m ((d.tc : Thread nD τ).loc main_arg2)) := by
  unfold params V₁
  simp only [hostOps, TRef.binary, TRef.nullary, TRef.reshape, TRef.ternary, TRef.unary, TRef.toBuf, TRef.ofBuf, cast_eq]
  after_results_simp <;> rfl

set_option maxHeartbeats 4000000 in
theorem tokRow_eq (d : Dev nD) : tokRow m d = shapeCast S1x1024 (m ((d.tc : Thread nD τ).loc main_arg3)) shapeCasts_S1024_S1x1024 := by
  unfold tokRow V₁
  simp only [hostOps, TRef.binary, TRef.nullary, TRef.reshape, TRef.ternary, TRef.unary, TRef.toBuf, TRef.ofBuf, cast_eq]
  after_results_simp <;> rfl

end Cert.Proof

end
-- ==== Proof.PayVal.lean ====
/-
  A row of the timestamps result over the reals: the entry the length names is the one before it (a sum of which every
  other term is zero), every other is the argument's.
-/
module

public import proofs.«01_k».proof.Proof.TsVal
public import Idealize.ShloMosaic.PureOps.Ideal.Laws
public import Idealize.ShloMosaic.Lib.Pipeline.Value

@[expose] public section

set_option maxRecDepth 16384

noncomputable section

namespace Cert.Proof

open Cert.KernelIdeal Cert.KernelIdeal.Gen
open Idealize.ShloMosaic
open Idealize.ShloMosaic.ValueIdx (ix0 ix1 ix2 ix3)

/-- Comparing a column's number with a word below 4097. -/
theorem iota_eq_iff (k j : ℕ) (hk : k < 2 ^ 32) (hj : j < 2 ^ 32) : IntOp.cmpi .eq (BitVec.ofNat 32 j) (BitVec.ofNat 32 k) = 1#1 ↔ j = k := by
  show BitVec.ofBool (BitVec.ofNat 32 j == BitVec.ofNat 32 k) = 1#1 ↔ _
  by_cases e : j = k
  · subst e; simp
  · have : ¬ BitVec.ofNat 32 j = BitVec.ofNat 32 k := fun q => e (by
      have := congrArg BitVec.toNat q
      rw [BitVec.toNat_ofNat, BitVec.toNat_ofNat] at this
      omega)
    rw [beq_eq_false_iff_ne.mpr this]
    exact iff_of_false (by decide) e

/-- The comparison of a row's column numbers with a word, at a column. -/
theorem cmpCol_at (w : BitVec 32) (r : Fin 4096) :
    cmpi .eq (iota .tc S1x4096 32 [1] iota_S1x4096_d1_w32) (broadcast S1x4096 w) (ix2 (0 : Fin 1) r) = IntOp.cmpi .eq (BitVec.ofNat 32 r.val) w := by
  show IntOp.cmpi .eq (iota .tc S1x4096 32 [1] iota_S1x4096_d1_w32 (ix2 (0 : Fin 1) r)) w = _
  rw [iota_single_apply]

/-- A bit that is not one is zero. -/
theorem eq_zero_of_ne_one {b : BitVec 1} (h : ¬ b = 1#1) : b = 0#1 := by revert b; decide

/-- The one-hot sum of a row. -/
def pickF (w : BitVec 32) (v : FVec Ideal S1x4096 .f32) : EReal :=
  multiReduction (F := Ideal) (φ := .f32) .add [1, 2] S1
    (shapeCast S1x1x4096 (select (cmpi .eq (iota .tc S1x4096 32 [1] iota_S1x4096_d1_w32) (broadcast S1x4096 w)) v (broadcast S1x4096 (Scalar.ofBits (F := Ideal) .f32 0x00000000#32))) shapeCasts_S1x4096_S1x1x4096)
    0x00000000#32 reduces_S1x1x4096_S1 (.inl rfl) rfl (ix1 (0 : Fin 1))

theorem pickF_eq (p : Fin 4096) (v : FVec Ideal S1x4096 .f32) : pickF (BitVec.ofNat 32 p.val) v = v (ix2 (0 : Fin 1) p) := by
  unfold pickF
  refine (Ideal.multiReduction_add_total _ _ _ (fun b => match b with | ⟨0, _⟩ => rfl) _ _ _).trans ?_
  rw [Finset.sum_eq_single (ix3 (0 : Fin 1) (0 : Fin 1) p)]
  · rw [shapeCast_apply _ _ _ (ix2 (0 : Fin 1) p) (by
      rw [Shape.rowMajor_val_two, Shape.rowMajor_val_three]
      show 0 * 4096 + p.val = (0 * 1 + 0) * 4096 + p.val
      omega)]
    show Scalar.select (cmpi .eq (iota .tc S1x4096 32 [1] iota_S1x4096_d1_w32) (broadcast S1x4096 (BitVec.ofNat 32 p.val)) (ix2 (0 : Fin 1) p)) (v (ix2 (0 : Fin 1) p)) _ = _
    rw [cmpCol_at, (iota_eq_iff p.val p.val (by omega) (by omega)).2 rfl]
    rfl
  · intro i _ hi
    have h2 : (i 2).val < 4096 := (i 2).isLt
    have ei : i = ix3 (0 : Fin 1) (0 : Fin 1) (⟨(i 2).val, h2⟩ : Fin 4096) := funext fun a => match a with
      | ⟨0, _⟩ => Fin.ext (by have : (i 0).val < 1 := (i 0).isLt; show (i 0).val = 0; omega)
      | ⟨1, _⟩ => Fin.ext (by have : (i 1).val < 1 := (i 1).isLt; show (i 1).val = 0; omega)
      | ⟨2, _⟩ => rfl
    have hne : ¬ (i 2).val = p.val := fun h => hi (by rw [ei]; exact congrArg (ix3 (0 : Fin 1) (0 : Fin 1)) (Fin.ext h))
    rw [ei, shapeCast_apply _ _ _ (ix2 (0 : Fin 1) (⟨(i 2).val, h2⟩ : Fin 4096)) (by
      rw [Shape.rowMajor_val_two, Shape.rowMajor_val_three]
      show 0 * 4096 + (i 2).val = (0 * 1 + 0) * 4096 + (i 2).val
      omega)]
    have hz : IntOp.cmpi .eq (BitVec.ofNat 32 (i 2).val) (BitVec.ofNat 32 p.val) = 0#1 :=
      eq_zero_of_ne_one fun h => hne ((iota_eq_iff p.val _ (by omega) (by omega)).1 h)
    show Scalar.select (cmpi .eq (iota .tc S1x4096 32 [1] iota_S1x4096_d1_w32) (broadcast S1x4096 (BitVec.ofNat 32 p.val)) (ix2 (0 : Fin 1) (⟨(i 2).val, h2⟩ : Fin 4096))) _ (Ideal.ofBits .f32 0x00000000#32) = 0
    rw [cmpCol_at, hz, Ideal.ofBits_zero_f32]
    rfl
  · intro h; exact absurd (Finset.mem_univ _) h

theorem pay1_at (a : BitVec 32) (v : FVec Ideal S1x4096 .f32) (r : Fin 4096) :
    k1_pay1 (F := Ideal) a v (ix2 (0 : Fin 1) r)
      = Scalar.select (IntOp.cmpi .eq (BitVec.ofNat 32 r.val) a) (pickF (IntOp.maxsi (IntOp.subi a 1#32) 0#32) v) (v (ix2 (0 : Fin 1) r)) := by
  rw [← cmpCol_at]
  refine congrArg (fun q => Scalar.select _ q (v (ix2 (0 : Fin 1) r))) ?_
  exact shapeCast_apply _ shapeCasts_S1_S1x1x1 _ (ix1 (0 : Fin 1)) (by decide)

end Cert.Proof

end
-- ==== Proof.Lands.lean ====
/-
  The reference's scatters and gather, read at an index: where an update lands and which entry a gather reads.
-/
module

public import proofs.«01_k».proof.Proof.Gen.ReferenceIdeal.Run
public import proofs.«01_k».proof.Proof.Pair

@[expose] public section

set_option maxRecDepth 16384

noncomputable section

namespace Cert.Proof.Ref

open Cert.ReferenceIdeal Cert.ReferenceIdeal.Gen Idealize.ShloMosaic
open Idealize.ShloMosaic.ValueIdx (ix0 ix1 ix2 ix3)

/-- Update `(b, e)` of the row scatter lands at the row its two index words name, column `e`. -/
theorem lands_rows (idx : IVec S16x2 32) (k : S16x1024.Idx) (i : S16x4097x1024.Idx) :
    scatter_S16x4097x1024_S16x2_S16x1024_1_01_01_1.resultIdx? k idx = some i
      ↔ (idx (ix2 (k 0) (0 : Fin 2))).toInt = (i 0).val ∧ (idx (ix2 (k 0) (1 : Fin 2))).toInt = (i 1).val ∧ (k 1).val = (i 2).val := by
  have s0 : scatter_S16x4097x1024_S16x2_S16x1024_1_01_01_1.start k idx 0 = (idx (ix2 (k 0) (0 : Fin 2))).toInt := by
    show (idx (scatter_S16x4097x1024_S16x2_S16x1024_1_01_01_1.siIdx k ⟨0, _⟩)).toInt = _
    refine congrArg (fun q => (idx q).toInt) (funext fun b => ?_)
    match b with | ⟨0, _⟩ => rfl | ⟨1, _⟩ => rfl
  have s1 : scatter_S16x4097x1024_S16x2_S16x1024_1_01_01_1.start k idx 1 = (idx (ix2 (k 0) (1 : Fin 2))).toInt := by
    show (idx (scatter_S16x4097x1024_S16x2_S16x1024_1_01_01_1.siIdx k ⟨1, _⟩)).toInt = _
    refine congrArg (fun q => (idx q).toInt) (funext fun b => ?_)
    match b with | ⟨0, _⟩ => rfl | ⟨1, _⟩ => rfl
  have s2 : scatter_S16x4097x1024_S16x2_S16x1024_1_01_01_1.start k idx 2 = 0 := rfl
  have w0 : scatter_S16x4097x1024_S16x2_S16x1024_1_01_01_1.window k 0 = 0 := rfl
  have w1 : scatter_S16x4097x1024_S16x2_S16x1024_1_01_01_1.window k 1 = 0 := rfl
  have w2 : scatter_S16x4097x1024_S16x2_S16x1024_1_01_01_1.window k 2 = (k 1).val := rfl
  rw [Routing.resultIdx?_eq_some]
  constructor
  · intro h
    have h0 := h 0
    have h1 := h 1
    have h2 := h 2
    rw [s0, w0] at h0
    rw [s1, w1] at h1
    rw [s2, w2] at h2
    omega
  · intro ⟨h0, h1, h2⟩ a
    match a with
    | ⟨0, _⟩ => refine (congrArg₂ (fun (x : ℤ) (y : ℕ) => x + y) s0 w0).trans ?_; change _ = ((i 0).val : ℤ); omega
    | ⟨1, _⟩ => refine (congrArg₂ (fun (x : ℤ) (y : ℕ) => x + y) s1 w1).trans ?_; change _ = ((i 1).val : ℤ); omega
    | ⟨2, _⟩ => refine (congrArg₂ (fun (x : ℤ) (y : ℕ) => x + y) s2 w2).trans ?_; change _ = ((i 2).val : ℤ); omega

/-- Update `b` of the timestamps' scatter lands at the entry its two index words name. -/
theorem lands_ts (idx : IVec S16x2 32) (k : S16.Idx) (i : S16x4097.Idx) :
    scatter_S16x4097_S16x2_S16_n_01_01_1.resultIdx? k idx = some i
      ↔ (idx (ix2 (k 0) (0 : Fin 2))).toInt = (i 0).val ∧ (idx (ix2 (k 0) (1 : Fin 2))).toInt = (i 1).val :=
  lands_pair (A := 16) (R := 16) (C := 4097) _ idx k i

/-- The gather of one column a row, read at row `b`: the entry its index word names, when that is in range. -/
theorem gather_col {α : Type} (x : S16x4096.Idx → α) (idx : IVec S16x1x1 32) (b : Fin 16) (p : Fin 4096)
    (h : (idx (ix3 b (0 : Fin 1) (0 : Fin 1))).toInt = p.val) :
    Host.gather gather_S16x4096_S16x1x1_S16x1_n_1_0_0_1_2_11 x idx (ix2 b (0 : Fin 1)) = x (ix2 b p) := by
  unfold Host.gather
  refine congrArg x (funext fun a => Fin.ext ?_)
  match a with
  | ⟨0, _⟩ =>
    show 0 + b.val + 0 = b.val
    omega
  | ⟨1, _⟩ =>
    have e : gather_S16x4096_S16x1x1_S16x1_n_1_0_0_1_2_11.siIdx (ix2 b (0 : Fin 1)) ⟨0, by decide⟩ = ix3 b (0 : Fin 1) (0 : Fin 1) := by
      funext c
      match c with | ⟨0, _⟩ => rfl | ⟨1, _⟩ => rfl | ⟨2, _⟩ => rfl
    show min (idx (gather_S16x4096_S16x1x1_S16x1_n_1_0_0_1_2_11.siIdx (ix2 b (0 : Fin 1)) ⟨0, _⟩)).toInt.toNat 4095 + 0 + 0 = p.val
    rw [e, h]
    have := p.isLt
    omega

end Cert.Proof.Ref

end
-- ==== Proof.RefVal.lean ====
/-
  The reference's results read at an index, the lengths below 4096: the row (the entry) a length names is the token
  (the timestamp before it), every other is the argument's, and below them stands the first again.
-/
module

public import proofs.«01_k».proof.Proof.Lands
public import Idealize.ShloMosaic.Lib.Routing.OpsSet
public import Idealize.ShloMosaic.Lib.Pointwise.SelectCore

@[expose] public section

set_option maxRecDepth 16384

noncomputable section

namespace Cert.Proof.Ref

open Cert.ReferenceIdeal Cert.ReferenceIdeal.Gen
open Idealize.ShloMosaic hiding ix1 ix2 ix3
open Idealize.ShloMosaic.ValueIdx (ix0 ix1 ix2 ix3)

variable {α : Type}

/-- The table of index words: each sequence's number, and its length. -/
def tab (A : IVec S16 32) : IVec S16x2 32 :=
  concatenate S16x2 1 [⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩,
    ⟨S16x1, (broadcastInDim S16x1 ![0] bcast_S16_S16x1_0 (select (cmpi .slt A (broadcastInDim S16 ![] bcast_S_S16 (constantI S_ 32 0#32))) (addi A (broadcastInDim S16 ![] bcast_S_S16 (constantI S_ 32 4097#32))) A))⟩] concatenates_S16x1_S16x1_S16x2_d1

theorem tab_zero (A : IVec S16 32) (b : Fin 16) : tab A (ix2 b (0 : Fin 2)) = BitVec.ofNat 32 b.val := by
  unfold tab
  rw [concatenate_pair_apply]
  refine (dif_pos (show (0 : ℕ) < 1 by decide)).trans ?_
  exact Routing.wrap_of_lt (BitVec.ofNat 32 b.val) _ (by rw [BitVec.toNat_ofNat]; omega)

theorem tab_one (A : IVec S16 32) (b : Fin 16) (hA : (A (ix1 b)).toNat < 4096) : tab A (ix2 b (1 : Fin 2)) = A (ix1 b) := by
  unfold tab
  rw [concatenate_pair_apply]
  refine (dif_neg (show ¬ (1 : ℕ) < 1 by decide)).trans ?_
  refine Eq.trans ?_ (Routing.wrap_of_lt (A (ix1 b)) (A (ix1 b) + 4097#32) (by omega))
  refine congrArg (fun w : BitVec 32 => Scalar.select (IntOp.cmpi .slt w 0#32) (w + 4097#32) w) (congrArg A (funext fun a => ?_))
  match a with | ⟨0, _⟩ => rfl

theorem tab_zero_toInt (A : IVec S16 32) (b : Fin 16) : (tab A (ix2 b (0 : Fin 2))).toInt = b.val := by
  rw [tab_zero, BitVec.toInt_eq_toNat_cond, BitVec.toNat_ofNat]
  omega

theorem tab_one_toInt (A : IVec S16 32) (b : Fin 16) (hA : (A (ix1 b)).toNat < 4096) :
    (tab A (ix2 b (1 : Fin 2))).toInt = (A (ix1 b)).toNat := by
  rw [tab_one A b hA, BitVec.toInt_eq_toNat_cond]
  omega

/-- The argument with its first row again below it. -/
def padX (X : S16x4096x1024.Idx → α) : S16x4097x1024.Idx → α :=
  concatenate S16x4097x1024 1 [⟨S16x4096x1024, X⟩, ⟨S16x1x1024, (extractStridedSlice S16x1x1024 ![0, 0, 0] X slices_S16x4096x1024_S16x1x1024_0_0_0)⟩] concatenates_S16x4096x1024_S16x1x1024_S16x4097x1024_d1

theorem padX_at (X : S16x4096x1024.Idx → α) (b : Fin 16) (r : Fin 4097) (e : Fin 1024) :
    padX X (ix3 b r e) = if h : r.val < 4096 then X (ix3 b (⟨r.val, h⟩ : Fin 4096) e) else X (ix3 b (0 : Fin 4096) e) := by
  unfold padX
  rw [concatenate_pair_apply]
  by_cases h : r.val < 4096
  · refine (dif_pos (show r.val < 4096 from h)).trans ?_
    rw [dif_pos h]
    exact congrArg X (funext fun a => match a with | ⟨0, _⟩ => rfl | ⟨1, _⟩ => rfl | ⟨2, _⟩ => rfl)
  · refine (dif_neg (show ¬ r.val < 4096 from h)).trans ?_
    rw [dif_neg h]
    have hr := r.isLt
    refine congrArg X (funext fun a => Fin.ext ?_)
    match a with
    | ⟨0, _⟩ => show 0 + b.val = b.val; omega
    | ⟨1, _⟩ => show 0 + (r.val - 4096) = 0; omega
    | ⟨2, _⟩ => show 0 + e.val = e.val; omega

/-- The same of the timestamps. -/
def padT (T : S16x4096.Idx → α) : S16x4097.Idx → α :=
  concatenate S16x4097 1 [⟨S16x4096, T⟩, ⟨S16x1, (extractStridedSlice S16x1 ![0, 0] T slices_S16x4096_S16x1_0_0)⟩] concatenates_S16x4096_S16x1_S16x4097_d1

theorem padT_at (T : S16x4096.Idx → α) (b : Fin 16) (r : Fin 4097) :
    padT T (ix2 b r) = if h : r.val < 4096 then T (ix2 b (⟨r.val, h⟩ : Fin 4096)) else T (ix2 b (0 : Fin 4096)) := by
  unfold padT
  rw [concatenate_pair_apply]
  by_cases h : r.val < 4096
  · refine (dif_pos (show r.val < 4096 from h)).trans ?_
    rw [dif_pos h]
    exact congrArg T (funext fun a => match a with | ⟨0, _⟩ => rfl | ⟨1, _⟩ => rfl)
  · refine (dif_neg (show ¬ r.val < 4096 from h)).trans ?_
    rw [dif_neg h]
    have hr := r.isLt
    refine congrArg T (funext fun a => Fin.ext ?_)
    match a with
    | ⟨0, _⟩ => show 0 + b.val = b.val; omega
    | ⟨1, _⟩ => show 0 + (r.val - 4096) = 0; omega

/-- The reference's first result. -/
def refX (X : S16x4096x1024.Idx → α) (A : IVec S16 32) (Tk : S1024.Idx → α) : S16x4097x1024.Idx → α :=
  Host.scatter scatter_S16x4097x1024_S16x2_S16x1024_1_01_01_1 (fun _ b => b) (padX X) (tab A) (broadcastInDim S16x1024 ![1] bcast_S1024_S16x1024_1 Tk)

theorem refX_at (X : S16x4096x1024.Idx → α) (A : IVec S16 32) (Tk : S1024.Idx → α) (hA : ∀ b, (A (ix1 b)).toNat < 4096)
    (b : Fin 16) (r : Fin 4097) (e : Fin 1024) :
    refX X A Tk (ix3 b r e) = if (A (ix1 b)).toNat = r.val then Tk (ix1 e) else padX X (ix3 b r e) := by
  unfold refX
  have hl : ∀ k : S16x1024.Idx, scatter_S16x4097x1024_S16x2_S16x1024_1_01_01_1.resultIdx? k (tab A) = some (ix3 b r e)
      ↔ (k 0).val = b.val ∧ (A (ix1 (k 0))).toNat = r.val ∧ (k 1).val = e.val := fun k => by
    have h0 := tab_zero_toInt A (k 0)
    have h1 := tab_one_toInt A (k 0) (hA _)
    refine (lands_rows (tab A) k (ix3 b r e)).trans ⟨fun h => ?_, fun h => ?_⟩
    · exact ⟨Int.ofNat.inj (h0.symm.trans h.1), Int.ofNat.inj (h1.symm.trans h.2.1), h.2.2⟩
    · exact ⟨h0.trans (congrArg Int.ofNat h.1), h1.trans (congrArg Int.ofNat h.2.1), h.2.2⟩
  by_cases h : (A (ix1 b)).toNat = r.val
  · rw [if_pos h]
    refine Routing.scatter_set_hit _ _ _ _ _ _ (fun k hk => ?_) (ix2 b e) ((hl _).2 ⟨rfl, h, rfl⟩)
    exact congrArg Tk (funext fun a => match a with | ⟨0, _⟩ => Fin.ext ((hl k).1 hk).2.2)
  · rw [if_neg h]
    refine Routing.scatter_set_miss _ _ _ _ _ fun k hk => h ?_
    have := (hl k).1 hk
    have e0 : k 0 = b := Fin.ext this.1
    rw [← e0]
    exact this.2.1

/-- The timestamps' scatter read at an entry. -/
theorem scatterT_at (T : S16x4097.Idx → α) (A : IVec S16 32) (U : S16.Idx → α) (hA : ∀ b, (A (ix1 b)).toNat < 4096)
    (b : Fin 16) (r : Fin 4097) :
    Host.scatter scatter_S16x4097_S16x2_S16_n_01_01_1 (fun _ b => b) T (tab A) U (ix2 b r)
      = if (A (ix1 b)).toNat = r.val then U (ix1 b) else T (ix2 b r) := by
  have hl : ∀ k : S16.Idx, scatter_S16x4097_S16x2_S16_n_01_01_1.resultIdx? k (tab A) = some (ix2 b r)
      ↔ (k 0).val = b.val ∧ (A (ix1 (k 0))).toNat = r.val := fun k => by
    have h0 := tab_zero_toInt A (k 0)
    have h1 := tab_one_toInt A (k 0) (hA _)
    refine (lands_ts (tab A) k (ix2 b r)).trans ⟨fun h => ?_, fun h => ?_⟩
    · exact ⟨Int.ofNat.inj (h0.symm.trans h.1), Int.ofNat.inj (h1.symm.trans h.2)⟩
    · exact ⟨h0.trans (congrArg Int.ofNat h.1), h1.trans (congrArg Int.ofNat h.2)⟩
  by_cases h : (A (ix1 b)).toNat = r.val
  · rw [if_pos h]
    refine Routing.scatter_set_hit _ _ _ _ _ _ (fun k hk => ?_) (ix1 b) ((hl _).2 ⟨rfl, h⟩)
    exact congrArg U (funext fun a => match a with | ⟨0, _⟩ => Fin.ext ((hl k).1 hk).1)
  · rw [if_neg h]
    refine Routing.scatter_set_miss _ _ _ _ _ fun k hk => h ?_
    have := (hl k).1 hk
    have e0 : k 0 = b := Fin.ext this.1
    rw [← e0]
    exact this.2

/-- A length below 4096, less one and not below zero. -/
theorem last_word (a : BitVec 32) (h : a.toNat < 4096) : IntOp.maxsi 0#32 (IntOp.subi a 1#32) = BitVec.ofNat 32 (a.toNat - 1) := by
  obtain ⟨k, hk⟩ : ∃ k : ℕ, a.toNat = k := ⟨_, rfl⟩
  have ea : a = BitVec.ofNat 32 k := BitVec.eq_of_toNat_eq (by rw [BitVec.toNat_ofNat]; omega)
  rw [hk] at h ⊢
  subst ea
  rcases Nat.eq_zero_or_pos k with rfl | hp
  · decide
  · have es : IntOp.subi (BitVec.ofNat 32 k) 1#32 = BitVec.ofNat 32 (k - 1) := by
      show BitVec.ofNat 32 k - 1#32 = _
      apply BitVec.eq_of_toNat_eq
      rw [BitVec.toNat_sub, BitVec.toNat_ofNat, BitVec.toNat_ofNat, BitVec.toNat_ofNat]
      omega
    rw [es]
    generalize hq : k - 1 = q
    have hq' : q < 4096 := by omega
    have hs : ¬ (BitVec.ofNat 32 q).slt 0#32 = true := by
      rw [BitVec.slt_eq_decide, decide_eq_true_eq, BitVec.toInt_eq_toNat_cond, BitVec.toInt_eq_toNat_cond, BitVec.toNat_ofNat, BitVec.toNat_ofNat]
      omega
    unfold IntOp.maxsi
    by_cases h0 : (BitVec.ofNat 32 q).slt 0#32 = true
    · exact absurd h0 hs
    · exact if_neg h0

/-- The column each sequence's timestamp is read at: the words jnp's wrap and clip leave. -/
def colT (A : IVec S16 32) : IVec S16x1 32 :=
  select (cmpi .slt (maxsi (broadcastInDim S16x1 ![] bcast_S_S16x1 (id (constantI S_ 32 0#32))) (subi (broadcastInDim S16x1 ![0] bcast_S16_S16x1_0 A) (broadcastInDim S16x1 ![] bcast_S_S16x1 (constantI S_ 32 1#32)))) (broadcastInDim S16x1 ![] bcast_S_S16x1 (constantI S_ 32 0#32)))
    (addi (maxsi (broadcastInDim S16x1 ![] bcast_S_S16x1 (id (constantI S_ 32 0#32))) (subi (broadcastInDim S16x1 ![0] bcast_S16_S16x1_0 A) (broadcastInDim S16x1 ![] bcast_S_S16x1 (constantI S_ 32 1#32)))) (broadcastInDim S16x1 ![] bcast_S_S16x1 (constantI S_ 32 4096#32)))
    (maxsi (broadcastInDim S16x1 ![] bcast_S_S16x1 (id (constantI S_ 32 0#32))) (subi (broadcastInDim S16x1 ![0] bcast_S16_S16x1_0 A) (broadcastInDim S16x1 ![] bcast_S_S16x1 (constantI S_ 32 1#32))))

theorem colT_at (A : IVec S16 32) (b : Fin 16) (hA : (A (ix1 b)).toNat < 4096) :
    colT A (ix2 b (0 : Fin 1)) = BitVec.ofNat 32 ((A (ix1 b)).toNat - 1) := by
  rw [← last_word _ hA]
  have e : ∀ w : BitVec 32, A (ix1 b) = w → colT A (ix2 b (0 : Fin 1))
      = Scalar.select (IntOp.cmpi .slt (IntOp.maxsi 0#32 (IntOp.subi w 1#32)) 0#32) (IntOp.maxsi 0#32 (IntOp.subi w 1#32) + 4096#32) (IntOp.maxsi 0#32 (IntOp.subi w 1#32)) := by
    intro w hw
    refine congrArg (fun w : BitVec 32 => Scalar.select (IntOp.cmpi .slt (IntOp.maxsi 0#32 (IntOp.subi w 1#32)) 0#32) (IntOp.maxsi 0#32 (IntOp.subi w 1#32) + 4096#32) (IntOp.maxsi 0#32 (IntOp.subi w 1#32)))
      ((congrArg A (funext fun a => ?_)).trans hw)
    match a with | ⟨0, _⟩ => rfl
  rw [e _ rfl]
  refine Routing.wrap_of_lt _ _ ?_
  rw [last_word _ hA, BitVec.toNat_ofNat]
  omega

/-- The same words as the gather takes them. -/
def idxT (A : IVec S16 32) : IVec S16x1x1 32 := shapeCast _ (colT A) shapeCasts_S16x1_S16x1x1

theorem idxT_at (A : IVec S16 32) (b : Fin 16) (hA : (A (ix1 b)).toNat < 4096) :
    idxT A (ix3 b (0 : Fin 1) (0 : Fin 1)) = BitVec.ofNat 32 ((A (ix1 b)).toNat - 1) := by
  rw [← colT_at A b hA]
  refine shapeCast_apply (colT A) _ _ _ ?_
  rw [Shape.rowMajor_val_two, Shape.rowMajor_val_three]
  show b.val * 1 + 0 = (b.val * 1 + 0) * 1 + 0
  omega

/-- Which of those words name a column. -/
def maskT (A : IVec S16 32) : IVec S16x1 1 :=
  Host.reduce IntOp.andi (andi (cmpi .sge (idxT A) (broadcastInDim S16x1x1 ![] bcast_S_S16x1x1 (constantI S_ 32 0#32))) (cmpi .sle (idxT A) (broadcastInDim S16x1x1 ![0, 1, 2] bcast_S1x1x1_S16x1x1_0_1_2 (broadcastInDim S1x1x1 ![2] bcast_S1_S1x1x1_2 (constantI S1 32 4095#32))))) (constantI S_ 1 1#1) reducesTo_S16x1x1_S16x1_d2 h_S_

theorem foldl_andi {β : Type} (x : β → BitVec 1) (hx : ∀ n, x n = 1#1) (l : List β) :
    l.foldl (fun r n => IntOp.andi r (x n)) 1#1 = 1#1 := by
  induction l with
  | nil => rfl
  | cons n l ih => rw [List.foldl_cons, hx n]; exact ih

theorem in_range (k : ℕ) (h : k < 4096) : IntOp.andi (IntOp.cmpi .sge (BitVec.ofNat 32 k) 0#32) (IntOp.cmpi .sle (BitVec.ofNat 32 k) 4095#32) = 1#1 := by
  have h1 : (0#32).sle (BitVec.ofNat 32 k) = true := by
    rw [BitVec.sle_eq_decide, decide_eq_true_eq, BitVec.toInt_eq_toNat_cond, BitVec.toInt_eq_toNat_cond, BitVec.toNat_ofNat, BitVec.toNat_ofNat]
    omega
  have h2 : (BitVec.ofNat 32 k).sle 4095#32 = true := by
    rw [BitVec.sle_eq_decide, decide_eq_true_eq, BitVec.toInt_eq_toNat_cond, BitVec.toInt_eq_toNat_cond, BitVec.toNat_ofNat, BitVec.toNat_ofNat]
    omega
  show IntOp.andi (BitVec.ofBool ((0#32).sle (BitVec.ofNat 32 k))) (BitVec.ofBool ((BitVec.ofNat 32 k).sle 4095#32)) = 1#1
  rw [h1, h2]
  decide

theorem maskT_at (A : IVec S16 32) (hA : ∀ b, (A (ix1 b)).toNat < 4096) (j : S16x1.Idx) : maskT A j = 1#1 := by
  unfold maskT Host.reduce
  refine foldl_andi _ (fun n => ?_) _
  generalize S16x1x1.rowMajor.symm n = i
  have ei : i = ix3 (i 0) (0 : Fin 1) (0 : Fin 1) := funext fun a => match a with
    | ⟨0, _⟩ => rfl | ⟨1, _⟩ => Fin.ext (by have : (i 1).val < 1 := (i 1).isLt; show (i 1).val = 0; omega)
    | ⟨2, _⟩ => Fin.ext (by have : (i 2).val < 1 := (i 2).isLt; show (i 2).val = 0; omega)
  have e : idxT A i = BitVec.ofNat 32 ((A (ix1 (i 0))).toNat - 1) := (congrArg (idxT A) ei).trans (idxT_at A (i 0) (hA _))
  show IntOp.andi (IntOp.cmpi .sge (idxT A i) 0#32) (IntOp.cmpi .sle (idxT A i) 4095#32) = 1#1
  rw [e]
  exact in_range _ (by have := hA (i 0); omega)

/-- The timestamp each sequence's update carries. -/
def updT (T : S16x4096.Idx → α) (A : IVec S16 32) (c : S16x1.Idx → α) : S16.Idx → α :=
  shapeCast _ (select (maskT A) (Host.gather gather_S16x4096_S16x1x1_S16x1_n_1_0_0_1_2_11 T (idxT A)) c) shapeCasts_S16x1_S16

theorem updT_at (T : S16x4096.Idx → α) (A : IVec S16 32) (c : S16x1.Idx → α) (hA : ∀ b, (A (ix1 b)).toNat < 4096) (b : Fin 16) :
    updT T A c (ix1 b) = T (ix2 b (⟨(A (ix1 b)).toNat - 1, by have := hA b; omega⟩ : Fin 4096)) := by
  unfold updT
  rw [Routing.cast21 (a := 16) (b := 1) _ _ b 0 b (by show b.val = b.val * 1 + 0; omega)]
  show Scalar.select (maskT A (ix2 b (0 : Fin 1))) _ _ = _
  rw [maskT_at A hA]
  refine gather_col T (idxT A) b _ ?_
  rw [idxT_at A b (hA b), BitVec.toInt_eq_toNat_cond, BitVec.toNat_ofNat]
  have := hA b
  show _ = (((A (ix1 b)).toNat - 1 : ℕ) : ℤ)
  omega

/-- The reference's third result. -/
def refT (T : S16x4096.Idx → α) (A : IVec S16 32) (c : S16x1.Idx → α) : S16x4097.Idx → α :=
  Host.scatter scatter_S16x4097_S16x2_S16_n_01_01_1 (fun _ b => b) (padT T) (tab A) (updT T A c)

theorem refT_at (T : S16x4096.Idx → α) (A : IVec S16 32) (c : S16x1.Idx → α) (hA : ∀ b, (A (ix1 b)).toNat < 4096) (b : Fin 16) (r : Fin 4097) :
    refT T A c (ix2 b r) = if (A (ix1 b)).toNat = r.val then T (ix2 b (⟨(A (ix1 b)).toNat - 1, by have := hA b; omega⟩ : Fin 4096)) else padT T (ix2 b r) := by
  unfold refT
  rw [scatterT_at _ A _ hA, updT_at T A c hA]

/-! ## The run's terms are these -/

variable {F : FTy → Type} [FloatOps F]

theorem res_main_v42_eq (m : (ℓ : Loc nD τ sig) → Buf (Elt F) ℓ) (c : Dev nD) :
    Value.res_main_v42 m c = refT (m ((c.tc : Thread nD τ).loc main_arg1)) (m ((c.tc : Thread nD τ).loc main_arg2))
      (broadcastInDim S16x1 ![] bcast_S_S16x1 (constant S_ .f32 0x7FC00000#32)) := by
  unfold Value.res_main_v42 refT updT maskT idxT colT padT tab
  rfl

end Cert.Proof.Ref

end
-- ==== Proof.Algebraic.lean ====
/-
  Over the reals, with every length below 4096, the program's results are the reference's.
-/
module

public import proofs.«01_k».proof.Proof.Frames
public import proofs.«01_k».proof.Proof.Hit
public import proofs.«01_k».proof.Proof.ParVal
public import proofs.«01_k».proof.Proof.PayVal
public import proofs.«01_k».proof.Proof.RefVal
public import Idealize.ShloMosaic.Lib.ReduceAll

@[expose] public section

set_option maxRecDepth 16384

noncomputable section

namespace Cert.Proof

open Cert.KernelIdeal Cert.KernelIdeal.Gen
open Idealize.ShloMosaic hiding ix1 ix2 ix3
open Idealize.ShloMosaic.TcCoe
open Idealize.ShloMosaic.ValueIdx (ix0 ix1 ix2 ix3)
open Idealize.SL.Sem

attribute [local instance] Cert.Kernel.Gen.facts Cert.ReferenceIdeal.Gen.facts Cert.Pre_pre.Gen.facts

/-- The precondition, read: every length is below 4096. -/
theorem lens_lt {F : FTy → Type} [FloatOps F] (X : FVec F S16x4096x1024 .f32) (T : FVec F S16x4096 .f32) (A : IVec S16 32) (Tk : FVec F S1024 .f32)
    (h : Cert.Pre_pre.fn X T A Tk = fun _ => 1#1) (b : Fin 16) : (A (ix1 b)).toNat < 4096 := by
  have key : ∀ v : BitVec 32, IntOp.andi (IntOp.cmpi .sge v 0#32) (IntOp.cmpi .slt v 4096#32) = 1#1 → v.toNat < 4096 := by
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  haveI : Subsingleton Cert.Pre_pre.S_.Idx := ⟨fun p q => funext fun a => a.elim0⟩
  exact key _ (Host.reduce_andi_all _ _ _ _ _ e (ix1 b))

section Any

variable {F : FTy → Type} [FloatOps F] (m : (ℓ : Loc nD τ sig) → Buf (Elt F) ℓ)

/-- The rows the tiles leave are the reference's first result. -/
theorem resX_eq (d : Dev nD) (hA : ∀ b : Fin 16, (lens m d (ix1 b)).toNat < 4096) :
    resX m d = Ref.refX (m ((d.tc : Thread nD τ).loc main_arg0)) (lens m d) (m ((d.tc : Thread nD τ).loc main_arg3)) := by
  funext j
  obtain ⟨b, r, e, rfl⟩ : ∃ (b : Fin 16) (r : Fin 4097) (e : Fin 1024), j = ix3 b r e :=
    ⟨j 0, j 1, j 2, funext fun a => match a with | ⟨0, _⟩ => rfl | ⟨1, _⟩ => rfl | ⟨2, _⟩ => rfl⟩
  rw [Ref.refX_at _ _ _ hA, Ref.padX_at]
  have hr := r.isLt
  have hv := hA b
  unfold resX resG
  by_cases h : r.val < 4096
  · rw [dif_pos (show ((ix3 b r e) 1).val < 4096 from h), dif_pos h]
    obtain ⟨L, hL⟩ : ∃ L, tileOf (ix3 b r e) = L := ⟨_, rfl⟩
    obtain ⟨h1, h0⟩ := (tileOf_iff _ _).1 hL
    change b.val = (L 1).val at h1
    change r.val < 2048 ↔ (L 0).val = 0 at h0
    have hL0 := L0_lt L
    have hw : wordAt (params m d) L = lens m d (ix1 b) := by
      unfold wordAt
      rw [params_eq]
      refine (parT_at (lens m d) ⟨2 * (L 1).val + (L 0).val, by omega⟩).trans ?_
      exact congrArg (fun q => lens m d (ix1 q)) (Fin.ext (by show (2 * (L 1).val + (L 0).val) / 2 = b.val; omega))
    have hh := hitAt_iff L (lens m d (ix1 b)) hv (r.val % 2048 / 32) (r.val % 32) (by omega) (by omega)
    have hh' : hitAt L (lens m d (ix1 b)) (r.val % 2048 / 32) (r.val % 32) ↔ (lens m d (ix1 b)).toNat = r.val := hh.trans (by omega)
    rw [hL, hw]
    change (if hitAt L (lens m d (ix1 b)) (r.val % 2048 / 32) (r.val % 32) then _ else _) = _
    by_cases hc : (lens m d (ix1 b)).toNat = r.val
    · rw [if_pos (hh'.2 hc), if_pos hc, tokRow_eq]
      exact Routing.cast12 (a := 1) (b := 1024) _ _ 0 e e (by show e.val = 0 * 1024 + e.val; omega)
    · rw [if_neg (fun q => hc (hh'.1 q)), if_neg hc]
  · rw [dif_neg (show ¬ ((ix3 b r e) 1).val < 4096 from h), dif_neg h, if_neg (by omega)]
    rfl

/-- The lengths result is the reference's second. -/
theorem newLen_eq (A : IVec S16 32) :
    newLen A = addi A (broadcastInDim S16 ![] Cert.ReferenceIdeal.Gen.facts.bcast_S_S16 (constantI Cert.ReferenceIdeal.S_ 32 1#32)) := rfl

end Any

/-- The signed maximum takes its operands in either order. -/
theorem maxsi_comm {w : ℕ} (x y : BitVec w) : IntOp.maxsi x y = IntOp.maxsi y x := by
  unfold IntOp.maxsi
  by_cases h1 : y.slt x = true <;> by_cases h2 : x.slt y = true
  · rw [BitVec.slt_eq_decide, decide_eq_true_eq] at h1 h2
    omega
  · rw [if_pos h1, if_neg h2]
  · rw [if_neg h1, if_pos h2]
  · rw [if_neg h1, if_neg h2]
    rw [BitVec.slt_eq_decide, decide_eq_true_eq] at h1 h2
    exact BitVec.eq_of_toInt_eq (by omega)

/-- The timestamps result is the reference's third. -/
theorem newTs_eq (A : IVec S16 32) (T : S16x4096.Idx → EReal) (c : Cert.ReferenceIdeal.S16x1.Idx → EReal)
    (hA : ∀ b : Fin 16, (A (ix1 b)).toNat < 4096) : newTs (F := Ideal) A T = Ref.refT T A c := by
  funext y
  obtain ⟨b, r, rfl⟩ : ∃ (b : Fin 16) (r : Fin 4097), y = ix2 b r :=
    ⟨y 0, y 1, funext fun a => match a with | ⟨0, _⟩ => rfl | ⟨1, _⟩ => rfl⟩
  rw [Ref.refT_at T A c hA, Ref.padT_at]
  have hv := hA b
  unfold newTs
  by_cases h : r.val < 4096
  · rw [dif_pos (show ((ix2 b r) 1).val < 4096 from h), dif_pos h]
    refine (pay1_at (A (ix1 b)) (fun x : S1x4096.Idx => T (ix2 (n0 := 16) (n1 := 4096) b (x 1))) ⟨r.val, h⟩).trans ?_
    have hi := iota_eq_iff (A (ix1 b)).toNat r.val (by omega) (by omega)
    rw [BitVec.ofNat_toNat, BitVec.setWidth_eq] at hi
    by_cases hc : (A (ix1 b)).toNat = r.val
    · rw [if_pos hc, hi.2 hc.symm, maxsi_comm, Ref.last_word _ hv]
      exact pickF_eq ⟨(A (ix1 b)).toNat - 1, by omega⟩ _
    · rw [if_neg hc, eq_zero_of_ne_one fun q => hc (hi.1 q).symm]
      rfl
  · rw [dif_neg (show ¬ ((ix2 b r) 1).val < 4096 from h), dif_neg h, if_neg (by have := r.isLt; omega)]

/-- The values agree. -/
theorem algebraic : Cert.algebraic_KernelIdeal_ReferenceIdeal_pre_pre := by
  intro m g m' g' hpre hargs
  have hA : ∀ (c : Dev nD) (b : Fin 16), (lens m c (ix1 b)).toNat < 4096 := fun c b => lens_lt _ _ _ _ (hpre c) b
  refine ⟨fun c => resX m c, fun c => newLen (lens m c), fun c => newTs (F := Ideal) (lens m c) (stamps m c), fun c => newLen (lens m c),
    (θ_run (Cert.KernelIdeal.defs (F := Ideal)) _ _).mono (fun _ h c => ?_) (run_main (F := Ideal) m g),
    (θ_run (Cert.ReferenceIdeal.defs (F := Ideal)) _ _).mono (fun _ h c => ?_) (Cert.ReferenceIdeal.Value.run m' g')⟩
  · obtain ⟨a0, a1, a2, a3, r0, r2, r1⟩ := h.1 c
    exact ⟨r0, r1, r2, r1, a0, a1, a2, a3⟩
  · obtain ⟨e0, e1, e2, e3⟩ := hargs c
    obtain ⟨r0, r1, r2, _, a0, a1, a2, a3⟩ := h c
    have q0 := resX_eq m c (hA c)
    have q2 := newTs_eq (lens m c) (stamps m c) (broadcastInDim Cert.ReferenceIdeal.S16x1 ![] Cert.ReferenceIdeal.Gen.facts.bcast_S_S16x1 (constant (F := Ideal) Cert.ReferenceIdeal.S_ .f32 0x7FC00000#32)) (hA c)
    have r1' := r1.trans (congrArg (fun A : IVec S16 32 => addi A (broadcastInDim S16 ![] Cert.ReferenceIdeal.Gen.facts.bcast_S_S16 (constantI Cert.ReferenceIdeal.S_ 32 1#32))) e2)
    refine ⟨?_, r1', ?_, r1', a0, a1, a2, a3⟩
    · refine r0.trans ?_
      rw [e0, e2, e3]
      exact q0.symm
    · refine r2.trans ((Ref.res_main_v42_eq m' c).trans ?_)
      rw [e1, e2]
      exact q2.symm

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_pre
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed, each part a theorem of the modules imported. -/
theorem claim : Cert.Claim :=
  ⟨Cert.Kernel.Gen.facts, Cert.KernelIdeal.Gen.facts, Cert.ReferenceIdeal.Gen.facts, Cert.Pre_pre.Gen.facts,
    frame_kernel, frame_kernelIdeal, frame_kernelIdeal_pre, frame_reference, frame_reference_pre, trivial, algebraic⟩

end Cert.Proof

end
